-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_pre [hPre_attn_pre : Cert.Pre_attn_pre.Facts] (m : (ℓ : Loc Cert.AttnIdeal.nD Cert.AttnIdeal.τ Cert.AttnIdeal.sig) → Buf (Elt Ideal) ℓ) : Prop :=
  ∀ c : Dev Cert.AttnIdeal.nD,
    (Cert.Pre_attn_pre.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_attn_pre.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.1 = (fun _ => 1#1)
    ∧ (Cert.Pre_attn_pre.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_pre [hPre_attn_pre : Cert.Pre_attn_pre.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_pre.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_attn_pre.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.1 = (fun _ => 1#1)
    ∧ (Cert.Pre_attn_pre.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojIdeal_outproj_pre [hPre_outproj_pre : Cert.Pre_outproj_pre.Facts] (m : (ℓ : Loc Cert.OutprojIdeal.nD Cert.OutprojIdeal.τ Cert.OutprojIdeal.sig) → Buf (Elt Ideal) ℓ) : Prop :=
  ∀ c : Dev Cert.OutprojIdeal.nD,
    (Cert.Pre_outproj_pre.fn (F := Ideal) (m ((c.tc : Thread Cert.OutprojIdeal.nD Cert.OutprojIdeal.τ).loc Cert.OutprojIdeal.main_arg0)) (m ((c.tc : Thread Cert.OutprojIdeal.nD Cert.OutprojIdeal.τ).loc Cert.OutprojIdeal.main_arg1)) (m ((c.tc : Thread Cert.OutprojIdeal.nD Cert.OutprojIdeal.τ).loc Cert.OutprojIdeal.main_arg2)) (m ((c.tc : Thread Cert.OutprojIdeal.nD Cert.OutprojIdeal.τ).loc Cert.OutprojIdeal.main_arg3)) (m ((c.tc : Thread Cert.OutprojIdeal.nD Cert.OutprojIdeal.τ).loc Cert.OutprojIdeal.main_arg4)) (m ((c.tc : Thread Cert.OutprojIdeal.nD Cert.OutprojIdeal.τ).loc Cert.OutprojIdeal.main_arg5)) (m ((c.tc : Thread Cert.OutprojIdeal.nD Cert.OutprojIdeal.τ).loc Cert.OutprojIdeal.main_arg6)) (m ((c.tc : Thread Cert.OutprojIdeal.nD Cert.OutprojIdeal.τ).loc Cert.OutprojIdeal.main_arg7))).1 = (fun _ => 1#1)
    ∧ (Cert.Pre_outproj_pre.fn (F := Ideal) (m ((c.tc : Thread Cert.OutprojIdeal.nD Cert.OutprojIdeal.τ).loc Cert.OutprojIdeal.main_arg0)) (m ((c.tc : Thread Cert.OutprojIdeal.nD Cert.OutprojIdeal.τ).loc Cert.OutprojIdeal.main_arg1)) (m ((c.tc : Thread Cert.OutprojIdeal.nD Cert.OutprojIdeal.τ).loc Cert.OutprojIdeal.main_arg2)) (m ((c.tc : Thread Cert.OutprojIdeal.nD Cert.OutprojIdeal.τ).loc Cert.OutprojIdeal.main_arg3)) (m ((c.tc : Thread Cert.OutprojIdeal.nD Cert.OutprojIdeal.τ).loc Cert.OutprojIdeal.main_arg4)) (m ((c.tc : Thread Cert.OutprojIdeal.nD Cert.OutprojIdeal.τ).loc Cert.OutprojIdeal.main_arg5)) (m ((c.tc : Thread Cert.OutprojIdeal.nD Cert.OutprojIdeal.τ).loc Cert.OutprojIdeal.main_arg6)) (m ((c.tc : Thread Cert.OutprojIdeal.nD Cert.OutprojIdeal.τ).loc Cert.OutprojIdeal.main_arg7))).2 = (fun _ => 1#1)

def Pre_OutprojRefIdeal (m : (ℓ : Loc Cert.OutprojRefIdeal.nD Cert.OutprojRefIdeal.τ Cert.OutprojRefIdeal.sig) → Buf (Elt Ideal) ℓ) : Prop :=
  True

def Pre_OutprojRefIdeal_outproj_pre [hPre_outproj_pre : Cert.Pre_outproj_pre.Facts] (m : (ℓ : Loc Cert.OutprojRefIdeal.nD Cert.OutprojRefIdeal.τ Cert.OutprojRefIdeal.sig) → Buf (Elt Ideal) ℓ) : Prop :=
  ∀ c : Dev Cert.OutprojRefIdeal.nD,
    (Cert.Pre_outproj_pre.fn (F := Ideal) (m ((c.tc : Thread Cert.OutprojRefIdeal.nD Cert.OutprojRefIdeal.τ).loc Cert.OutprojRefIdeal.main_arg0)) (m ((c.tc : Thread Cert.OutprojRefIdeal.nD Cert.OutprojRefIdeal.τ).loc Cert.OutprojRefIdeal.main_arg1)) (m ((c.tc : Thread Cert.OutprojRefIdeal.nD Cert.OutprojRefIdeal.τ).loc Cert.OutprojRefIdeal.main_arg2)) (m ((c.tc : Thread Cert.OutprojRefIdeal.nD Cert.OutprojRefIdeal.τ).loc Cert.OutprojRefIdeal.main_arg3)) (m ((c.tc : Thread Cert.OutprojRefIdeal.nD Cert.OutprojRefIdeal.τ).loc Cert.OutprojRefIdeal.main_arg4)) (m ((c.tc : Thread Cert.OutprojRefIdeal.nD Cert.OutprojRefIdeal.τ).loc Cert.OutprojRefIdeal.main_arg5)) (m ((c.tc : Thread Cert.OutprojRefIdeal.nD Cert.OutprojRefIdeal.τ).loc Cert.OutprojRefIdeal.main_arg6)) (m ((c.tc : Thread Cert.OutprojRefIdeal.nD Cert.OutprojRefIdeal.τ).loc Cert.OutprojRefIdeal.main_arg7))).1 = (fun _ => 1#1)
    ∧ (Cert.Pre_outproj_pre.fn (F := Ideal) (m ((c.tc : Thread Cert.OutprojRefIdeal.nD Cert.OutprojRefIdeal.τ).loc Cert.OutprojRefIdeal.main_arg0)) (m ((c.tc : Thread Cert.OutprojRefIdeal.nD Cert.OutprojRefIdeal.τ).loc Cert.OutprojRefIdeal.main_arg1)) (m ((c.tc : Thread Cert.OutprojRefIdeal.nD Cert.OutprojRefIdeal.τ).loc Cert.OutprojRefIdeal.main_arg2)) (m ((c.tc : Thread Cert.OutprojRefIdeal.nD Cert.OutprojRefIdeal.τ).loc Cert.OutprojRefIdeal.main_arg3)) (m ((c.tc : Thread Cert.OutprojRefIdeal.nD Cert.OutprojRefIdeal.τ).loc Cert.OutprojRefIdeal.main_arg4)) (m ((c.tc : Thread Cert.OutprojRefIdeal.nD Cert.OutprojRefIdeal.τ).loc Cert.OutprojRefIdeal.main_arg5)) (m ((c.tc : Thread Cert.OutprojRefIdeal.nD Cert.OutprojRefIdeal.τ).loc Cert.OutprojRefIdeal.main_arg6)) (m ((c.tc : Thread Cert.OutprojRefIdeal.nD Cert.OutprojRefIdeal.τ).loc Cert.OutprojRefIdeal.main_arg7))).2 = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_attn_pre [hAttnIdeal : Cert.AttnIdeal.Facts] [hPre_attn_pre : Cert.Pre_attn_pre.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_pre m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_attn_pre [hAttnRefIdeal : Cert.AttnRefIdeal.Facts] [hPre_attn_pre : Cert.Pre_attn_pre.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_pre m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7))
      ∧ r.2.sem = fun _ => 0)

def quiescent_OutprojIdeal_pre_outproj_pre [hOutprojIdeal : Cert.OutprojIdeal.Facts] [hPre_outproj_pre : Cert.Pre_outproj_pre.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal_outproj_pre m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6)
      ∧ r.2.mem ((c.tc : Thread Cert.OutprojRefIdeal.nD Cert.OutprojRefIdeal.τ).loc Cert.OutprojRefIdeal.main_arg7) = m ((c.tc : Thread Cert.OutprojRefIdeal.nD Cert.OutprojRefIdeal.τ).loc Cert.OutprojRefIdeal.main_arg7))
      ∧ r.2.sem = fun _ => 0)

def quiescent_OutprojRefIdeal_pre_outproj_pre [hOutprojRefIdeal : Cert.OutprojRefIdeal.Facts] [hPre_outproj_pre : Cert.Pre_outproj_pre.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal_outproj_pre m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6)
      ∧ r.2.mem ((c.tc : Thread Cert.OutprojRefIdeal.nD Cert.OutprojRefIdeal.τ).loc Cert.OutprojRefIdeal.main_arg7) = m ((c.tc : Thread Cert.OutprojRefIdeal.nD Cert.OutprojRefIdeal.τ).loc Cert.OutprojRefIdeal.main_arg7))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4))
      ∧ r.2.sem = fun _ => 0)

def preserves_Attn_AttnIdeal : Prop :=
  True

def algebraic_AttnIdeal_AttnRefIdeal_pre_attn_pre [hAttnIdeal : Cert.AttnIdeal.Facts] [hAttnRefIdeal : Cert.AttnRefIdeal.Facts] [hPre_attn_pre : Cert.Pre_attn_pre.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_pre m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v27) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v11) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v23)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v23) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v34) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v15) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_Outproj_OutprojIdeal : Prop :=
  True

def algebraic_OutprojIdeal_OutprojRefIdeal_pre_outproj_pre [hOutprojIdeal : Cert.OutprojIdeal.Facts] [hOutprojRefIdeal : Cert.OutprojRefIdeal.Facts] [hPre_outproj_pre : Cert.Pre_outproj_pre.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal_outproj_pre m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)
      ∧ m' ((c.tc : Thread Cert.OutprojRefIdeal.nD Cert.OutprojRefIdeal.τ).loc Cert.OutprojRefIdeal.main_arg7) = m ((c.tc : Thread Cert.OutprojIdeal.nD Cert.OutprojIdeal.τ).loc Cert.OutprojIdeal.main_arg7)) →
    ∃ (v0 : (c : Dev Cert.OutprojIdeal.nD) → Buf (Elt Ideal) ((c.tc : Thread Cert.OutprojIdeal.nD Cert.OutprojIdeal.τ).loc Cert.OutprojIdeal.main_v15_0)) (v1 : (c : Dev Cert.OutprojIdeal.nD) → Buf (Elt Ideal) ((c.tc : Thread Cert.OutprojIdeal.nD Cert.OutprojIdeal.τ).loc Cert.OutprojIdeal.main_v15_1)) (v2 : (c : Dev Cert.OutprojIdeal.nD) → Buf (Elt Ideal) ((c.tc : Thread Cert.OutprojIdeal.nD Cert.OutprojIdeal.τ).loc Cert.OutprojIdeal.main_v15_2)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v15_0) = v0 c
          ∧ r.2.mem ((c.tc : Thread Cert.OutprojIdeal.nD Cert.OutprojIdeal.τ).loc Cert.OutprojIdeal.main_v15_1) = v1 c
          ∧ r.2.mem ((c.tc : Thread Cert.OutprojIdeal.nD Cert.OutprojIdeal.τ).loc Cert.OutprojIdeal.main_v15_2) = v2 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v36) = v0 c
          ∧ r.2.mem ((c.tc : Thread Cert.OutprojRefIdeal.nD Cert.OutprojRefIdeal.τ).loc Cert.OutprojRefIdeal.main_v38) = v1 c
          ∧ r.2.mem ((c.tc : Thread Cert.OutprojRefIdeal.nD Cert.OutprojRefIdeal.τ).loc Cert.OutprojRefIdeal.main_v39) = v2 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6)
          ∧ r.2.mem ((c.tc : Thread Cert.OutprojRefIdeal.nD Cert.OutprojRefIdeal.τ).loc Cert.OutprojRefIdeal.main_arg7) = m' ((c.tc : Thread Cert.OutprojRefIdeal.nD Cert.OutprojRefIdeal.τ).loc Cert.OutprojRefIdeal.main_arg7))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)) →
    ∃ (v0 : (c : Dev Cert.PrepIdeal.nD) → Buf (Elt Ideal) ((c.tc : Thread Cert.PrepIdeal.nD Cert.PrepIdeal.τ).loc Cert.PrepIdeal.main_v114_0)) (v1 : (c : Dev Cert.PrepIdeal.nD) → Buf (Elt Ideal) ((c.tc : Thread Cert.PrepIdeal.nD Cert.PrepIdeal.τ).loc Cert.PrepIdeal.main_v114_1)) (v2 : (c : Dev Cert.PrepIdeal.nD) → Buf (Elt Ideal) ((c.tc : Thread Cert.PrepIdeal.nD Cert.PrepIdeal.τ).loc Cert.PrepIdeal.main_v114_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v114_0) = v0 c
          ∧ r.2.mem ((c.tc : Thread Cert.PrepIdeal.nD Cert.PrepIdeal.τ).loc Cert.PrepIdeal.main_v114_1) = v1 c
          ∧ r.2.mem ((c.tc : Thread Cert.PrepIdeal.nD Cert.PrepIdeal.τ).loc Cert.PrepIdeal.main_v114_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v133) = v0 c
          ∧ r.2.mem ((c.tc : Thread Cert.PrepRefIdeal.nD Cert.PrepRefIdeal.τ).loc Cert.PrepRefIdeal.main_v136) = v1 c
          ∧ r.2.mem ((c.tc : Thread Cert.PrepRefIdeal.nD Cert.PrepRefIdeal.τ).loc Cert.PrepRefIdeal.main_v139) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hNorm : Cert.Norm.Facts) (hNormIdeal : Cert.NormIdeal.Facts) (hNormRefIdeal : Cert.NormRefIdeal.Facts) (hOutproj : Cert.Outproj.Facts) (hOutprojIdeal : Cert.OutprojIdeal.Facts) (hOutprojRefIdeal : Cert.OutprojRefIdeal.Facts) (hPrep : Cert.Prep.Facts) (hPrepIdeal : Cert.PrepIdeal.Facts) (hPrepRefIdeal : Cert.PrepRefIdeal.Facts) (hPre_attn_pre : Cert.Pre_attn_pre.Facts) (hPre_outproj_pre : Cert.Pre_outproj_pre.Facts),
    quiescent_Attn (hAttn := hAttn)
    ∧ quiescent_AttnIdeal (hAttnIdeal := hAttnIdeal)
    ∧ quiescent_AttnIdeal_pre_attn_pre (hAttnIdeal := hAttnIdeal) (hPre_attn_pre := hPre_attn_pre)
    ∧ quiescent_AttnRefIdeal (hAttnRefIdeal := hAttnRefIdeal)
    ∧ quiescent_AttnRefIdeal_pre_attn_pre (hAttnRefIdeal := hAttnRefIdeal) (hPre_attn_pre := hPre_attn_pre)
    ∧ quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Norm (hNorm := hNorm)
    ∧ quiescent_NormIdeal (hNormIdeal := hNormIdeal)
    ∧ quiescent_NormRefIdeal (hNormRefIdeal := hNormRefIdeal)
    ∧ quiescent_Outproj (hOutproj := hOutproj)
    ∧ quiescent_OutprojIdeal (hOutprojIdeal := hOutprojIdeal)
    ∧ quiescent_OutprojIdeal_pre_outproj_pre (hOutprojIdeal := hOutprojIdeal) (hPre_outproj_pre := hPre_outproj_pre)
    ∧ quiescent_OutprojRefIdeal (hOutprojRefIdeal := hOutprojRefIdeal)
    ∧ quiescent_OutprojRefIdeal_pre_outproj_pre (hOutprojRefIdeal := hOutprojRefIdeal) (hPre_outproj_pre := hPre_outproj_pre)
    ∧ quiescent_Prep (hPrep := hPrep)
    ∧ quiescent_PrepIdeal (hPrepIdeal := hPrepIdeal)
    ∧ quiescent_PrepRefIdeal (hPrepRefIdeal := hPrepRefIdeal)
    ∧ preserves_Attn_AttnIdeal
    ∧ algebraic_AttnIdeal_AttnRefIdeal_pre_attn_pre (hAttnIdeal := hAttnIdeal) (hAttnRefIdeal := hAttnRefIdeal) (hPre_attn_pre := hPre_attn_pre)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal (hInprojIdeal := hInprojIdeal) (hInprojRefIdeal := hInprojRefIdeal)
    ∧ preserves_Norm_NormIdeal
    ∧ algebraic_NormIdeal_NormRefIdeal (hNormIdeal := hNormIdeal) (hNormRefIdeal := hNormRefIdeal)
    ∧ preserves_Outproj_OutprojIdeal
    ∧ algebraic_OutprojIdeal_OutprojRefIdeal_pre_outproj_pre (hOutprojIdeal := hOutprojIdeal) (hOutprojRefIdeal := hOutprojRefIdeal) (hPre_outproj_pre := hPre_outproj_pre)
    ∧ preserves_Prep_PrepIdeal
    ∧ algebraic_PrepIdeal_PrepRefIdeal (hPrepIdeal := hPrepIdeal) (hPrepRefIdeal := hPrepRefIdeal)
-- ==== Pre_attn_pre.lean ====
abbrev S4x4096x512 : Shape := ⟨3, ![4, 4096, 512]⟩
abbrev S4x4096x4x128 : Shape := ⟨4, ![4, 4096, 4, 128]⟩
abbrev S4x4x4096x128 : Shape := ⟨4, ![4, 4, 4096, 128]⟩
abbrev S4x4x4096x64 : Shape := ⟨4, ![4, 4, 4096, 64]⟩
abbrev S_ : Shape := ⟨0, ![]⟩

class Facts : Prop where
  bitsLt_bf16_f32 : FTy.bits .bf16 < FTy.bits .f32
  shapeCasts_S4x4096x512_S4x4096x4x128 : S4x4096x512.ShapeCasts S4x4096x4x128
  transposes_S4x4096x4x128_S4x4x4096x128_0_2_1_3 : S4x4096x4x128.Transposes [0, 2, 1, 3] S4x4x4096x128
  slices_S4x4x4096x128_S4x4x4096x64_0_0_0_64 : S4x4x4096x128.Slices ![0, 0, 0, 64] S4x4x4096x64
  bcast_S_S4x4096x512 : S_.BroadcastsInDim S4x4096x512 (![] : Fin 0 → Fin S4x4096x512.rank)
  bcast_S_S4x4x4096x64 : S_.BroadcastsInDim S4x4x4096x64 (![] : Fin 0 → Fin S4x4x4096x64.rank)

variable [Facts]

def fn {F : FTy → Type} [FloatOps F] (main_arg0 : FVec F S4x4096x512 .bf16) (main_arg1 : FVec F S4x4096x512 .bf16) (main_arg2 : FVec F S4x4096x512 .bf16) : IVec S4x4096x512 1 × IVec S4x4096x512 1 × IVec S4x4x4096x64 1 :=
  let main_v0 : FVec F S4x4096x512 .f32 := (extf .f32 · bitsLt_bf16_f32) main_arg2
  let main_v1 : FVec F S4x4096x4x128 .f32 := shapeCast S4x4096x4x128 main_v0 shapeCasts_S4x4096x512_S4x4096x4x128
  let main_v2 : FVec F S4x4x4096x128 .f32 := (transpose S4x4x4096x128 [0, 2, 1, 3] · transposes_S4x4096x4x128_S4x4x4096x128_0_2_1_3) main_v1
  let main_v3 : FVec F S4x4x4096x64 .f32 := (extractStridedSlice S4x4x4096x64 ![0, 0, 0, 64] · slices_S4x4x4096x128_S4x4x4096x64_0_0_0_64) main_v2
  let main_v4 : FVec F S4x4096x512 .f32 := (extf .f32 · bitsLt_bf16_f32) main_arg0
  let main_v5 : FVec F S4x4096x512 .f32 := Host.absf main_v4
  let main_cst : FVec F S_ .f32 := constant S_ .f32 0x7F800000#32
  let main_v6 : FVec F S4x4096x512 .f32 := broadcastInDim S4x4096x512 ![] bcast_S_S4x4096x512 main_cst
  let main_v7 : IVec S4x4096x512 1 := cmpf .olt main_v5 main_v6
  let main_v8 : FVec F S4x4096x512 .f32 := (extf .f32 · bitsLt_bf16_f32) main_arg1
  let main_v9 : FVec F S4x4096x512 .f32 := Host.absf main_v8
  let main_cst_0 : FVec F S_ .f32 := constant S_ .f32 0x7F800000#32
  let main_v10 : FVec F S4x4096x512 .f32 := broadcastInDim S4x4096x512 ![] bcast_S_S4x4096x512 main_cst_0
  let main_v11 : IVec S4x4096x512 1 := cmpf .olt main_v9 main_v10
  let main_cst_1 : FVec F S_ .f32 := constant S_ .f32 0x3F800000#32
  let main_v12 : FVec F S4x4x4096x64 .f32 := broadcastInDim S4x4x4096x64 ![] bcast_S_S4x4x4096x64 main_cst_1
  let main_v13 : IVec S4x4x4096x64 1 := cmpf .oeq main_v3 main_v12
  (main_v7, main_v11, main_v13)
-- ==== Pre_outproj_pre.lean ====
abbrev S4x4096x1024 : Shape := ⟨3, ![4, 4096, 1024]⟩
abbrev S4x4096x256 : Shape := ⟨3, ![4, 4096, 256]⟩
abbrev S2x1024x1024 : Shape := ⟨3, ![2, 1024, 1024]⟩
abbrev S2x1024 : Shape := ⟨2, ![2, 1024]⟩
abbrev S2x1024x16 : Shape := ⟨3, ![2, 1024, 16]⟩
abbrev S1x1024 : Shape := ⟨2, ![1, 1024]⟩
abbrev S1024 : Shape := ⟨1, ![1024]⟩
abbrev S_ : Shape := ⟨0, ![]⟩
abbrev S1x1024x16 : Shape := ⟨3, ![1, 1024, 16]⟩
abbrev S1024x16 : Shape := ⟨2, ![1024, 16]⟩

class Facts : Prop where
  slices_S2x1024_S1x1024_0_0 : S2x1024.Slices ![0, 0] S1x1024
  shapeCasts_S1x1024_S1024 : S1x1024.ShapeCasts S1024
  bcast_S_S1024 : S_.BroadcastsInDim S1024 (![] : Fin 0 → Fin S1024.rank)
  slices_S2x1024x16_S1x1024x16_0_0_0 : S2x1024x16.Slices ![0, 0, 0] S1x1024x16
  shapeCasts_S1x1024x16_S1024x16 : S1x1024x16.ShapeCasts S1024x16
  bcast_S_S1024x16 : S_.BroadcastsInDim S1024x16 (![] : Fin 0 → Fin S1024x16.rank)

variable [Facts]

def fn {F : FTy → Type} [FloatOps F] (main_arg0 : FVec F S4x4096x1024 .f32) (main_arg1 : FVec F S4x4096x256 .f32) (main_arg2 : FVec F S4x4096x256 .f32) (main_arg3 : FVec F S4x4096x256 .f32) (main_arg4 : FVec F S4x4096x256 .f32) (main_arg5 : FVec F S2x1024x1024 .f32) (main_arg6 : FVec F S2x1024 .f32) (main_arg7 : FVec F S2x1024x16 .f32) : IVec S1024 1 × IVec S1024x16 1 :=
  let main_v0 : FVec F S1x1024 .f32 := (extractStridedSlice S1x1024 ![0, 0] · slices_S2x1024_S1x1024_0_0) main_arg6
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_v5 : FVec F S1x1024x16 .f32 := (extractStridedSlice S1x1024x16 ![0, 0, 0] · slices_S2x1024x16_S1x1024x16_0_0_0) main_arg7
  let main_v6 : FVec F S1024x16 .f32 := shapeCast S1024x16 main_v5 shapeCasts_S1x1024x16_S1024x16
  let main_v7 : FVec F S1024x16 .f32 := Host.absf main_v6
  let main_cst_0 : FVec F S_ .f32 := constant S_ .f32 0x7F800000#32
  let main_v8 : FVec F S1024x16 .f32 := broadcastInDim S1024x16 ![] bcast_S_S1024x16 main_cst_0
  let main_v9 : IVec S1024x16 1 := cmpf .olt main_v7 main_v8
  (main_v4, main_v9)
-- ==== Attn.lean ====
abbrev S4x4096x512 : Shape := ⟨3, ![4, 4096, 512]⟩
abbrev S4x4096x256 : Shape := ⟨3, ![4, 4096, 256]⟩
abbrev S1x512x512 : Shape := ⟨3, ![1, 512, 512]⟩
abbrev S1x512x256 : Shape := ⟨3, ![1, 512, 256]⟩
abbrev S4x512x128 : Shape := ⟨3, ![4, 512, 128]⟩
abbrev S1x512x128 : Shape := ⟨3, ![1, 512, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S512x64 : Shape := ⟨2, ![512, 64]⟩
abbrev S512x256 : Shape := ⟨2, ![512, 256]⟩

abbrev nBuf : Space → Nat
  | .hbm => 4
  | .vmem => 10
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x512, .bf16⟩
  | .hbm, ⟨3, _⟩ => ⟨S4x4096x256, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x256, .f32⟩
  | .local _ .vmem, ⟨7, _⟩ => ⟨S1x512x256, .f32⟩
  | .local _ .vmem, ⟨8, _⟩ => ⟨S4x512x128, .f32⟩
  | .local _ .vmem, ⟨9, _⟩ => ⟨S4x512x128, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg2 : BitVec 32 := BitVec.ofNat 32 (i 2).val
  let c7_i32 : BitVec 32 := 7#32
  let v127 : BitVec 1 := Scalar.cmpi .eq arg2 c7_i32
  let v128 : BitVec 32 := Scalar.extui v127
  let c0_i32_89 : BitVec 32 := 0#32
  let v129 : BitVec 1 := Scalar.cmpi .ne v128 c0_i32_89
  v129

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AttnRefIdeal.lean ====
abbrev S4x4096x512 : Shape := ⟨3, ![4, 4096, 512]⟩
abbrev S_ : Shape := ⟨0, ![]⟩
abbrev S4x4096x4x128 : Shape := ⟨4, ![4, 4096, 4, 128]⟩
abbrev S4x4x4096x128 : Shape := ⟨4, ![4, 4, 4096, 128]⟩
abbrev S4x4x4096x64 : Shape := ⟨4, ![4, 4, 4096, 64]⟩
abbrev S4x4x4096x4096 : Shape := ⟨4, ![4, 4, 4096, 4096]⟩
abbrev S4x4x4096 : Shape := ⟨3, ![4, 4, 4096]⟩
abbrev S4x4x4096x1 : Shape := ⟨4, ![4, 4, 4096, 1]⟩
abbrev S4x4096x4x64 : Shape := ⟨4, ![4, 4096, 4, 64]⟩
abbrev S4x4096x256 : Shape := ⟨3, ![4, 4096, 256]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x512, .bf16⟩
  | .hbm, ⟨3, _⟩ => ⟨S_, .f32⟩
  | .hbm, ⟨4, _⟩ => ⟨S_, .f32⟩
  | .hbm, ⟨5, _⟩ => ⟨S4x4096x512, .f32⟩
  | .hbm, ⟨6, _⟩ => ⟨S4x4096x4x128, .f32⟩
  | .hbm, ⟨7, _⟩ => ⟨S4x4x4096x128, .f32⟩
  | .hbm, ⟨8, _⟩ => ⟨S4x4096x512, .f32⟩
  | .hbm, ⟨9, _⟩ => ⟨S4x4096x4x128, .f32⟩
  | .hbm, ⟨10, _⟩ => ⟨S4x4x4096x128, .f32⟩
  | .hbm, ⟨11, _⟩ => ⟨S4x4096x512, .f32⟩
  | .hbm, ⟨12, _⟩ => ⟨S4x4096x4x128, .f32⟩
  | .hbm, ⟨13, _⟩ => ⟨S4x4x4096x128, .f32⟩
  | .hbm, ⟨14, _⟩ => ⟨S4x4x4096x64, .f32⟩
  | .hbm, ⟨15, _⟩ => ⟨S4x4x4096x4096, .f32⟩
  | .hbm, ⟨16, _⟩ => ⟨S4x4x4096x4096, .f32⟩
  | .hbm, ⟨17, _⟩ => ⟨S4x4x4096x4096, .f32⟩
  | .hbm, ⟨18, _⟩ => ⟨S_, .f32⟩
  | .hbm, ⟨19, _⟩ => ⟨S4x4x4096, .f32⟩
  | .hbm, ⟨20, _⟩ => ⟨S_, .f32⟩
  | .hbm, ⟨21, _⟩ => ⟨S4x4x4096, .f32⟩
  | .hbm, ⟨22, _⟩ => ⟨S4x4x4096, .f32⟩
  | .hbm, ⟨23, _⟩ => ⟨S4x4x4096x1, .f32⟩
  | .hbm, ⟨24, _⟩ => ⟨S4x4x4096x4096, .f32⟩
  | .hbm, ⟨25, _⟩ => ⟨S4x4x4096x4096, .f32⟩
  | .hbm, ⟨26, _⟩ => ⟨S4x4x4096x4096, .f32⟩
  | .hbm, ⟨27, _⟩ => ⟨S_, .f32⟩
  | .hbm, ⟨28, _⟩ => ⟨S4x4x4096, .f32⟩
  | .hbm, ⟨29, _⟩ => ⟨S4x4x4096x1, .f32⟩
  | .hbm, ⟨30, _⟩ => ⟨S4x4x4096x4096, .f32⟩
  | .hbm, ⟨31, _⟩ => ⟨S4x4x4096x4096, .f32⟩
  | .hbm, ⟨32, _⟩ => ⟨S4x4x4096x64, .f32⟩
  | .hbm, ⟨33, _⟩ => ⟨S4x4096x4x64, .f32⟩
  | .hbm, ⟨34, _⟩ => ⟨S4x4096x256, .f32⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Ffn.lean ====
abbrev S16x2048x1024 : Shape := ⟨3, ![16, 2048, 1024]⟩
abbrev S2x16x1024x2048 : Shape := ⟨4, ![2, 16, 1024, 2048]⟩
abbrev S2x16x2048x1024 : Shape := ⟨4, ![2, 16, 2048, 1024]⟩
abbrev S1x2048x1024 : Shape := ⟨3, ![1, 2048, 1024]⟩
abbrev S1x1x1024x512 : Shape := ⟨4, ![1, 1, 1024, 512]⟩
abbrev S1x1x512x1024 : Shape := ⟨4, ![1, 1, 512, 1024]⟩
abbrev S2048x1024 : Shape := ⟨2, ![2048, 1024]⟩
abbrev S1024x512 : Shape := ⟨2, ![1024, 512]⟩
abbrev S512x1024 : Shape := ⟨2, ![512, 1024]⟩
abbrev S1x256x1024 : Shape := ⟨3, ![1, 256, 1024]⟩
abbrev S256x1024 : Shape := ⟨2, ![256, 1024]⟩
abbrev S256x512 : Shape := ⟨2, ![256, 512]⟩

abbrev nBuf : Space → Nat
  | .hbm => 5
  | .vmem => 10
  | .smem => 0
  | _ => 0

abbrev bufTy : (tb : Table) → Fin (tcTables nBuf tb) → BufTy
  | .hbm, ⟨0, _⟩ => ⟨S16x2048x1024, .bf16⟩
  | .hbm, ⟨1, _⟩ => ⟨S2x16x1024x2048, .f32⟩
  | .hbm, ⟨2, _⟩ => ⟨S2x16x1024x2048, .f32⟩
  | .hbm, ⟨3, _⟩ => ⟨S2x16x2048x1024, .f32⟩
  | .hbm, ⟨4, _⟩ => ⟨S16x2048x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1x2048x1024, .f32⟩
  | .local _ .vmem, ⟨9, _⟩ => ⟨S1x2048x1024, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32_12 : BitVec 32 := 0#32
  let c8_i32 : BitVec 32 := 8#32
  let v12 : BitVec 32 := Scalar.addi c0_i32_12 c8_i32
  let c1_i32 : BitVec 32 := 1#32
  ⟨c0_i32_12, v12, c1_i32⟩
def k0_mult1 (k0_t1 : Fin k0_t1_loop.trips) : BitVec 32 :=
  let c0_i32_12 : BitVec 32 := 0#32
  let c1_i32 : BitVec 32 := 1#32
  let arg7 : BitVec 32 := Scf.iv c0_i32_12 c1_i32 k0_t1
  let c256_i32 : BitVec 32 := 256#32
  let v13 : BitVec 32 := Scalar.muli arg7 c256_i32
  v13
def k0_off1 (k0_t1 : Fin k0_t1_loop.trips) : Fin 3 → Nat :=
  let c0_14 : Index := 0#32
  let c0_i32_12 : BitVec 32 := 0#32
  let c1_i32 : BitVec 32 := 1#32
  let arg7 : BitVec 32 := Scf.iv c0_i32_12 c1_i32 k0_t1
  let c256_i32 : BitVec 32 := 256#32
  let v13 : BitVec 32 := Scalar.muli arg7 c256_i32
  let v14 : BitVec 32 := v13
  let v15 : Index := Scalar.indexCast v14
  let c0_15 : Index := 0#32
  ![0, v15.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnRefIdeal.lean ====
abbrev S16x2048x1024 : Shape := ⟨3, ![16, 2048, 1024]⟩
abbrev S2x16x1024x2048 : Shape := ⟨4, ![2, 16, 1024, 2048]⟩
abbrev S2x16x2048x1024 : Shape := ⟨4, ![2, 16, 2048, 1024]⟩
abbrev S1x16x1024x2048 : Shape := ⟨4, ![1, 16, 1024, 2048]⟩
abbrev S16x1024x2048 : Shape := ⟨3, ![16, 1024, 2048]⟩
abbrev S16x2048x2048 : Shape := ⟨3, ![16, 2048, 2048]⟩
abbrev S_ : Shape := ⟨0, ![]⟩
abbrev S1x16x2048x1024 : Shape := ⟨4, ![1, 16, 2048, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S2x16x1024x2048, .f32⟩
  | .hbm, ⟨2, _⟩ => ⟨S2x16x1024x2048, .f32⟩
  | .hbm, ⟨3, _⟩ => ⟨S2x16x2048x1024, .f32⟩
  | .hbm, ⟨4, _⟩ => ⟨S16x2048x1024, .f32⟩
  | .hbm, ⟨5, _⟩ => ⟨S1x16x1024x2048, .f32⟩
  | .hbm, ⟨6, _⟩ => ⟨S16x1024x2048, .f32⟩
  | .hbm, ⟨7, _⟩ => ⟨S16x2048x2048, .f32⟩
  | .hbm, ⟨8, _⟩ => ⟨S16x2048x2048, .f32⟩
  | .hbm, ⟨9, _⟩ => ⟨S16x2048x2048, .f32⟩
  | .hbm, ⟨10, _⟩ => ⟨S_, .f32⟩
  | .hbm, ⟨11, _⟩ => ⟨S16x2048x2048, .f32⟩
  | .hbm, ⟨12, _⟩ => ⟨S16x2048x2048, .f32⟩
  | .hbm, ⟨13, _⟩ => ⟨S_, .f32⟩
  | .hbm, ⟨14, _⟩ => ⟨S16x2048x2048, .f32⟩
  | .hbm, ⟨15, _⟩ => ⟨S16x2048x2048, .f32⟩
  | .hbm, ⟨16, _⟩ => ⟨S16x2048x2048, .f32⟩
  | .hbm, ⟨17, _⟩ => ⟨S1x16x1024x2048, .f32⟩
  | .hbm, ⟨18, _⟩ => ⟨S16x1024x2048, .f32⟩
  | .hbm, ⟨19, _⟩ => ⟨S16x2048x2048, .f32⟩
  | .hbm, ⟨20, _⟩ => ⟨S16x2048x2048, .f32⟩
  | .hbm, ⟨21, _⟩ => ⟨S1x16x2048x1024, .f32⟩
  | .hbm, ⟨22, _⟩ => ⟨S16x2048x1024, .f32⟩
  | .hbm, ⟨23, _⟩ => ⟨S16x2048x1024, .f32⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Inproj.lean ====
abbrev S4x4096x1024 : Shape := ⟨3, ![4, 4096, 1024]⟩
abbrev S2x1024 : Shape := ⟨2, ![2, 1024]⟩
abbrev S2x1024x3240 : Shape := ⟨3, ![2, 1024, 3240]⟩
abbrev S16384x1024 : Shape := ⟨2, ![16384, 1024]⟩
abbrev S1x1024 : Shape := ⟨2, ![1, 1024]⟩
abbrev S1024 : Shape := ⟨1, ![1024]⟩
abbrev S1x1024x3240 : Shape := ⟨3, ![1, 1024, 3240]⟩
abbrev S1024x3240 : Shape := ⟨2, ![1024, 3240]⟩
abbrev S1024x256 : Shape := ⟨2, ![1024, 256]⟩
abbrev S1024x128 : Shape := ⟨2, ![1024, 128]⟩
abbrev S1024x32 : Shape := ⟨2, ![1024, 32]⟩
abbrev S_ : Shape := ⟨0, ![]⟩
abbrev S1024x96 : Shape := ⟨2, ![1024, 96]⟩
abbrev S1024x768 : Shape := ⟨2, ![1024, 768]⟩
abbrev S1024x8 : Shape := ⟨2, ![1024, 8]⟩
abbrev S1024x248 : Shape := ⟨2, ![1024, 248]⟩
abbrev S1024x3584 : Shape := ⟨2, ![1024, 3584]⟩
abbrev S16384x3584 : Shape := ⟨2, ![16384, 3584]⟩
abbrev S512x1024 : Shape := ⟨2, ![512, 1024]⟩
abbrev S512x3584 : Shape := ⟨2, ![512, 3584]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 29
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S2x1024x3240, .f32⟩
  | .hbm, ⟨3, _⟩ => ⟨S16384x1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1x1024x3240, .f32⟩
  | .hbm, ⟨8, _⟩ => ⟨S1024x3240, .f32⟩
  | .hbm, ⟨9, _⟩ => ⟨S1024x256, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S1024x128, .f32⟩
  | .hbm, ⟨15, _⟩ => ⟨S1024x32, .f32⟩
  | .hbm, ⟨16, _⟩ => ⟨S_, .f32⟩
  | .hbm, ⟨17, _⟩ => ⟨S1024x96, .f32⟩
  | .hbm, ⟨18, _⟩ => ⟨S1024x768, .f32⟩
  | .hbm, ⟨19, _⟩ => ⟨S1024x256, .f32⟩
  | .hbm, ⟨20, _⟩ => ⟨S1024x8, .f32⟩
  | .hbm, ⟨21, _⟩ => ⟨S_, .f32⟩
  | .hbm, ⟨22, _⟩ => ⟨S1024x248, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S1024x3584, .f32⟩
  | .hbm, ⟨27, _⟩ => ⟨S1024x3584, .bf16⟩
  | .hbm, ⟨28, _⟩ => ⟨S16384x3584, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S512x3584, .f32⟩
  | .local _ .vmem, ⟨5, _⟩ => ⟨S512x3584, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InprojRefIdeal.lean ====
abbrev S4x4096x1024 : Shape := ⟨3, ![4, 4096, 1024]⟩
abbrev S2x1024 : Shape := ⟨2, ![2, 1024]⟩
abbrev S2x1024x3240 : Shape := ⟨3, ![2, 1024, 3240]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x3240 : Shape := ⟨3, ![1, 1024, 3240]⟩
abbrev S1024x3240 : Shape := ⟨2, ![1024, 3240]⟩
abbrev S4x4096x3240 : Shape := ⟨3, ![4, 4096, 3240]⟩
abbrev S4x4096x256 : Shape := ⟨3, ![4, 4096, 256]⟩
abbrev S4x4096x128 : Shape := ⟨3, ![4, 4096, 128]⟩
abbrev S4x4096x32 : Shape := ⟨3, ![4, 4096, 32]⟩
abbrev S4x4096x768 : Shape := ⟨3, ![4, 4096, 768]⟩
abbrev S4x4096x8 : Shape := ⟨3, ![4, 4096, 8]⟩
abbrev S4x4096x96 : Shape := ⟨3, ![4, 4096, 96]⟩
abbrev S4x4096x248 : Shape := ⟨3, ![4, 4096, 248]⟩
abbrev S4x4096x3584 : Shape := ⟨3, ![4, 4096, 3584]⟩
abbrev S16384x3584 : Shape := ⟨2, ![16384, 3584]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S2x1024x3240, .f32⟩
  | .hbm, ⟨3, _⟩ => ⟨S1x1024, .f32⟩
  | .hbm, ⟨4, _⟩ => ⟨S1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S1x1024x3240, .f32⟩
  | .hbm, ⟨22, _⟩ => ⟨S1024x3240, .f32⟩
  | .hbm, ⟨23, _⟩ => ⟨S4x4096x3240, .f32⟩
  | .hbm, ⟨24, _⟩ => ⟨S4x4096x256, .f32⟩
  | .hbm, ⟨25, _⟩ => ⟨S4x4096x256, .f32⟩
  | .hbm, ⟨26, _⟩ => ⟨S4x4096x256, .f32⟩
  | .hbm, ⟨27, _⟩ => ⟨S4x4096x256, .f32⟩
  | .hbm, ⟨28, _⟩ => ⟨S4x4096x256, .f32⟩
  | .hbm, ⟨29, _⟩ => ⟨S4x4096x128, .f32⟩
  | .hbm, ⟨30, _⟩ => ⟨S4x4096x32, .f32⟩
  | .hbm, ⟨31, _⟩ => ⟨S4x4096x256, .f32⟩
  | .hbm, ⟨32, _⟩ => ⟨S4x4096x768, .f32⟩
  | .hbm, ⟨33, _⟩ => ⟨S4x4096x8, .f32⟩
  | .hbm, ⟨34, _⟩ => ⟨S4x4096x256, .f32⟩
  | .hbm, ⟨35, _⟩ => ⟨S4x4096x256, .f32⟩
  | .hbm, ⟨36, _⟩ => ⟨S4x4096x256, .f32⟩
  | .hbm, ⟨37, _⟩ => ⟨S_, .f32⟩
  | .hbm, ⟨38, _⟩ => ⟨S4x4096x96, .f32⟩
  | .hbm, ⟨39, _⟩ => ⟨S_, .f32⟩
  | .hbm, ⟨40, _⟩ => ⟨S4x4096x248, .f32⟩
  | .hbm, ⟨41, _⟩ => ⟨S4x4096x3584, .f32⟩
  | .hbm, ⟨42, _⟩ => ⟨S16384x3584, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Norm.lean ====
abbrev S16384x1024 : Shape := ⟨2, ![16384, 1024]⟩
abbrev S4x4096x1024 : Shape := ⟨3, ![4, 4096, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S4x4096x1024, .f32⟩
  | .hbm, ⟨2, _⟩ => ⟨S1024, .f32⟩
  | .hbm, ⟨3, _⟩ => ⟨S16384x1024, .f32⟩
  | .hbm, ⟨4, _⟩ => ⟨S1x1024, .f32⟩
  | .hbm, ⟨5, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormRefIdeal.lean ====
abbrev S16384x1024 : Shape := ⟨2, ![16384, 1024]⟩
abbrev S4x4096x1024 : Shape := ⟨3, ![4, 4096, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x4096x1024, .f32⟩
  | .hbm, ⟨2, _⟩ => ⟨S1024, .f32⟩
  | .hbm, ⟨3, _⟩ => ⟨S4x4096x1024, .f32⟩
  | .hbm, ⟨4, _⟩ => ⟨S4x4096x1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Outproj.lean ====
abbrev S4x4096x1024 : Shape := ⟨3, ![4, 4096, 1024]⟩
abbrev S4x4096x256 : Shape := ⟨3, ![4, 4096, 256]⟩
abbrev S2x1024x1024 : Shape := ⟨3, ![2, 1024, 1024]⟩
abbrev S2x1024 : Shape := ⟨2, ![2, 1024]⟩
abbrev S2x1024x16 : Shape := ⟨3, ![2, 1024, 16]⟩
abbrev S16384x256 : Shape := ⟨2, ![16384, 256]⟩
abbrev S16384x1024 : Shape := ⟨2, ![16384, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x1024x16 : Shape := ⟨3, ![1, 1024, 16]⟩
abbrev S1024x16 : Shape := ⟨2, ![1024, 16]⟩
abbrev S_ : Shape := ⟨0, ![]⟩
abbrev S1024x112 : Shape := ⟨2, ![1024, 112]⟩
abbrev S1024x128 : Shape := ⟨2, ![1024, 128]⟩
abbrev S16384x128 : Shape := ⟨2, ![16384, 128]⟩
abbrev S256x1024 : Shape := ⟨2, ![256, 1024]⟩
abbrev S256x256 : Shape := ⟨2, ![256, 256]⟩
abbrev S256x128 : Shape := ⟨2, ![256, 128]⟩
abbrev S256 : Shape := ⟨1, ![256]⟩
abbrev S256x1 : Shape := ⟨2, ![256, 1]⟩

abbrev nBuf : Space → Nat
  | .hbm => 27
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S4x4096x256, .f32⟩
  | .hbm, ⟨2, _⟩ => ⟨S4x4096x256, .f32⟩
  | .hbm, ⟨3, _⟩ => ⟨S4x4096x256, .f32⟩
  | .hbm, ⟨4, _⟩ => ⟨S4x4096x256, .f32⟩
  | .hbm, ⟨5, _⟩ => ⟨S2x1024x1024, .f32⟩
  | .hbm, ⟨6, _⟩ => ⟨S2x1024, .f32⟩
  | .hbm, ⟨7, _⟩ => ⟨S2x1024x16, .f32⟩
  | .hbm, ⟨8, _⟩ => ⟨S16384x256, .f32⟩
  | .hbm, ⟨9, _⟩ => ⟨S16384x256, .f32⟩
  | .hbm, ⟨10, _⟩ => ⟨S16384x256, .f32⟩
  | .hbm, ⟨11, _⟩ => ⟨S16384x256, .f32⟩
  | .hbm, ⟨12, _⟩ => ⟨S16384x1024, .f32⟩
  | .hbm, ⟨13, _⟩ => ⟨S1x1024x1024, .f32⟩
  | .hbm, ⟨14, _⟩ => ⟨S1024x1024, .f32⟩
  | .hbm, ⟨15, _⟩ => ⟨S1x1024, .f32⟩
  | .hbm, ⟨16, _⟩ => ⟨S1024, .f32⟩
  | .hbm, ⟨17, _⟩ => ⟨S1x1024x16, .f32⟩
  | .hbm, ⟨18, _⟩ => ⟨S1024x16, .f32⟩
  | .hbm, ⟨19, _⟩ => ⟨S_, .f32⟩
  | .hbm, ⟨20, _⟩ => ⟨S1024x112, .f32⟩
  | .hbm, ⟨21, _⟩ => ⟨S1024x128, .f32⟩
  | .hbm, ⟨22, _⟩ => ⟨S1024x1024, .bf16⟩
  | .hbm, ⟨23, _⟩ => ⟨S1x1024, .f32⟩
  | .hbm, ⟨24, _⟩ => ⟨S16384x1024, .f32⟩
  | .hbm, ⟨25, _⟩ => ⟨S16384x1024, .bf16⟩
  | .hbm, ⟨26, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S1024x1024, .bf16⟩
  | .local _ .vmem, ⟨11, _⟩ => ⟨S1x1024, .f32⟩
  | .local _ .vmem, ⟨12, _⟩ => ⟨S1024x128, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S256x128, .f32⟩
  | .local _ .vmem, ⟨18, _⟩ => ⟨S256x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutprojRefIdeal.lean ====
abbrev S4x4096x1024 : Shape := ⟨3, ![4, 4096, 1024]⟩
abbrev S4x4096x256 : Shape := ⟨3, ![4, 4096, 256]⟩
abbrev S2x1024x1024 : Shape := ⟨3, ![2, 1024, 1024]⟩
abbrev S2x1024 : Shape := ⟨2, ![2, 1024]⟩
abbrev S2x1024x16 : Shape := ⟨3, ![2, 1024, 16]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x16 : Shape := ⟨3, ![1, 1024, 16]⟩
abbrev S1024x16 : Shape := ⟨2, ![1024, 16]⟩
abbrev S4x4096x16 : Shape := ⟨3, ![4, 4096, 16]⟩
abbrev S4x4096x112 : Shape := ⟨3, ![4, 4096, 112]⟩
abbrev S4x4096x128 : Shape := ⟨3, ![4, 4096, 128]⟩
abbrev S16384x1024 : Shape := ⟨2, ![16384, 1024]⟩
abbrev S16384x128 : Shape := ⟨2, ![16384, 128]⟩

abbrev nBuf : Space → Nat
  | .hbm => 55
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x256, .f32⟩
  | .hbm, ⟨2, _⟩ => ⟨S4x4096x256, .f32⟩
  | .hbm, ⟨3, _⟩ => ⟨S4x4096x256, .f32⟩
  | .hbm, ⟨4, _⟩ => ⟨S4x4096x256, .f32⟩
  | .hbm, ⟨5, _⟩ => ⟨S2x1024x1024, .f32⟩
  | .hbm, ⟨6, _⟩ => ⟨S2x1024, .f32⟩
  | .hbm, ⟨7, _⟩ => ⟨S2x1024x16, .f32⟩
  | .hbm, ⟨8, _⟩ => ⟨S4x4096x1024, .f32⟩
  | .hbm, ⟨9, _⟩ => ⟨S1x1024x1024, .f32⟩
  | .hbm, ⟨10, _⟩ => ⟨S1024x1024, .f32⟩
  | .hbm, ⟨11, _⟩ => ⟨S4x4096x1024, .f32⟩
  | .hbm, ⟨12, _⟩ => ⟨S4x4096x1024, .f32⟩
  | .hbm, ⟨13, _⟩ => ⟨S1x1024, .f32⟩
  | .hbm, ⟨14, _⟩ => ⟨S1024, .f32⟩
  | .hbm, ⟨15, _⟩ => ⟨S4x4096x1024, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1, .f32⟩
  | .hbm, ⟨26, _⟩ => ⟨S4x4096x1024, .f32⟩
  | .hbm, ⟨27, _⟩ => ⟨S4x4096x1024, .f32⟩
  | .hbm, ⟨28, _⟩ => ⟨S1x1x1024, .f32⟩
  | .hbm, ⟨29, _⟩ => ⟨S4x4096x1024, .f32⟩
  | .hbm, ⟨30, _⟩ => ⟨S4x4096x1024, .f32⟩
  | .hbm, ⟨31, _⟩ => ⟨S1x1024x16, .f32⟩
  | .hbm, ⟨32, _⟩ => ⟨S1024x16, .f32⟩
  | .hbm, ⟨33, _⟩ => ⟨S4x4096x16, .f32⟩
  | .hbm, ⟨34, _⟩ => ⟨S_, .f32⟩
  | .hbm, ⟨35, _⟩ => ⟨S4x4096, .f32⟩
  | .hbm, ⟨36, _⟩ => ⟨S_, .f32⟩
  | .hbm, ⟨37, _⟩ => ⟨S4x4096, .f32⟩
  | .hbm, ⟨38, _⟩ => ⟨S4x4096, .f32⟩
  | .hbm, ⟨39, _⟩ => ⟨S4x4096x1, .f32⟩
  | .hbm, ⟨40, _⟩ => ⟨S4x4096x16, .f32⟩
  | .hbm, ⟨41, _⟩ => ⟨S4x4096x16, .f32⟩
  | .hbm, ⟨42, _⟩ => ⟨S4x4096x16, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S4x4096x16, .f32⟩
  | .hbm, ⟨47, _⟩ => ⟨S4x4096x16, .f32⟩
  | .hbm, ⟨48, _⟩ => ⟨S_, .f32⟩
  | .hbm, ⟨49, _⟩ => ⟨S4x4096x112, .f32⟩
  | .hbm, ⟨50, _⟩ => ⟨S4x4096x128, .f32⟩
  | .hbm, ⟨51, _⟩ => ⟨S16384x1024, .f32⟩
  | .hbm, ⟨52, _⟩ => ⟨S16384x1024, .f32⟩
  | .hbm, ⟨53, _⟩ => ⟨S16384x1024, .bf16⟩
  | .hbm, ⟨54, _⟩ => ⟨S16384x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Prep.lean ====
abbrev S4x4096x3584 : Shape := ⟨3, ![4, 4096, 3584]⟩
abbrev S2x256 : Shape := ⟨2, ![2, 256]⟩
abbrev S2x128 : Shape := ⟨2, ![2, 128]⟩
abbrev S2x256x384 : Shape := ⟨3, ![2, 256, 384]⟩
abbrev S2x128x512 : Shape := ⟨3, ![2, 128, 512]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x32 : Shape := ⟨2, ![4096, 32]⟩
abbrev S4096x128 : Shape := ⟨2, ![4096, 128]⟩
abbrev S1x4096x1x128 : Shape := ⟨4, ![1, 4096, 1, 128]⟩
abbrev S1x4096x4x128 : Shape := ⟨4, ![1, 4096, 4, 128]⟩
abbrev S4096x512 : Shape := ⟨2, ![4096, 512]⟩
abbrev S4096x0 : Shape := ⟨2, ![4096, 0]⟩
abbrev S4096x96 : Shape := ⟨2, ![4096, 96]⟩
abbrev S1x256 : Shape := ⟨2, ![1, 256]⟩
abbrev S256 : Shape := ⟨1, ![256]⟩
abbrev S1x128 : Shape := ⟨2, ![1, 128]⟩
abbrev S128 : Shape := ⟨1, ![128]⟩
abbrev S1x256x384 : Shape := ⟨3, ![1, 256, 384]⟩
abbrev S256x384 : Shape := ⟨2, ![256, 384]⟩
abbrev S1x128x512 : Shape := ⟨3, ![1, 128, 512]⟩
abbrev S128x512 : Shape := ⟨2, ![128, 512]⟩
abbrev S256x4x96 : Shape := ⟨3, ![256, 4, 96]⟩
abbrev S256x4x32 : Shape := ⟨3, ![256, 4, 32]⟩
abbrev S256x4x128 : Shape := ⟨3, ![256, 4, 128]⟩
abbrev S256x512 : Shape := ⟨2, ![256, 512]⟩
abbrev S128x4x128 : Shape := ⟨3, ![128, 4, 128]⟩
abbrev S128x4x64 : Shape := ⟨3, ![128, 4, 64]⟩
abbrev S128x1 : Shape := ⟨2, ![128, 1]⟩
abbrev S512 : Shape := ⟨1, ![512]⟩
abbrev S1x512 : Shape := ⟨2, ![1, 512]⟩
abbrev S4x4096x512 : Shape := ⟨3, ![4, 4096, 512]⟩
abbrev S1x512x256 : Shape := ⟨3, ![1, 512, 256]⟩
abbrev S512x512 : Shape := ⟨2, ![512, 512]⟩
abbrev S512x128 : Shape := ⟨2, ![512, 128]⟩
abbrev S1x512x512 : Shape := ⟨3, ![1, 512, 512]⟩
abbrev S512x256 : Shape := ⟨2, ![512, 256]⟩
abbrev S512x1 : Shape := ⟨2, ![512, 1]⟩

abbrev nBuf : Space → Nat
  | .hbm => 167
  | .vmem => 28
  | .smem => 0
  | _ => 0

abbrev hbmTy0_0 (i : Nat) : BufTy := match i % 128 with
  | 0 => ⟨S4x4096x3584, .f32⟩
  | 1 => ⟨S2x256, .f32⟩
  | 2 => ⟨S2x128, .f32⟩
  | 3 => ⟨S2x256x384, .f32⟩
  | 4 => ⟨S2x128x512, .f32⟩
  | 5 => ⟨S16, .f32⟩
  | 6 => ⟨S_, .f32⟩
  | 7 => ⟨S16, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S4096, .f32⟩
  | 22 => ⟨S4096x1, .f32⟩
  | 23 => ⟨S1x16, .f32⟩
  | 24 => ⟨S4096x16, .f32⟩
  | 25 => ⟨S4096x16, .f32⟩
  | 26 => ⟨S4096x16, .f32⟩
  | 27 => ⟨S4096x16, .f32⟩
  | 28 => ⟨S4096x16, .f32⟩
  | 29 => ⟨S_, .f32⟩
  | 30 => ⟨S4096x64, .f32⟩
  | 31 => ⟨S_, .f32⟩
  | 32 => ⟨S4096x64, .f32⟩
  | 33 => ⟨S_, .f32⟩
  | 34 => ⟨S4096x32, .f32⟩
  | 35 => ⟨S_, .f32⟩
  | 36 => ⟨S4096x32, .f32⟩
  | 37 => ⟨S_, .f32⟩
  | 38 => ⟨S4096x16, .f32⟩
  | 39 => ⟨S4096x128, .f32⟩
  | 40 => ⟨S4096x16, .f32⟩
  | 41 => ⟨S4096x128, .f32⟩
  | 42 => ⟨S4096x128, .f32⟩
  | 43 => ⟨S1x4096x1x128, .f32⟩
  | 44 => ⟨S1x4096x4x128, .f32⟩
  | 45 => ⟨S4096x512, .f32⟩
  | 46 => ⟨S1x4096x1x128, .f32⟩
  | 47 => ⟨S1x4096x4x128, .f32⟩
  | 48 => ⟨S4096x512, .f32⟩
  | 49 => ⟨S1x4096x1x128, .f32⟩
  | 50 => ⟨S1x4096x4x128, .f32⟩
  | 51 => ⟨S4096x512, .f32⟩
  | 52 => ⟨S16, .f32⟩
  | 53 => ⟨S_, .f32⟩
  | 54 => ⟨S16, .f32⟩
  | 55 => ⟨S16, .f32⟩
  | 56 => ⟨S_, .f32⟩
  | 57 => ⟨S16, .f32⟩
  | 58 => ⟨S16, .f32⟩
  | 59 => ⟨S_, .f32⟩
  | 60 => ⟨S16, .f32⟩
  | 61 => ⟨S16, .f32⟩
  | 62 => ⟨S_, .f32⟩
  | 63 => ⟨S16, .f32⟩
  | 64 => ⟨S16, .f32⟩
  | 65 => ⟨S_, .f32⟩
  | 66 => ⟨S16, .f32⟩
  | 67 => ⟨S16, .f32⟩
  | 68 => ⟨S4096, .f32⟩
  | 69 => ⟨S4096x1, .f32⟩
  | 70 => ⟨S1x16, .f32⟩
  | 71 => ⟨S4096x16, .f32⟩
  | 72 => ⟨S4096x16, .f32⟩
  | 73 => ⟨S4096x16, .f32⟩
  | 74 => ⟨S4096x16, .f32⟩
  | 75 => ⟨S4096x16, .f32⟩
  | 76 => ⟨S_, .f32⟩
  | 77 => ⟨S4096x0, .f32⟩
  | 78 => ⟨S_, .f32⟩
  | 79 => ⟨S4096x0, .f32⟩
  | 80 => ⟨S_, .f32⟩
  | 81 => ⟨S4096x96, .f32⟩
  | 82 => ⟨S_, .f32⟩
  | 83 => ⟨S4096x96, .f32⟩
  | 84 => ⟨S_, .f32⟩
  | 85 => ⟨S4096x16, .f32⟩
  | 86 => ⟨S4096x128, .f32⟩
  | 87 => ⟨S4096x16, .f32⟩
  | 88 => ⟨S4096x128, .f32⟩
  | 89 => ⟨S4096x128, .f32⟩
  | 90 => ⟨S1x4096x1x128, .f32⟩
  | 91 => ⟨S1x4096x1x128, .f32⟩
  | 92 => ⟨S4096x128, .f32⟩
  | 93 => ⟨S1x4096x1x128, .f32⟩
  | 94 => ⟨S1x4096x1x128, .f32⟩
  | 95 => ⟨S4096x128, .f32⟩
  | 96 => ⟨S1x4096x1x128, .f32⟩
  | 97 => ⟨S1x4096x1x128, .f32⟩
  | 98 => ⟨S4096x128, .f32⟩
  | 99 => ⟨S1x256, .f32⟩
  | 100 => ⟨S256, .f32⟩
  | 101 => ⟨S1x128, .f32⟩
  | 102 => ⟨S128, .f32⟩
  | 103 => ⟨S1x256x384, .f32⟩
  | 104 => ⟨S256x384, .f32⟩
  | 105 => ⟨S1x128x512, .f32⟩
  | 106 => ⟨S128x512, .f32⟩
  | 107 => ⟨S256x4x96, .f32⟩
  | 108 => ⟨S_, .f32⟩
  | 109 => ⟨S256x4x32, .f32⟩
  | 110 => ⟨S256x4x128, .f32⟩
  | 111 => ⟨S256x512, .f32⟩
  | 112 => ⟨S128x4x128, .f32⟩
  | 113 => ⟨S_, .f32⟩
  | 114 => ⟨S128x4x64, .f32⟩
  | 115 => ⟨S128x4x64, .f32⟩
  | 116 => ⟨S128x4x128, .f32⟩
  | 117 => ⟨S128x512, .f32⟩
  | 118 => ⟨S128x4x64, .f32⟩
  | 119 => ⟨S128x4x128, .f32⟩
  | 120 => ⟨S128x512, .f32⟩
  | 121 => ⟨S128, .i32⟩
  | 122 => ⟨S128x1, .i32⟩
  | 123 => ⟨S512, .i32⟩
  | 124 => ⟨S1x512, .i32⟩
  | 125 => ⟨S_, .i32⟩
  | 126 => ⟨S_, .i32⟩
  | 127 => ⟨S_, .i32⟩
  | _ => ⟨S4x4096x3584, .f32⟩

abbrev hbmTy0_1 (i : Nat) : BufTy := match i % 128 with
  | 0 => ⟨S_, .i1⟩
  | 1 => ⟨S_, .i32⟩
  | 2 => ⟨S_, .i32⟩
  | 3 => ⟨S1x512, .i32⟩
  | 4 => ⟨S1x512, .i32⟩
  | 5 => ⟨S_, .i32⟩
  | 6 => ⟨S1x512, .i32⟩
  | 7 => ⟨S1x512, .i1⟩
  | 8 => ⟨S_, .i32⟩
  | 9 => ⟨S1x512, .i32⟩
  | 10 => ⟨S1x512, .i1⟩
  | 11 => ⟨S_, .i32⟩
  | 12 => ⟨S_, .i1⟩
  | 13 => ⟨S1x512, .i1⟩
  | 14 => ⟨S1x512, .i1⟩
  | 15 => ⟨S1x512, .i1⟩
  | 16 => ⟨S1x512, .i32⟩
  | 17 => ⟨S1x512, .i32⟩
  | 18 => ⟨S1x512, .i32⟩
  | 19 => ⟨S_, .i32⟩
  | 20 => ⟨S128x1, .i32⟩
  | 21 => ⟨S128x1, .i32⟩
  | 22 => ⟨S128x512, .i32⟩
  | 23 => ⟨S128x512, .i32⟩
  | 24 => ⟨S128x512, .i1⟩
  | 25 => ⟨S_, .i32⟩
  | 26 => ⟨S128x1, .i32⟩
  | 27 => ⟨S128x1, .i1⟩
  | 28 => ⟨S128x512, .i1⟩
  | 29 => ⟨S128x512, .i1⟩
  | 30 => ⟨S128x512, .bf16⟩
  | 31 => ⟨S256x512, .bf16⟩
  | 32 => ⟨S128x512, .bf16⟩
  | 33 => ⟨S128x512, .bf16⟩
  | 34 => ⟨S1x256, .f32⟩
  | 35 => ⟨S1x128, .f32⟩
  | 36 => ⟨S4x4096x512, .bf16⟩
  | 37 => ⟨S4x4096x512, .bf16⟩
  | 38 => ⟨S4x4096x512, .bf16⟩
  | _ => ⟨S4x4096x3584, .f32⟩

abbrev hbmTy (i : Nat) : BufTy := match i / 128 with
  | 0 => hbmTy0_0 i
  | 1 => hbmTy0_1 i
  | _ => ⟨S4x4096x3584, .f32⟩

abbrev bufTy : (tb : Table) → Fin (tcTables nBuf tb) → BufTy
  | .hbm, ⟨i, _⟩ => hbmTy i
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x256, .f32⟩
  | .local _ .vmem, ⟨5, _⟩ => ⟨S1x128, .f32⟩
  | .local _ .vmem, ⟨6, _⟩ => ⟨S256x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | _, _ => ⟨S4x4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_cst_12 : Ref sig .tc := ⟨.hbm, 62, rfl⟩
abbrev main_v44 : Ref sig .tc := ⟨.hbm, 63, rfl⟩
abbrev main_v45 : Ref sig .tc := ⟨.hbm, 64, rfl⟩
abbrev main_cst_13 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_14 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_cst_16 : Ref sig .tc := ⟨.hbm, 80, rfl⟩
abbrev main_v58 : Ref sig .tc := ⟨.hbm, 81, rfl⟩
abbrev main_cst_17 : Ref sig .tc := ⟨.hbm, 82, rfl⟩
abbrev main_v59 : Ref sig .tc := ⟨.hbm, 83, rfl⟩
abbrev main_cst_18 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_19 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_20 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_c : Ref sig .tc := ⟨.hbm, 125, rfl⟩
abbrev main_call0_v0 : Ref sig .tc := ⟨.hbm, 126, rfl⟩
abbrev main_call0_c : Ref sig .tc := ⟨.hbm, 127, rfl⟩
abbrev main_call0_v1 : Ref sig .tc := ⟨.hbm, 128, rfl⟩
abbrev main_call0_c_0 : Ref sig .tc := ⟨.hbm, 129, rfl⟩
abbrev main_call0_v2 : Ref sig .tc := ⟨.hbm, 130, rfl⟩
abbrev main_call0_v3 : Ref sig .tc := ⟨.hbm, 131, rfl⟩
abbrev main_call0_v4 : Ref sig .tc := ⟨.hbm, 132, rfl⟩
abbrev main_call0_c_1 : Ref sig .tc := ⟨.hbm, 133, rfl⟩
abbrev main_call0_v5 : Ref sig .tc := ⟨.hbm, 134, rfl⟩
abbrev main_call0_v6 : Ref sig .tc := ⟨.hbm, 135, rfl⟩
abbrev main_call0_c_2 : Ref sig .tc := ⟨.hbm, 136, rfl⟩
abbrev main_call0_v7 : Ref sig .tc := ⟨.hbm, 137, rfl⟩
abbrev main_call0_v8 : Ref sig .tc := ⟨.hbm, 138, rfl⟩
abbrev main_call0_c_3 : Ref sig .tc := ⟨.hbm, 139, rfl⟩
abbrev main_call0_v9 : Ref sig .tc := ⟨.hbm, 140, rfl⟩
abbrev main_call0_v10 : Ref sig .tc := ⟨.hbm, 141, rfl⟩
abbrev main_call0_v11 : Ref sig .tc := ⟨.hbm, 142, rfl⟩
abbrev main_call0_v12 : Ref sig .tc := ⟨.hbm, 143, rfl⟩
abbrev main_call0_v13 : Ref sig .tc := ⟨.hbm, 144, rfl⟩
abbrev main_call0_v14 : Ref sig .tc := ⟨.hbm, 145, rfl⟩
abbrev main_v98 : Ref sig .tc := ⟨.hbm, 146, rfl⟩
abbrev main_c_21 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_c_22 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114_0 : Ref sig .tc := ⟨.hbm, 164, rfl⟩
abbrev main_v114_1 : Ref sig .tc := ⟨.hbm, 165, rfl⟩
abbrev main_v114_2 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== PrepRefIdeal.lean ====
abbrev S4x4096x3584 : Shape := ⟨3, ![4, 4096, 3584]⟩
abbrev S2x256 : Shape := ⟨2, ![2, 256]⟩
abbrev S2x128 : Shape := ⟨2, ![2, 128]⟩
abbrev S2x256x384 : Shape := ⟨3, ![2, 256, 384]⟩
abbrev S2x128x512 : Shape := ⟨3, ![2, 128, 512]⟩
abbrev S4x4096x256 : Shape := ⟨3, ![4, 4096, 256]⟩
abbrev S4x4096x128 : Shape := ⟨3, ![4, 4096, 128]⟩
abbrev S4x4096x32 : Shape := ⟨3, ![4, 4096, 32]⟩
abbrev S1x256 : Shape := ⟨2, ![1, 256]⟩
abbrev S256 : Shape := ⟨1, ![256]⟩
abbrev S_ : Shape := ⟨0, ![]⟩
abbrev S4x4096 : Shape := ⟨2, ![4, 4096]⟩
abbrev S4x4096x1 : Shape := ⟨3, ![4, 4096, 1]⟩
abbrev S1x1x256 : Shape := ⟨3, ![1, 1, 256]⟩
abbrev S1x256x384 : Shape := ⟨3, ![1, 256, 384]⟩
abbrev S256x384 : Shape := ⟨2, ![256, 384]⟩
abbrev S4x4096x384 : Shape := ⟨3, ![4, 4096, 384]⟩
abbrev S4x4096x4x96 : Shape := ⟨4, ![4, 4096, 4, 96]⟩
abbrev S4x4x4096x96 : Shape := ⟨4, ![4, 4, 4096, 96]⟩
abbrev S1x128 : Shape := ⟨2, ![1, 128]⟩
abbrev S128 : Shape := ⟨1, ![128]⟩
abbrev S1x1x128 : Shape := ⟨3, ![1, 1, 128]⟩
abbrev S1x128x512 : Shape := ⟨3, ![1, 128, 512]⟩
abbrev S128x512 : Shape := ⟨2, ![128, 512]⟩
abbrev S4x4096x512 : Shape := ⟨3, ![4, 4096, 512]⟩
abbrev S4x4096x4x128 : Shape := ⟨4, ![4, 4096, 4, 128]⟩
abbrev S4x4x4096x128 : Shape := ⟨4, ![4, 4, 4096, 128]⟩
abbrev S4x4x4096x64 : Shape := ⟨4, ![4, 4, 4096, 64]⟩
abbrev S4x4x4096x32 : Shape := ⟨4, ![4, 4, 4096, 32]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4x4x4096x16 : Shape := ⟨4, ![4, 4, 4096, 16]⟩
abbrev S1x1x4096x16 : Shape := ⟨4, ![1, 1, 4096, 16]⟩
abbrev S4x4x4096x0 : Shape := ⟨4, ![4, 4, 4096, 0]⟩
abbrev S4x1x4096x32 : Shape := ⟨4, ![4, 1, 4096, 32]⟩
abbrev S4x1x4096x16 : Shape := ⟨4, ![4, 1, 4096, 16]⟩
abbrev S4x1x4096x0 : Shape := ⟨4, ![4, 1, 4096, 0]⟩

abbrev nBuf : Space → Nat
  | .hbm => 164
  | .vmem => 0
  | .smem => 0
  | _ => 0

abbrev hbmTy0_0 (i : Nat) : BufTy := match i % 128 with
  | 0 => ⟨S4x4096x3584, .f32⟩
  | 1 => ⟨S2x256, .f32⟩
  | 2 => ⟨S2x128, .f32⟩
  | 3 => ⟨S2x256x384, .f32⟩
  | 4 => ⟨S2x128x512, .f32⟩
  | 5 => ⟨S4x4096x256, .f32⟩
  | 6 => ⟨S4x4096x128, .f32⟩
  | 7 => ⟨S4x4096x32, .f32⟩
  | 8 => ⟨S1x256, .f32⟩
  | 9 => ⟨S256, .f32⟩
  | 10 => ⟨S4x4096x256, .f32⟩
  | 11 => ⟨S_, .f32⟩
  | 12 => ⟨S4x4096, .f32⟩
  | 13 => ⟨S4x4096x1, .f32⟩
  | 14 => ⟨S_, .f32⟩
  | 15 => ⟨S4x4096x1, .f32⟩
  | 16 => ⟨S4x4096x1, .f32⟩
  | 17 => ⟨S_, .f32⟩
  | 18 => ⟨S4x4096x1, .f32⟩
  | 19 => ⟨S4x4096x1, .f32⟩
  | 20 => ⟨S4x4096x1, .f32⟩
  | 21 => ⟨S4x4096x256, .f32⟩
  | 22 => ⟨S4x4096x256, .f32⟩
  | 23 => ⟨S1x1x256, .f32⟩
  | 24 => ⟨S4x4096x256, .f32⟩
  | 25 => ⟨S4x4096x256, .f32⟩
  | 26 => ⟨S1x256x384, .f32⟩
  | 27 => ⟨S256x384, .f32⟩
  | 28 => ⟨S4x4096x384, .f32⟩
  | 29 => ⟨S4x4096x4x96, .f32⟩
  | 30 => ⟨S4x4x4096x96, .f32⟩
  | 31 => ⟨S1x128, .f32⟩
  | 32 => ⟨S128, .f32⟩
  | 33 => ⟨S4x4096x128, .f32⟩
  | 34 => ⟨S_, .f32⟩
  | 35 => ⟨S4x4096, .f32⟩
  | 36 => ⟨S4x4096x1, .f32⟩
  | 37 => ⟨S_, .f32⟩
  | 38 => ⟨S4x4096x1, .f32⟩
  | 39 => ⟨S4x4096x1, .f32⟩
  | 40 => ⟨S_, .f32⟩
  | 41 => ⟨S4x4096x1, .f32⟩
  | 42 => ⟨S4x4096x1, .f32⟩
  | 43 => ⟨S4x4096x1, .f32⟩
  | 44 => ⟨S4x4096x128, .f32⟩
  | 45 => ⟨S4x4096x128, .f32⟩
  | 46 => ⟨S1x1x128, .f32⟩
  | 47 => ⟨S4x4096x128, .f32⟩
  | 48 => ⟨S4x4096x128, .f32⟩
  | 49 => ⟨S1x128x512, .f32⟩
  | 50 => ⟨S128x512, .f32⟩
  | 51 => ⟨S4x4096x512, .f32⟩
  | 52 => ⟨S4x4096x4x128, .f32⟩
  | 53 => ⟨S4x4x4096x128, .f32⟩
  | 54 => ⟨S4x4x4096x64, .f32⟩
  | 55 => ⟨S4x4x4096x64, .f32⟩
  | 56 => ⟨S4x4x4096x64, .f32⟩
  | 57 => ⟨S4x4x4096x32, .f32⟩
  | 58 => ⟨S16, .f32⟩
  | 59 => ⟨S_, .f32⟩
  | 60 => ⟨S16, .f32⟩
  | 61 => ⟨S16, .f32⟩
  | 62 => ⟨S_, .f32⟩
  | 63 => ⟨S16, .f32⟩
  | 64 => ⟨S16, .f32⟩
  | 65 => ⟨S_, .f32⟩
  | 66 => ⟨S16, .f32⟩
  | 67 => ⟨S16, .f32⟩
  | 68 => ⟨S_, .f32⟩
  | 69 => ⟨S16, .f32⟩
  | 70 => ⟨S16, .f32⟩
  | 71 => ⟨S_, .f32⟩
  | 72 => ⟨S16, .f32⟩
  | 73 => ⟨S16, .f32⟩
  | 74 => ⟨S4096, .f32⟩
  | 75 => ⟨S4096x1, .f32⟩
  | 76 => ⟨S1x16, .f32⟩
  | 77 => ⟨S4096x16, .f32⟩
  | 78 => ⟨S4096x16, .f32⟩
  | 79 => ⟨S4096x16, .f32⟩
  | 80 => ⟨S4096x16, .f32⟩
  | 81 => ⟨S4096x16, .f32⟩
  | 82 => ⟨S4x4x4096x16, .f32⟩
  | 83 => ⟨S4x4x4096x16, .f32⟩
  | 84 => ⟨S1x1x4096x16, .f32⟩
  | 85 => ⟨S4x4x4096x16, .f32⟩
  | 86 => ⟨S4x4x4096x16, .f32⟩
  | 87 => ⟨S1x1x4096x16, .f32⟩
  | 88 => ⟨S4x4x4096x16, .f32⟩
  | 89 => ⟨S4x4x4096x16, .f32⟩
  | 90 => ⟨S4x4x4096x16, .f32⟩
  | 91 => ⟨S1x1x4096x16, .f32⟩
  | 92 => ⟨S4x4x4096x16, .f32⟩
  | 93 => ⟨S4x4x4096x16, .f32⟩
  | 94 => ⟨S1x1x4096x16, .f32⟩
  | 95 => ⟨S4x4x4096x16, .f32⟩
  | 96 => ⟨S4x4x4096x16, .f32⟩
  | 97 => ⟨S4x4x4096x16, .f32⟩
  | 98 => ⟨S4x4x4096x0, .f32⟩
  | 99 => ⟨S4x4x4096x32, .f32⟩
  | 100 => ⟨S4x4x4096x96, .f32⟩
  | 101 => ⟨S4x1x4096x32, .f32⟩
  | 102 => ⟨S16, .f32⟩
  | 103 => ⟨S_, .f32⟩
  | 104 => ⟨S16, .f32⟩
  | 105 => ⟨S16, .f32⟩
  | 106 => ⟨S_, .f32⟩
  | 107 => ⟨S16, .f32⟩
  | 108 => ⟨S16, .f32⟩
  | 109 => ⟨S_, .f32⟩
  | 110 => ⟨S16, .f32⟩
  | 111 => ⟨S16, .f32⟩
  | 112 => ⟨S_, .f32⟩
  | 113 => ⟨S16, .f32⟩
  | 114 => ⟨S16, .f32⟩
  | 115 => ⟨S_, .f32⟩
  | 116 => ⟨S16, .f32⟩
  | 117 => ⟨S16, .f32⟩
  | 118 => ⟨S4096, .f32⟩
  | 119 => ⟨S4096x1, .f32⟩
  | 120 => ⟨S1x16, .f32⟩
  | 121 => ⟨S4096x16, .f32⟩
  | 122 => ⟨S4096x16, .f32⟩
  | 123 => ⟨S4096x16, .f32⟩
  | 124 => ⟨S4096x16, .f32⟩
  | 125 => ⟨S4096x16, .f32⟩
  | 126 => ⟨S4x1x4096x16, .f32⟩
  | 127 => ⟨S4x1x4096x16, .f32⟩
  | _ => ⟨S4x4096x3584, .f32⟩

abbrev hbmTy0_1 (i : Nat) : BufTy := match i % 128 with
  | 0 => ⟨S1x1x4096x16, .f32⟩
  | 1 => ⟨S4x1x4096x16, .f32⟩
  | 2 => ⟨S4x1x4096x16, .f32⟩
  | 3 => ⟨S1x1x4096x16, .f32⟩
  | 4 => ⟨S4x1x4096x16, .f32⟩
  | 5 => ⟨S4x1x4096x16, .f32⟩
  | 6 => ⟨S4x1x4096x16, .f32⟩
  | 7 => ⟨S1x1x4096x16, .f32⟩
  | 8 => ⟨S4x1x4096x16, .f32⟩
  | 9 => ⟨S4x1x4096x16, .f32⟩
  | 10 => ⟨S1x1x4096x16, .f32⟩
  | 11 => ⟨S4x1x4096x16, .f32⟩
  | 12 => ⟨S4x1x4096x16, .f32⟩
  | 13 => ⟨S4x1x4096x16, .f32⟩
  | 14 => ⟨S4x1x4096x0, .f32⟩
  | 15 => ⟨S4x1x4096x32, .f32⟩
  | 16 => ⟨S4x4x4096x32, .f32⟩
  | 17 => ⟨S_, .f32⟩
  | 18 => ⟨S4x4x4096x32, .f32⟩
  | 19 => ⟨S_, .f32⟩
  | 20 => ⟨S4x4x4096x96, .f32⟩
  | 21 => ⟨S4x4x4096x96, .f32⟩
  | 22 => ⟨S4x4x4096x128, .f32⟩
  | 23 => ⟨S4x4x4096x128, .f32⟩
  | 24 => ⟨S_, .f32⟩
  | 25 => ⟨S4x4x4096x64, .f32⟩
  | 26 => ⟨S4x4x4096x128, .f32⟩
  | 27 => ⟨S4x4096x4x128, .f32⟩
  | 28 => ⟨S4x4096x512, .f32⟩
  | 29 => ⟨S4x4096x512, .bf16⟩
  | 30 => ⟨S4x4096x4x128, .f32⟩
  | 31 => ⟨S4x4096x512, .f32⟩
  | 32 => ⟨S4x4096x512, .bf16⟩
  | 33 => ⟨S4x4096x4x128, .f32⟩
  | 34 => ⟨S4x4096x512, .f32⟩
  | 35 => ⟨S4x4096x512, .bf16⟩
  | _ => ⟨S4x4096x3584, .f32⟩

abbrev hbmTy (i : Nat) : BufTy := match i / 128 with
  | 0 => hbmTy0_0 i
  | 1 => hbmTy0_1 i
  | _ => ⟨S4x4096x3584, .f32⟩

abbrev bufTy : (tb : Table) → Fin (tcTables nBuf tb) → BufTy
  | .hbm, ⟨i, _⟩ => hbmTy i
  | _, _ => ⟨S4x4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_5 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_cst_7 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_cst_10 : Ref sig .tc := ⟨.hbm, 103, rfl⟩
abbrev main_v87 : Ref sig .tc := ⟨.hbm, 104, rfl⟩
abbrev main_v88 : Ref sig .tc := ⟨.hbm, 105, rfl⟩
abbrev main_cst_11 : Ref sig .tc := ⟨.hbm, 106, rfl⟩
abbrev main_v89 : Ref sig .tc := ⟨.hbm, 107, rfl⟩
abbrev main_v90 : Ref sig .tc := ⟨.hbm, 108, rfl⟩
abbrev main_cst_12 : Ref sig .tc := ⟨.hbm, 109, rfl⟩
abbrev main_v91 : Ref sig .tc := ⟨.hbm, 110, rfl⟩
abbrev main_v92 : Ref sig .tc := ⟨.hbm, 111, rfl⟩
abbrev main_cst_13 : Ref sig .tc := ⟨.hbm, 112, rfl⟩
abbrev main_v93 : Ref sig .tc := ⟨.hbm, 113, rfl⟩
abbrev main_v94 : Ref sig .tc := ⟨.hbm, 114, rfl⟩
abbrev main_cst_14 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_cst_15 : Ref sig .tc := ⟨.hbm, 145, rfl⟩
abbrev main_v124 : Ref sig .tc := ⟨.hbm, 146, rfl⟩
abbrev main_cst_16 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_cst_17 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩

abbrev nD : Nat := 1
abbrev τ : Topo := Topo.v7x

variable {F : FTy → Type} [FloatOps F]
-- ==== Proof.OnlineSoftmax.lean ====
/-
The running softmax of a row of scores that arrives in blocks, over the extended reals: the running maximum `runMax`, and
the weighted sum `runSum` that is rescaled whenever the maximum grows. `runSum_eq` states that the rescaled sum is the sum
of the exponentials against the last maximum; nothing is assumed of the scores or of the weights there.
-/
module

public import Idealize.ShloMosaic.Lib.Pipeline.ValueKit

@[expose] public section

noncomputable section

namespace Cert.OnlineSoftmax

open Idealize.ShloMosaic

/-- The greatest of finitely many extended reals, `⊥` where there are none. -/
abbrev top {n : ℕ} (s : Fin n → EReal) : EReal := Finset.univ.fold max ⊥ s

theorem le_top {n : ℕ} (s : Fin n → EReal) (x : Fin n) : s x ≤ top s :=
  (Finset.le_fold_max (s x)).mpr (.inr ⟨x, Finset.mem_univ x, le_rfl⟩)

/-- The running maximum after `n` blocks of scores. -/
def runMax {k : ℕ} (s : ℕ → Fin k → EReal) : ℕ → EReal
  | 0 => ⊥
  | n + 1 => max (runMax s n) (top (s n))

/-- The running weighted sum after `n` blocks: what was there, rescaled to the new maximum, and the block's own part. -/
def runSum {k : ℕ} (s v : ℕ → Fin k → EReal) : ℕ → EReal
  | 0 => 0
  | n + 1 => Ideal.exp2 (runMax s n - runMax s (n + 1)) * runSum s v n
      + ∑ x : Fin k, Ideal.exp2 (s n x - runMax s (n + 1)) * v n x

theorem exp2_nonneg (x : EReal) : 0 ≤ Ideal.exp2 x := by
  induction x using EReal.rec with
  | bot => simp
  | top => simp
  | coe r => rw [Ideal.exp2_coe]; exact_mod_cast (Real.rpow_pos_of_pos two_pos r).le

/-- Rescaling an exponential from one maximum to a later one. -/
theorem exp2_rescale {s a b : EReal} (h1 : s ≤ a) (h2 : a ≤ b) :
    Ideal.exp2 (a - b) * Ideal.exp2 (s - a) = Ideal.exp2 (s - b) := by
  induction b using EReal.rec with
  | bot =>
    obtain rfl := le_bot_iff.mp h2
    obtain rfl := le_bot_iff.mp h1
    simp
  | top => simp [sub_eq_add_neg]
  | coe b =>
    induction a using EReal.rec with
    | bot => obtain rfl := le_bot_iff.mp h1; simp [sub_eq_add_neg]
    | top => simp at h2
    | coe a =>
      induction s using EReal.rec with
      | bot => simp [sub_eq_add_neg]
      | top => simp at h1
      | coe s =>
        rw [← EReal.coe_sub, ← EReal.coe_sub, ← EReal.coe_sub, Ideal.exp2_coe, Ideal.exp2_coe, Ideal.exp2_coe, ← EReal.coe_mul]
        congr 1
        simp only [Real.rpow_eq_pow]
        rw [← Real.rpow_add two_pos]
        congr 1; ring

/-- A factor that is neither negative nor infinite distributes over a finite sum of extended reals. -/
theorem mul_sum_of_fin {ι : Type} (t : Finset ι) {a : EReal} (h0 : 0 ≤ a) (h1 : a ≠ ⊤) (f : ι → EReal) :
    a * ∑ i ∈ t, f i = ∑ i ∈ t, a * f i := by
  classical
  induction t using Finset.induction_on with
  | empty => simp
  | insert i t hi ih =>
    rw [Finset.sum_insert hi, Finset.sum_insert hi, EReal.left_distrib_of_nonneg_of_ne_top h0 h1, ih]

theorem exp2_sub_ne_top {a b : EReal} (h : a ≤ b) : Ideal.exp2 (a - b) ≠ ⊤ := by
  induction b using EReal.rec with
  | bot => obtain rfl := le_bot_iff.mp h; simp
  | top => simp [sub_eq_add_neg]
  | coe b =>
    induction a using EReal.rec with
    | bot => simp [sub_eq_add_neg]
    | top => simp at h
    | coe a => rw [← EReal.coe_sub, Ideal.exp2_coe]; exact EReal.coe_ne_top _

theorem runMax_mono {k : ℕ} (s : ℕ → Fin k → EReal) (n : ℕ) : runMax s n ≤ runMax s (n + 1) := le_max_left _ _

theorem le_runMax {k : ℕ} (s : ℕ → Fin k → EReal) (n p : ℕ) (x : Fin k) (h : p < n) : s p x ≤ runMax s n := by
  induction n with
  | zero => exact absurd h (Nat.not_lt_zero _)
  | succ n ih =>
    rcases Nat.lt_succ_iff_lt_or_eq.mp h with h | rfl
    · exact (ih h).trans (runMax_mono s n)
    · exact (le_top _ _).trans (le_max_right _ _)

/-- The running weighted sum is the sum over all the blocks of the exponentials against the last maximum. -/
theorem runSum_eq {k : ℕ} (s v : ℕ → Fin k → EReal) (n : ℕ) :
    runSum s v n = ∑ p ∈ Finset.range n, ∑ x : Fin k, Ideal.exp2 (s p x - runMax s n) * v p x := by
  induction n with
  | zero => simp [runSum]
  | succ n ih =>
    have hm := runMax_mono s n
    rw [runSum, ih, Finset.sum_range_succ, mul_sum_of_fin _ (exp2_nonneg _) (exp2_sub_ne_top hm)]
    congr 1
    refine Finset.sum_congr rfl fun p hp => ?_
    rw [mul_sum_of_fin _ (exp2_nonneg _) (exp2_sub_ne_top hm)]
    refine Finset.sum_congr rfl fun x _ => ?_
    rw [← mul_assoc, exp2_rescale (le_runMax s n p x (Finset.mem_range.mp hp)) hm]

end Cert.OnlineSoftmax

end
-- ==== Proof.AttnStep.lean ====
/-
One grid point of the attention call: what the two buffers carried between points (the running maxima and the running
weighted sums) hold after it, from what they held before.
-/
module

public import proofs.«01_k».proof.Proof.Gen.AttnIdeal.Frame
public import proofs.«01_k».proof.Proof.OnlineSoftmax
public import Idealize.ShloMosaic.Lib.Pipeline.ValueKit
public import Idealize.ShloMosaic.Lib.Pipeline.ReadBack

@[expose] public section

set_option maxRecDepth 16384

noncomputable section

namespace Cert.AttnIdeal.Step

open Cert.AttnIdeal Cert.AttnIdeal.Gen Cert.OnlineSoftmax Idealize.ShloMosaic Idealize.ShloMosaic.TcCoe Idealize.SL.Sem
open Idealize.ShloMosaic.Pipeline (Dat)

variable (m : (ℓ : Loc nD τ sig) → Buf (Elt Ideal) ℓ)

/-- The entry of a [4, 4096, 512] array at three numbers (each taken modulo its axis). -/
def at3 (X : FVec Ideal S4x4096x512 .bf16) (b i j : ℕ) : EReal :=
  X (ix3 ⟨b % 4, by omega⟩ ⟨i % 4096, by omega⟩ ⟨j % 512, by omega⟩)

/-- The queries, the keys and the values of the call. -/
abbrev qArr (c : Dev nD) : FVec Ideal S4x4096x512 .bf16 := m ((c : Thread nD τ).loc main_arg0)
abbrev kArr (c : Dev nD) : FVec Ideal S4x4096x512 .bf16 := m ((c : Thread nD τ).loc main_arg1)
abbrev vArr (c : Dev nD) : FVec Ideal S4x4096x512 .bf16 := m ((c : Thread nD τ).loc main_arg2)

/-- The score of query row `i` against key row `x` of batch `b`, head `h`: the product of 128 columns. -/
def score (Q K : FVec Ideal S4x4096x512 .bf16) (b h i x : ℕ) : EReal :=
  ∑ d : Fin 128, at3 Q b i (128 * h + d) * at3 K b x (128 * h + d)

/-- The scores of one query row, in blocks of 512 key rows. -/
def sBlk (Q K : FVec Ideal S4x4096x512 .bf16) (b h i : ℕ) (n : ℕ) (x : Fin 512) : EReal := score Q K b h i (512 * n + x)

/-- One column of the values of a head, in blocks of 512 key rows. -/
def vBlk (V : FVec Ideal S4x4096x512 .bf16) (b h j : ℕ) (n : ℕ) (x : Fin 512) : EReal := at3 V b (512 * n + x) (128 * h + j)

/-- Which block of each argument a grid point reads: batch, query block and key block are the digits of the point. -/
theorem idx : ∀ t : Fin cfg0.N, win0_0.index t = ![t.val / 64, t.val / 8 % 8, 0] ∧ win0_1.index t = ![t.val / 64, t.val % 8, 0]
    ∧ win0_2.index t = ![t.val / 64, t.val % 8, 0] :=
  (by decide +kernel : ∀ t : Fin grid0.N, _)

theorem ofBits_neg_inf : Ideal.ofBits FTy.f32 4286578688#32 = (⊥ : EReal) := by
  simp [Ideal.ofBits, Ideal.ieee]

/-- The maxima after a grid point, from those before it: block `n` of the keys, query rows from `i0`. -/
def newMax (Q K : FVec Ideal S4x4096x512 .bf16) (b i0 n : ℕ) (M : FVec Ideal S4x512x128 .f32) : FVec Ideal S4x512x128 .f32 :=
  fun y => max (M y) (top (sBlk Q K b (y 0) (i0 + y 1) n))

/-- The weighted sums after a grid point, from the maxima and the sums before it. -/
def newSum (Q K V : FVec Ideal S4x4096x512 .bf16) (b i0 n : ℕ) (M A : FVec Ideal S4x512x128 .f32) : FVec Ideal S4x512x128 .f32 :=
  fun y => Ideal.exp2 (M y - newMax Q K b i0 n M y) * A y
    + ∑ x : Fin 512, Ideal.exp2 (sBlk Q K b (y 0) (i0 + y 1) n x - newMax Q K b i0 n M (ix3 (y 0) (y 1) 0)) * vBlk V b (y 0) (y 2) n x

theorem sBlk_fun (Q K : FVec Ideal S4x4096x512 .bf16) (b h i n : ℕ) :
    sBlk Q K b h i n = fun x : Fin 512 => ∑ d : Fin 128, at3 Q b i (128 * h + d) * at3 K b (512 * n + x) (128 * h + d) := rfl

theorem exp2_eq (x : EReal) : (FloatOps.exp2 (F := Ideal) (φ := .f32) x : EReal) = Ideal.exp2 x := rfl

theorem eq_ix3 (y : S4x512x128.Idx) (h : Fin 4) (r : Fin 512) (j : Fin 128) (h0 : (y 0 : ℕ) = h) (h1 : (y 1 : ℕ) = r) (h2 : (y 2 : ℕ) = j) :
    y = ix3 h r j := by
  funext a
  fin_cases a
  · exact Fin.ext h0
  · exact Fin.ext h1
  · exact Fin.ext h2

theorem eq_ix3' (x : S1x512x128.Idx) : x = ix3 (0 : Fin 1) (x 1 : Fin 512) (x 2 : Fin 128) := by
  funext a
  fin_cases a
  · exact Fin.ext (Nat.lt_one_iff.mp (x 0).isLt)
  · rfl
  · rfl

section Payloads

variable (Q K V : FVec Ideal S4x4096x512 .bf16) (b i0 n : ℕ) (q k v : FVec Ideal S1x512x512 .bf16) (M A : FVec Ideal S4x512x128 .f32)
  (hq : ∀ r j : Fin 512, q (ix3 0 r j) = at3 Q b (i0 + r) j) (hk : ∀ r j : Fin 512, k (ix3 0 r j) = at3 K b (512 * n + r) j)
  (hv : ∀ r j : Fin 512, v (ix3 0 r j) = at3 V b (512 * n + r) j) (r : Fin 512) (j : Fin 128)

include hq hk in
/-- Head 0: the maxima. -/
theorem max0 : k0_pay8 (k0_pay6 (View.ld (Val := Elt Ideal) (S := S1x512x512) (e' := .bf16) k (Rect.unit ![0, 0, 0] ![1, 512, 128] inb_S1x512x512_S1x512x128_0_0_0)) (View.ld (Val := Elt Ideal) (S := S1x512x512) (e' := .bf16) q (Rect.unit ![0, 0, 0] ![1, 512, 128] inb_S1x512x512_S1x512x128_0_0_0)) (View.ld (Val := Elt Ideal) (S := S4x512x128) (e' := .f32) M (Rect.unit ![0, 0, 0] ![1, 512, 128] inb_S4x512x128_S1x512x128_0_0_0))) (ix3 0 r j) = newMax Q K b i0 n M (ix3 0 r j) := by
  pointwise [k0_pay4, k0_pay5, k0_pay6, k0_pay7, k0_pay8]
  simp only [ofBits_neg_inf, hq, hk]
  simp [newMax, top, sBlk_fun]

include hq hk hv in
/-- Head 0: the weighted sums. -/
theorem sum0 : k0_pay7 (View.ld (Val := Elt Ideal) (S := S1x512x512) (e' := .bf16) k (Rect.unit ![0, 0, 0] ![1, 512, 128] inb_S1x512x512_S1x512x128_0_0_0)) (View.ld (Val := Elt Ideal) (S := S1x512x512) (e' := .bf16) v (Rect.unit ![0, 0, 0] ![1, 512, 128] inb_S1x512x512_S1x512x128_0_0_0)) (View.ld (Val := Elt Ideal) (S := S1x512x512) (e' := .bf16) q (Rect.unit ![0, 0, 0] ![1, 512, 128] inb_S1x512x512_S1x512x128_0_0_0)) (View.ld (Val := Elt Ideal) (S := S4x512x128) (e' := .f32) M (Rect.unit ![0, 0, 0] ![1, 512, 128] inb_S4x512x128_S1x512x128_0_0_0)) (View.ld (Val := Elt Ideal) (S := S4x512x128) (e' := .f32) A (Rect.unit ![0, 0, 0] ![1, 512, 128] inb_S4x512x128_S1x512x128_0_0_0)) (ix3 0 r j) = newSum Q K V b i0 n M A (ix3 0 r j) := by
  pointwise [k0_pay4, k0_pay5, k0_pay6, k0_pay7, k0_pay8]
  simp only [ofBits_neg_inf, hq, hk, hv, exp2_eq]
  simp [newSum, newMax, top, sBlk_fun, vBlk]

include hq hk in
/-- Head 1: the maxima. -/
theorem max1 : k0_pay13 (k0_pay11 (View.ld (Val := Elt Ideal) (S := S1x512x512) (e' := .bf16) k (Rect.unit ![0, 0, 128] ![1, 512, 128] inb_S1x512x512_S1x512x128_0_0_128)) (View.ld (Val := Elt Ideal) (S := S1x512x512) (e' := .bf16) q (Rect.unit ![0, 0, 128] ![1, 512, 128] inb_S1x512x512_S1x512x128_0_0_128)) (View.ld (Val := Elt Ideal) (S := S4x512x128) (e' := .f32) M (Rect.unit ![1, 0, 0] ![1, 512, 128] inb_S4x512x128_S1x512x128_1_0_0))) (ix3 0 r j) = newMax Q K b i0 n M (ix3 1 r j) := by
  pointwise [k0_pay9, k0_pay10, k0_pay11, k0_pay12, k0_pay13]
  simp only [ofBits_neg_inf, hq, hk]
  simp [newMax, top, sBlk_fun]

include hq hk hv in
/-- Head 1: the weighted sums. -/
theorem sum1 : k0_pay12 (View.ld (Val := Elt Ideal) (S := S1x512x512) (e' := .bf16) k (Rect.unit ![0, 0, 128] ![1, 512, 128] inb_S1x512x512_S1x512x128_0_0_128)) (View.ld (Val := Elt Ideal) (S := S1x512x512) (e' := .bf16) v (Rect.unit ![0, 0, 128] ![1, 512, 128] inb_S1x512x512_S1x512x128_0_0_128)) (View.ld (Val := Elt Ideal) (S := S1x512x512) (e' := .bf16) q (Rect.unit ![0, 0, 128] ![1, 512, 128] inb_S1x512x512_S1x512x128_0_0_128)) (View.ld (Val := Elt Ideal) (S := S4x512x128) (e' := .f32) M (Rect.unit ![1, 0, 0] ![1, 512, 128] inb_S4x512x128_S1x512x128_1_0_0)) (View.ld (Val := Elt Ideal) (S := S4x512x128) (e' := .f32) A (Rect.unit ![1, 0, 0] ![1, 512, 128] inb_S4x512x128_S1x512x128_1_0_0)) (ix3 0 r j) = newSum Q K V b i0 n M A (ix3 1 r j) := by
  pointwise [k0_pay9, k0_pay10, k0_pay11, k0_pay12, k0_pay13]
  simp only [ofBits_neg_inf, hq, hk, hv, exp2_eq]
  simp [newSum, newMax, top, sBlk_fun, vBlk]

include hq hk in
/-- Head 2: the maxima. -/
theorem max2 : k0_pay18 (View.ld (Val := Elt Ideal) (S := S1x512x512) (e' := .bf16) k (Rect.unit ![0, 0, 256] ![1, 512, 128] inb_S1x512x512_S1x512x128_0_0_256)) (View.ld (Val := Elt Ideal) (S := S1x512x512) (e' := .bf16) q (Rect.unit ![0, 0, 256] ![1, 512, 128] inb_S1x512x512_S1x512x128_0_0_256)) (View.ld (Val := Elt Ideal) (S := S4x512x128) (e' := .f32) M (Rect.unit ![2, 0, 0] ![1, 512, 128] inb_S4x512x128_S1x512x128_2_0_0)) (ix3 0 r j) = newMax Q K b i0 n M (ix3 2 r j) := by
  pointwise [k0_pay14, k0_pay15, k0_pay16, k0_pay17, k0_pay18]
  simp only [ofBits_neg_inf, hq, hk]
  simp [newMax, top, sBlk_fun]

include hq hk hv in
/-- Head 2: the weighted sums. -/
theorem sum2 : k0_pay17 (View.ld (Val := Elt Ideal) (S := S1x512x512) (e' := .bf16) k (Rect.unit ![0, 0, 256] ![1, 512, 128] inb_S1x512x512_S1x512x128_0_0_256)) (View.ld (Val := Elt Ideal) (S := S1x512x512) (e' := .bf16) v (Rect.unit ![0, 0, 256] ![1, 512, 128] inb_S1x512x512_S1x512x128_0_0_256)) (View.ld (Val := Elt Ideal) (S := S1x512x512) (e' := .bf16) q (Rect.unit ![0, 0, 256] ![1, 512, 128] inb_S1x512x512_S1x512x128_0_0_256)) (View.ld (Val := Elt Ideal) (S := S4x512x128) (e' := .f32) M (Rect.unit ![2, 0, 0] ![1, 512, 128] inb_S4x512x128_S1x512x128_2_0_0)) (View.ld (Val := Elt Ideal) (S := S4x512x128) (e' := .f32) A (Rect.unit ![2, 0, 0] ![1, 512, 128] inb_S4x512x128_S1x512x128_2_0_0)) (ix3 0 r j) = newSum Q K V b i0 n M A (ix3 2 r j) := by
  pointwise [k0_pay14, k0_pay15, k0_pay16, k0_pay17, k0_pay18]
  simp only [ofBits_neg_inf, hq, hk, hv, exp2_eq]
  simp [newSum, newMax, top, sBlk_fun, vBlk]

include hq hk in
/-- Head 3: the maxima. -/
theorem max3 : k0_pay23 (View.ld (Val := Elt Ideal) (S := S1x512x512) (e' := .bf16) k (Rect.unit ![0, 0, 384] ![1, 512, 128] inb_S1x512x512_S1x512x128_0_0_384)) (View.ld (Val := Elt Ideal) (S := S1x512x512) (e' := .bf16) q (Rect.unit ![0, 0, 384] ![1, 512, 128] inb_S1x512x512_S1x512x128_0_0_384)) (View.ld (Val := Elt Ideal) (S := S4x512x128) (e' := .f32) M (Rect.unit ![3, 0, 0] ![1, 512, 128] inb_S4x512x128_S1x512x128_3_0_0)) (ix3 0 r j) = newMax Q K b i0 n M (ix3 3 r j) := by
  pointwise [k0_pay19, k0_pay20, k0_pay21, k0_pay22, k0_pay23]
  simp only [ofBits_neg_inf, hq, hk]
  simp [newMax, top, sBlk_fun]

include hq hk hv in
/-- Head 3: the weighted sums. -/
theorem sum3 : k0_pay22 (View.ld (Val := Elt Ideal) (S := S1x512x512) (e' := .bf16) k (Rect.unit ![0, 0, 384] ![1, 512, 128] inb_S1x512x512_S1x512x128_0_0_384)) (View.ld (Val := Elt Ideal) (S := S1x512x512) (e' := .bf16) v (Rect.unit ![0, 0, 384] ![1, 512, 128] inb_S1x512x512_S1x512x128_0_0_384)) (View.ld (Val := Elt Ideal) (S := S1x512x512) (e' := .bf16) q (Rect.unit ![0, 0, 384] ![1, 512, 128] inb_S1x512x512_S1x512x128_0_0_384)) (View.ld (Val := Elt Ideal) (S := S4x512x128) (e' := .f32) M (Rect.unit ![3, 0, 0] ![1, 512, 128] inb_S4x512x128_S1x512x128_3_0_0)) (View.ld (Val := Elt Ideal) (S := S4x512x128) (e' := .f32) A (Rect.unit ![3, 0, 0] ![1, 512, 128] inb_S4x512x128_S1x512x128_3_0_0)) (ix3 0 r j) = newSum Q K V b i0 n M A (ix3 3 r j) := by
  pointwise [k0_pay19, k0_pay20, k0_pay21, k0_pay22, k0_pay23]
  simp only [ofBits_neg_inf, hq, hk, hv, exp2_eq]
  simp [newSum, newMax, top, sBlk_fun, vBlk]

end Payloads

/-- The blocks of the queries, keys and values that a grid point reads. -/
abbrev qB (c : Dev nD) (t : Fin cfg0.N) : FVec Ideal S1x512x512 .bf16 := iblk m c 0 t
abbrev kB (c : Dev nD) (t : Fin cfg0.N) : FVec Ideal S1x512x512 .bf16 := iblk m c 1 t
abbrev vB (c : Dev nD) (t : Fin cfg0.N) : FVec Ideal S1x512x512 .bf16 := iblk m c 2 t

theorem q_at (c : Dev nD) (t : Fin cfg0.N) (r j : Fin 512) :
    qB m c t (ix3 0 r j) = at3 (qArr m c) (t.val / 64) (512 * (t.val / 8 % 8) + r) j := by
  have ht : t.val < 256 := lt_of_lt_of_eq t.isLt N_0
  simp only [at3]
  blk_point [iblk, V, idx t]

theorem k_at (c : Dev nD) (t : Fin cfg0.N) (r j : Fin 512) :
    kB m c t (ix3 0 r j) = at3 (kArr m c) (t.val / 64) (512 * (t.val % 8) + r) j := by
  have ht : t.val < 256 := lt_of_lt_of_eq t.isLt N_0
  simp only [at3]
  blk_point [iblk, V, idx t]

theorem v_at (c : Dev nD) (t : Fin cfg0.N) (r j : Fin 512) :
    vB m c t (ix3 0 r j) = at3 (vArr m c) (t.val / 64) (512 * (t.val % 8) + r) j := by
  have ht : t.val < 256 := lt_of_lt_of_eq t.isLt N_0
  simp only [at3]
  blk_point [iblk, V, idx t]

end Cert.AttnIdeal.Step

end
-- ==== Proof.AttnPoint.lean ====
/-
The attention call point by point: after each grid point the two buffers carried between points are the running maxima and
the running weighted sums of the key blocks seen so far.
-/
module

public import proofs.«01_k».proof.Proof.AttnStep
public import proofs.«01_k».proof.Proof.Gen.AttnIdeal.Value

@[expose] public section

set_option maxRecDepth 16384

noncomputable section

namespace Cert.AttnIdeal.Step

open Cert.AttnIdeal Cert.AttnIdeal.Gen Cert.OnlineSoftmax Idealize.ShloMosaic Idealize.ShloMosaic.TcCoe Idealize.SL.Sem
open Idealize.ShloMosaic.Pipeline (Dat)

variable (m : (ℓ : Loc nD τ sig) → Buf (Elt Ideal) ℓ)

/-- The maxima that the point before `t` left, and the weighted sums. -/
abbrev prevM (c : Dev nD) (t : Fin cfg0.N) : FVec Ideal S4x512x128 .f32 :=
  (outsAt0 m c (t.val - 1) (Nat.lt_of_le_of_lt (Nat.sub_le _ _) t.isLt)).2.1
abbrev prevA (c : Dev nD) (t : Fin cfg0.N) : FVec Ideal S4x512x128 .f32 :=
  (outsAt0 m c (t.val - 1) (Nat.lt_of_le_of_lt (Nat.sub_le _ _) t.isLt)).2.2

/-- Stores made before others that already cover an index do not matter there. -/
theorem canon_append_left {Val : EltTy → Type} {S : Shape} {e : EltTy} [∀ e, Nonempty (Val e)] (L' : List (View.Piece Val S e)) :
    ∀ (L : List (View.Piece Val S e)) (y : S.Idx) (_ : ∃ p ∈ L, y ∈ p.1.set), View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_left L' L y ?_
      obtain ⟨q, hq, hyq⟩ := hy
      rcases List.mem_cons.mp hq with rfl | hq'
      · exact absurd hyq hm
      · exact ⟨q, hq', hyq⟩

/-- The buffers as the first key block fills them: −∞ and 0. -/
theorem fillM : (k0_pay2 : FVec Ideal S4x512x128 .f32) = fun _ => (⊥ : EReal) := by
  funext y
  pointwise [k0_pay2]
  simp [ofBits_neg_inf]

theorem fillA : (k0_pay3 : FVec Ideal S4x512x128 .f32) = fun _ => (0 : EReal) := by
  funext y
  pointwise [k0_pay3]

/-- At the first key block of a query block the maxima start from −∞. -/
theorem maxA (c : Dev nD) (t : Fin cfg0.N) (h0 : t.val % 8 = 0) (h1 : ¬t.val % 8 = 7) (y : S4x512x128.Idx) :
    (outsAt0 m c t.val t.isLt).2.1 y
      = newMax (qArr m c) (kArr m c) (t.val / 64) (512 * (t.val / 8 % 8)) (t.val % 8) (fun _ => ⊥) y := by
  rw [outsAt0_A m c t h0 h1]
  frame_out
  simp (discharger := decide) only [↓View.readCov_skip, ↓View.readCov_cons_toLoadRect, ↓View.readCov_fill]
  refine (canon_append_left [_] [_, _, _, _] y (View.cover_of_tiled_head _ _ _ (by rfl) _)).trans ?_
  canon_tiles x h
  case piece0 =>
    rw [fillM]
    rw [eq_ix3 y 3 (x 1) (x 2) (by omega) (by omega) (by omega), eq_ix3' x]
    exact max3 _ _ _ _ _ _ _ _ (q_at m c t) (k_at m c t) _ _
  case piece1 =>
    rw [fillM]
    rw [eq_ix3 y 2 (x 1) (x 2) (by omega) (by omega) (by omega), eq_ix3' x]
    exact max2 _ _ _ _ _ _ _ _ (q_at m c t) (k_at m c t) _ _
  case piece2 =>
    rw [fillM]
    rw [eq_ix3 y 1 (x 1) (x 2) (by omega) (by omega) (by omega), eq_ix3' x]
    exact max1 _ _ _ _ _ _ _ _ (q_at m c t) (k_at m c t) _ _
  case piece3 =>
    rw [fillM]
    rw [eq_ix3 y 0 (x 1) (x 2) (by omega) (by omega) (by omega), eq_ix3' x]
    exact max0 _ _ _ _ _ _ _ _ (q_at m c t) (k_at m c t) _ _

/-- At a later key block (not the last) the maxima continue those before. -/
theorem maxB (c : Dev nD) (t : Fin cfg0.N) (h0 : ¬t.val % 8 = 0) (h1 : ¬t.val % 8 = 7) (y : S4x512x128.Idx) :
    (outsAt0 m c t.val t.isLt).2.1 y
      = newMax (qArr m c) (kArr m c) (t.val / 64) (512 * (t.val / 8 % 8)) (t.val % 8) (prevM m c t) y := by
  rw [outsAt0_B m c t h0 h1]
  frame_out
  canon_tiles x h
  case piece0 =>
    simp only [read_unread_whole]
    rw [eq_ix3 y 3 (x 1) (x 2) (by omega) (by omega) (by omega), eq_ix3' x]
    exact max3 _ _ _ _ _ _ _ _ (q_at m c t) (k_at m c t) _ _
  case piece1 =>
    simp only [read_unread_whole]
    rw [eq_ix3 y 2 (x 1) (x 2) (by omega) (by omega) (by omega), eq_ix3' x]
    exact max2 _ _ _ _ _ _ _ _ (q_at m c t) (k_at m c t) _ _
  case piece2 =>
    simp only [read_unread_whole]
    rw [eq_ix3 y 1 (x 1) (x 2) (by omega) (by omega) (by omega), eq_ix3' x]
    exact max1 _ _ _ _ _ _ _ _ (q_at m c t) (k_at m c t) _ _
  case piece3 =>
    simp only [read_unread_whole]
    rw [eq_ix3 y 0 (x 1) (x 2) (by omega) (by omega) (by omega), eq_ix3' x]
    exact max0 _ _ _ _ _ _ _ _ (q_at m c t) (k_at m c t) _ _

/-- At the first key block of a query block the weighted sums start from 0. -/
theorem sumA (c : Dev nD) (t : Fin cfg0.N) (h0 : t.val % 8 = 0) (h1 : ¬t.val % 8 = 7) (y : S4x512x128.Idx) :
    (outsAt0 m c t.val t.isLt).2.2 y
      = newSum (qArr m c) (kArr m c) (vArr m c) (t.val / 64) (512 * (t.val / 8 % 8)) (t.val % 8) (fun _ => ⊥) (fun _ => 0) y := by
  rw [outsAt0_A m c t h0 h1]
  frame_out
  simp (discharger := decide) only [↓View.readCov_skip, ↓View.readCov_cons_toLoadRect, ↓View.readCov_fill]
  refine (canon_append_left [_] [_, _, _, _] y (View.cover_of_tiled_head _ _ _ (by rfl) _)).trans ?_
  canon_tiles x h
  case piece0 =>
    rw [fillM, fillA]
    rw [eq_ix3 y 3 (x 1) (x 2) (by omega) (by omega) (by omega), eq_ix3' x]
    exact sum3 _ _ _ _ _ _ _ _ _ _ _ (q_at m c t) (k_at m c t) (v_at m c t) _ _
  case piece1 =>
    rw [fillM, fillA]
    rw [eq_ix3 y 2 (x 1) (x 2) (by omega) (by omega) (by omega), eq_ix3' x]
    exact sum2 _ _ _ _ _ _ _ _ _ _ _ (q_at m c t) (k_at m c t) (v_at m c t) _ _
  case piece2 =>
    rw [fillM, fillA]
    rw [eq_ix3 y 1 (x 1) (x 2) (by omega) (by omega) (by omega), eq_ix3' x]
    exact sum1 _ _ _ _ _ _ _ _ _ _ _ (q_at m c t) (k_at m c t) (v_at m c t) _ _
  case piece3 =>
    rw [fillM, fillA]
    rw [eq_ix3 y 0 (x 1) (x 2) (by omega) (by omega) (by omega), eq_ix3' x]
    exact sum0 _ _ _ _ _ _ _ _ _ _ _ (q_at m c t) (k_at m c t) (v_at m c t) _ _

/-- At a later key block (not the last) the weighted sums continue those before. -/
theorem sumB (c : Dev nD) (t : Fin cfg0.N) (h0 : ¬t.val % 8 = 0) (h1 : ¬t.val % 8 = 7) (y : S4x512x128.Idx) :
    (outsAt0 m c t.val t.isLt).2.2 y
      = newSum (qArr m c) (kArr m c) (vArr m c) (t.val / 64) (512 * (t.val / 8 % 8)) (t.val % 8) (prevM m c t) (prevA m c t) y := by
  rw [outsAt0_B m c t h0 h1]
  frame_out
  canon_tiles x h
  case piece0 =>
    simp only [read_unread_whole]
    rw [eq_ix3 y 3 (x 1) (x 2) (by omega) (by omega) (by omega), eq_ix3' x]
    exact sum3 _ _ _ _ _ _ _ _ _ _ _ (q_at m c t) (k_at m c t) (v_at m c t) _ _
  case piece1 =>
    simp only [read_unread_whole]
    rw [eq_ix3 y 2 (x 1) (x 2) (by omega) (by omega) (by omega), eq_ix3' x]
    exact sum2 _ _ _ _ _ _ _ _ _ _ _ (q_at m c t) (k_at m c t) (v_at m c t) _ _
  case piece2 =>
    simp only [read_unread_whole]
    rw [eq_ix3 y 1 (x 1) (x 2) (by omega) (by omega) (by omega), eq_ix3' x]
    exact sum1 _ _ _ _ _ _ _ _ _ _ _ (q_at m c t) (k_at m c t) (v_at m c t) _ _
  case piece3 =>
    simp only [read_unread_whole]
    rw [eq_ix3 y 0 (x 1) (x 2) (by omega) (by omega) (by omega), eq_ix3' x]
    exact sum0 _ _ _ _ _ _ _ _ _ _ _ (q_at m c t) (k_at m c t) (v_at m c t) _ _

/-- The output block: each column of a head divided by the column 64 places further. -/
theorem pay1_at (a : Fin 4 → FVec Ideal S1x512x128 .f32) (y : S1x512x256.Idx) (h : Fin 4) (j : Fin 64) (hy : (y 2 : ℕ) = 64 * h + j) :
    k0_pay1 (F := Ideal) (a 0) (a 1) (a 2) (a 3) y
      = Ideal.div (a h (ix3 (0 : Fin 1) (y 1 : Fin 512) ⟨j, by omega⟩)) (a h (ix3 (0 : Fin 1) (y 1 : Fin 512) ⟨64 + j, by omega⟩)) := by
  have hj := j.isLt
  pointwise [k0_pay1]
  fin_cases h
  · have e : (y 2 : ℕ) = j := by simpa using hy
    rw [dif_pos (by omega)]
    simp only [e]
    rfl
  · have e : (y 2 : ℕ) - 64 = j := by simp at hy; omega
    rw [dif_neg (by simp at hy; omega), dif_pos (by omega)]
    simp only [e]
    rfl
  · have e : (y 2 : ℕ) - 64 - 64 = j := by simp at hy; omega
    rw [dif_neg (by simp at hy; omega), dif_neg (by simp at hy; omega), dif_pos (by omega)]
    simp only [e]
    rfl
  · have e : (y 2 : ℕ) - 64 - 64 - 64 = j := by simp at hy; omega
    rw [dif_neg (by simp at hy; omega), dif_neg (by simp at hy; omega), dif_neg (by simp at hy; omega)]
    simp only [e]
    rfl

/-- At the last key block of a query block the output block is the quotient of the finished sums. -/
theorem outC (c : Dev nD) (t : Fin cfg0.N) (h0 : ¬t.val % 8 = 0) (h1 : t.val % 8 = 7) (y : S1x512x256.Idx) (h : Fin 4) (j : Fin 64)
    (hy : (y 2 : ℕ) = 64 * h + j) :
    (outsAt0 m c t.val t.isLt).1 y = Ideal.div
      (newSum (qArr m c) (kArr m c) (vArr m c) (t.val / 64) (512 * (t.val / 8 % 8)) (t.val % 8) (prevM m c t) (prevA m c t) (ix3 h (y 1 : Fin 512) ⟨j, by omega⟩))
      (newSum (qArr m c) (kArr m c) (vArr m c) (t.val / 64) (512 * (t.val / 8 % 8)) (t.val % 8) (prevM m c t) (prevA m c t) (ix3 h (y 1 : Fin 512) ⟨64 + j, by omega⟩)) := by
  rw [outsAt0_C m c t h0 h1]
  frame_out
  simp (discharger := decide) only [↓View.readCov_skip, ↓View.readCov_cons_toLoadRect, ↓View.readCov_fill]
  simp only [read_unread_whole]
  refine (pay1_at ![_, _, _, _] y h j hy).trans ?_
  congr 1
  all_goals
    fin_cases h
    · exact sum0 _ _ _ _ _ _ _ _ _ _ _ (q_at m c t) (k_at m c t) (v_at m c t) _ _
    · exact sum1 _ _ _ _ _ _ _ _ _ _ _ (q_at m c t) (k_at m c t) (v_at m c t) _ _
    · exact sum2 _ _ _ _ _ _ _ _ _ _ _ (q_at m c t) (k_at m c t) (v_at m c t) _ _
    · exact sum3 _ _ _ _ _ _ _ _ _ _ _ (q_at m c t) (k_at m c t) (v_at m c t) _ _

/-- After every grid point but the last of a query block, the carried buffers are the running maximum and the running weighted
sum of the key blocks seen so far. -/
theorem inv (c : Dev nD) : ∀ (n : ℕ) (hn : n < cfg0.N), n % 8 ≠ 7 → ∀ y : S4x512x128.Idx,
    (outsAt0 m c n hn).2.1 y = runMax (sBlk (qArr m c) (kArr m c) (n / 64) (y 0) (512 * (n / 8 % 8) + y 1)) (n % 8 + 1)
    ∧ (outsAt0 m c n hn).2.2 y
      = runSum (sBlk (qArr m c) (kArr m c) (n / 64) (y 0) (512 * (n / 8 % 8) + y 1)) (vBlk (vArr m c) (n / 64) (y 0) (y 2)) (n % 8 + 1) := by
  intro n
  induction n with
  | zero =>
    intro hn h7 y
    rw [maxA m c ⟨0, hn⟩ rfl h7 y, sumA m c ⟨0, hn⟩ rfl h7 y]
    exact ⟨rfl, rfl⟩
  | succ n ih =>
    intro hn h7 y
    by_cases h0 : (n + 1) % 8 = 0
    · rw [maxA m c ⟨n + 1, hn⟩ h0 h7 y, sumA m c ⟨n + 1, hn⟩ h0 h7 y]
      simp only [h0, newMax, newSum]
      exact ⟨rfl, rfl⟩
    · have ih' := ih (by omega) (by omega)
      have e1 : (n + 1) / 64 = n / 64 := by omega
      have e2 : (n + 1) / 8 % 8 = n / 8 % 8 := by omega
      have e3 : (n + 1) % 8 = n % 8 + 1 := by omega
      rw [maxB m c ⟨n + 1, hn⟩ h0 h7 y, sumB m c ⟨n + 1, hn⟩ h0 h7 y]
      have hM : ∀ y, prevM m c ⟨n + 1, hn⟩ y = _ := fun y => (ih' y).1
      have hA : ∀ y, prevA m c ⟨n + 1, hn⟩ y = _ := fun y => (ih' y).2
      simp only [newMax, newSum, hM, hA, e1, e2, e3]
      exact ⟨rfl, rfl⟩

/-- What the call computes at batch `b`, query row `i`, output column `x` (64 to a head): the weighted sum of the value column
divided by the weighted sum of the column 64 places further. -/
def attnOut (Q K V : FVec Ideal S4x4096x512 .bf16) (b i x : ℕ) : EReal :=
  Ideal.div (runSum (sBlk Q K b (x / 64) i) (vBlk V b (x / 64) (x % 64)) 8)
    (runSum (sBlk Q K b (x / 64) i) (vBlk V b (x / 64) (64 + x % 64)) 8)

/-- The output block of a query block. -/
theorem out_block (c : Dev nD) (t : Fin cfg0.N) (h1 : t.val % 8 = 7) (y : S1x512x256.Idx) :
    (outsAt0 m c t.val t.isLt).1 y
      = attnOut (qArr m c) (kArr m c) (vArr m c) (t.val / 64) (512 * (t.val / 8 % 8) + y 1) (y 2) := by
  have hy : (y 2 : ℕ) < 256 := (y 2).isLt
  have ht := t.isLt
  rw [outC m c t (by omega) h1 y ⟨(y 2 : ℕ) / 64, by omega⟩ ⟨(y 2 : ℕ) % 64, by omega⟩ (Nat.div_add_mod _ _).symm]
  have ih' := inv m c (t.val - 1) (by omega) (by omega)
  have e1 : (t.val - 1) / 64 = t.val / 64 := by omega
  have e2 : (t.val - 1) / 8 % 8 = t.val / 8 % 8 := by omega
  have e3 : (t.val - 1) % 8 + 1 = 7 := by omega
  have hM : ∀ y, prevM m c t y = _ := fun y => (ih' y).1
  have hA : ∀ y, prevA m c t y = _ := fun y => (ih' y).2
  simp only [newMax, newSum, hM, hA, e1, e2, e3, h1]
  rfl

/-- Which block of the output a grid point holds. -/
theorem idx3 : ∀ t : Fin cfg0.N, win0_3.index t = ![t.val / 64, t.val / 8 % 8, 0] :=
  (by decide +kernel : ∀ t : Fin grid0.N, _)

/-- The array that the call leaves. -/
theorem final (c : Dev nD) : (dats m 0 c).arrAt 3 (cfgs 0).N
    = fun i : S4x4096x256.Idx => attnOut (qArr m c) (kArr m c) (vArr m c) (i 0) (i 1) (i 2) := by
  refine (dats m 0 c).arrAt_eq_of_covers 3 _ (by decide +kernel) fun t hf y => ?_
  blk_simp
  rw [after0_3]
  have h7 : t.val % 8 = 7 := (flush0_3 t).mp hf
  refine (out_block m c t h7 _).trans ?_
  have ht : t.val < 256 := lt_of_lt_of_eq t.isLt N_0
  blk_simp [idx3 t]
  rw [Nat.mul_comm (t.val / 8 % 8) 512]

end Cert.AttnIdeal.Step

end
-- ==== Proof.AttnRef.lean ====
/-
The reference's attention read entry by entry, and the shape facts that the reference and the precondition state.
-/
module

public import proofs.«01_k».proof.AttnRefIdeal
public import proofs.«01_k».proof.Pre_attn_pre
public import proofs.«01_k».proof.Proof.AttnStep
public import Idealize.ShloMosaic.Lib.Claim

@[expose] public section

set_option maxRecDepth 16384

noncomputable section

namespace Cert.AttnRefIdeal.Own

open Idealize.ShloMosaic Idealize.SL.Sem

/-- The shape facts of the reference. -/
instance facts₀ : Cert.AttnRefIdeal.Facts₀ where
  bitsLt_bf16_f32 := by decide
  shapeCasts_S4x4096x512_S4x4096x4x128 := by decide
  transposes_S4x4096x4x128_S4x4x4096x128_0_2_1_3 := by decide
  slices_S4x4x4096x128_S4x4x4096x64_0_0_0_0 := by decide
  bcast_S_S4x4x4096x4096 := by decide
  reducesTo_S4x4x4096x4096_S4x4x4096_d3 := by decide
  h_S_ := by decide
  bcast_S_S4x4x4096 := by decide
  bcast_S4x4x4096_S4x4x4096x1_0_1_2 := by decide
  bcast_S4x4x4096x1_S4x4x4096x4096_0_1_2_3 := by decide
  transposes_S4x4x4096x64_S4x4096x4x64_0_2_1_3 := by decide
  shapeCasts_S4x4096x4x64_S4x4096x256 := by decide
  dot_S4x4x4096x128_S4x4x4096x128_S4x4x4096x4096_3_3_2_2_01_01_wf := by decide
  dot_S4x4x4096x4096_S4x4x4096x64_S4x4x4096x64_3_2_2_3_01_01_wf := by decide

instance facts : Cert.AttnRefIdeal.Facts where

/-- The shape facts of the precondition. -/
instance preFacts : Cert.Pre_attn_pre.Facts where
  bitsLt_bf16_f32 := by decide
  shapeCasts_S4x4096x512_S4x4096x4x128 := by decide
  transposes_S4x4096x4x128_S4x4x4096x128_0_2_1_3 := by decide
  slices_S4x4x4096x128_S4x4x4096x64_0_0_0_64 := by decide
  bcast_S_S4x4096x512 := by decide
  bcast_S_S4x4x4096x64 := by decide

open Cert.AttnIdeal.Step Cert.OnlineSoftmax
open Cert.AttnRefIdeal.Facts₀

/-- An argument split into heads: `[b, 4096, 512]` as `[b, h, 4096, 128]`. -/
def heads (X : FVec Ideal S4x4096x512 .bf16) : FVec Ideal S4x4x4096x128 .f32 :=
  transpose S4x4x4096x128 [0, 2, 1, 3] (shapeCast S4x4096x4x128 (extf .f32 X bitsLt_bf16_f32) shapeCasts_S4x4096x512_S4x4096x4x128)
    transposes_S4x4096x4x128_S4x4x4096x128_0_2_1_3

/-- The reference's scores, multiplied by the logarithm of 2. -/
def scores (Q K : FVec Ideal S4x4096x512 .bf16) : FVec Ideal S4x4x4096x4096 .f32 :=
  mulf (Host.dotGeneral dot_S4x4x4096x128_S4x4x4096x128_S4x4x4096x4096_3_3_2_2_01_01 none (heads Q) (heads K))
    (broadcastInDim S4x4x4096x4096 ![] bcast_S_S4x4x4096x4096 (Host.log (constant S_ FTy.f32 1073741824#32)))

/-- The largest score of each query row. -/
def rowMax (Q K : FVec Ideal S4x4096x512 .bf16) : FVec Ideal S4x4x4096 .f32 :=
  Host.reduce FloatOps.maximumf (scores Q K) (constant S_ FTy.f32 4286578688#32) reducesTo_S4x4x4096x4096_S4x4x4096_d3 h_S_

/-- The exponentials of scores less the largest of their row. -/
def expoOf (S : FVec Ideal S4x4x4096x4096 .f32) (X : FVec Ideal S4x4x4096 .f32) : FVec Ideal S4x4x4096x4096 .f32 :=
  Host.exp (subf S
    (broadcastInDim S4x4x4096x4096 ![0, 1, 2, 3] bcast_S4x4x4096x1_S4x4x4096x4096_0_1_2_3
      (broadcastInDim S4x4x4096x1 ![0, 1, 2] bcast_S4x4x4096_S4x4x4096x1_0_1_2
        (maximumf (broadcastInDim S4x4x4096 ![] bcast_S_S4x4x4096 (constant S_ FTy.f32 4286578688#32)) X))))

/-- The softmax's numerators. -/
def expo (Q K : FVec Ideal S4x4096x512 .bf16) : FVec Ideal S4x4x4096x4096 .f32 := expoOf (scores Q K) (rowMax Q K)

/-- The reference's result. -/
def REF (Q K V : FVec Ideal S4x4096x512 .bf16) : FVec Ideal S4x4096x256 .f32 :=
  shapeCast S4x4096x256 (transpose S4x4096x4x64 [0, 2, 1, 3]
    (Host.dotGeneral dot_S4x4x4096x4096_S4x4x4096x64_S4x4x4096x64_3_2_2_3_01_01 none
      (Host.divf (expo Q K)
        (broadcastInDim S4x4x4096x4096 ![0, 1, 2, 3] bcast_S4x4x4096x1_S4x4x4096x4096_0_1_2_3
          (broadcastInDim S4x4x4096x1 ![0, 1, 2] bcast_S4x4x4096_S4x4x4096x1_0_1_2
            (Host.reduceAdd (expo Q K) (constant S_ FTy.f32 0#32) reducesTo_S4x4x4096x4096_S4x4x4096_d3 h_S_))))
      (extractStridedSlice S4x4x4096x64 ![0, 0, 0, 0] (heads V) slices_S4x4x4096x128_S4x4x4096x64_0_0_0_0))
    transposes_S4x4x4096x64_S4x4096x4x64_0_2_1_3) shapeCasts_S4x4096x4x64_S4x4096x256

/-- A maximum along the last of four axes, at sizes that are variables. -/
theorem reduce_max_last {A B C N : ℕ} (X : FVec Ideal ⟨4, ![A, B, C, N]⟩ .f32) (w : BitVec 32)
    (h : (⟨4, ![A, B, C, N]⟩ : Shape).ReducesTo [3] ⟨3, ![A, B, C]⟩) (hu : 0 < S_.numel) (a : Fin A) (b : Fin B) (c : Fin C) :
    Host.reduce FloatOps.maximumf X (constant S_ FTy.f32 w) h hu (ix3 a b c)
      = Finset.univ.fold max (Ideal.ofBits FTy.f32 w) fun k : Fin N => X (ix4 a b c k) := by
  pointwise

theorem rowMax_at (Q K : FVec Ideal S4x4096x512 .bf16) (b h : Fin 4) (i : Fin 4096) :
    rowMax Q K (ix3 b h i) = top fun x : Fin 4096 => scores Q K (ix4 b h i x) := by
  rw [rowMax, reduce_max_last, ofBits_neg_inf, top]

theorem heads_at (X : FVec Ideal S4x4096x512 .bf16) (b h : Fin 4) (i : Fin 4096) (d : Fin 128) :
    heads X (ix4 b h i d) = at3 X b i (128 * h + d) := by
  pointwise [heads]
  simp only [at3]
  congr 2
  · exact Fin.ext (Nat.mod_eq_of_lt b.isLt).symm
  · exact Fin.ext (Nat.mod_eq_of_lt i.isLt).symm
  · exact Fin.ext (by show _ = (128 * (h : ℕ) + d) % 512; rw [Nat.mod_eq_of_lt (by omega)]; show _ * 128 + _ = _; omega)

theorem ofBits_two : Ideal.ofBits FTy.f32 1073741824#32 = (2 : EReal) := by
  simp [Ideal.ofBits, Ideal.ieee]
  rw [← EReal.coe_mul]
  norm_num
  rfl

theorem scores_at (Q K : FVec Ideal S4x4096x512 .bf16) (b h : Fin 4) (i k : Fin 4096) :
    scores Q K (ix4 b h i k) = score Q K b h i k * Ideal.log 2 := by
  pointwise [scores]
  simp only [heads_at, ofBits_two, score]

theorem expoOf_at (S : FVec Ideal S4x4x4096x4096 .f32) (X : FVec Ideal S4x4x4096 .f32) (b h : Fin 4) (i k : Fin 4096) :
    expoOf S X (ix4 b h i k) = Ideal.exp (S (ix4 b h i k) - max ⊥ (X (ix3 b h i))) := by
  pointwise [expoOf]
  rw [ofBits_neg_inf]

theorem expo_at (Q K : FVec Ideal S4x4096x512 .bf16) (b h : Fin 4) (i k : Fin 4096) :
    expo Q K (ix4 b h i k) = Ideal.exp (scores Q K (ix4 b h i k) - top fun x : Fin 4096 => scores Q K (ix4 b h i x)) := by
  rw [expo, expoOf_at, rowMax_at, max_eq_right bot_le]

theorem REF_at (Q K V : FVec Ideal S4x4096x512 .bf16) (y : S4x4096x256.Idx) (h : Fin 4) (hh : (h : ℕ) = y 2 / 64) :
    REF Q K V y = ∑ k : Fin 4096, Ideal.div (expo Q K (ix4 (y 0 : Fin 4) h (y 1 : Fin 4096) k))
      (∑ x : Fin 4096, expo Q K (ix4 (y 0 : Fin 4) h (y 1 : Fin 4096) x)) * at3 V (y 0) k (128 * h + y 2 % 64) := by
  pointwise [REF]
  have e : (⟨(y 2 : ℕ) / 64, hh ▸ h.isLt⟩ : Fin 4) = h := Fin.ext hh.symm
  refine Finset.sum_congr rfl fun k _ => ?_
  refine Eq.trans (congrArg (_ * ·) (heads_at V _ _ _ _)) ?_
  simp only [e, hh]

/-- The reference program's run: it ends with the result array at `REF` of its arguments. -/
theorem run (m : (ℓ : Loc nD τ sig) → Buf (Elt Ideal) ℓ) (g : Dev nD → PrngReg)  :
    θ_run (defs (F := Ideal)) (onTc (τ := τ) (main (F := Ideal))) ⟨m, fun _ => 0, g⟩ (fun r => (∀ c : Dev nD,
      r.2.mem ((c.tc : Thread nD τ).loc main_v27) = REF (m (c.tc.loc main_arg0)) (m (c.tc.loc main_arg1)) (m (c.tc.loc main_arg2)))) := by
  hlo_run
  rfl

end Cert.AttnRefIdeal.Own

end
-- ==== Proof.Softmax.lean ====
/-
The softmax of finite scores, as a reference writes it (exponentials less the row's maximum, divided by their sum, then
weighted), and as the quotient of two weighted sums of powers of 2.
-/
module

public import proofs.«01_k».proof.Proof.OnlineSoftmax
public import Idealize.ShloMosaic.Lib.Pipeline.ValueKit

@[expose] public section

noncomputable section

namespace Cert.OnlineSoftmax

open Idealize.ShloMosaic

/-- The largest of a nonempty family of reals is one of them, and none is larger. -/
theorem top_real {n : ℕ} [NeZero n] (r : Fin n → ℝ) : ∃ k, top (fun x => (r x : EReal)) = (r k : EReal) ∧ ∀ x, r x ≤ r k := by
  obtain ⟨k, -, hk⟩ := Finset.exists_mem_eq_sup (Finset.univ : Finset (Fin n)) ⟨0, Finset.mem_univ _⟩ fun x => (r x : EReal)
  have e : top (fun x => (r x : EReal)) = (r k : EReal) := hk
  exact ⟨k, e, fun x => EReal.coe_le_coe_iff.mp (e ▸ le_top (fun x => (r x : EReal)) x)⟩

/-- A family whose largest value is attained at `k`. -/
theorem top_eq {n : ℕ} (s : Fin n → EReal) (k : Fin n) (h : ∀ x, s x ≤ s k) : top s = s k :=
  le_antisymm ((Finset.fold_max_le _).mpr ⟨bot_le, fun x _ => h x⟩) (le_top s k)

theorem sum_coe {n : ℕ} (f : Fin n → ℝ) : ∑ x, (f x : EReal) = ((∑ x, f x : ℝ) : EReal) :=
  (map_sum (⟨⟨Real.toEReal, rfl⟩, EReal.coe_add⟩ : ℝ →+ EReal) f Finset.univ).symm

/-- The quotient of the two weighted sums of powers of 2 is the softmax-weighted sum, whatever the values. -/
theorem quotient_eq_softmax {n : ℕ} [NeZero n] (r : Fin n → ℝ) (v : Fin n → EReal) :
    Ideal.div (∑ k, Ideal.exp2 ((r k : EReal) - top fun x => (r x : EReal)) * v k)
        (∑ k, Ideal.exp2 ((r k : EReal) - top fun x => (r x : EReal)))
      = ∑ k, Ideal.div (Ideal.exp ((r k : EReal) * Ideal.log 2 - top fun x => (r x : EReal) * Ideal.log 2))
          (∑ y, Ideal.exp ((r y : EReal) * Ideal.log 2 - top fun x => (r x : EReal) * Ideal.log 2)) * v k := by
  obtain ⟨k0, e, hle⟩ := top_real r
  have hlog : Ideal.log 2 = (Real.log 2 : EReal) := by
    show Ideal.log ((2 : ℝ) : EReal) = _
    rw [Ideal.log_coe, if_neg (by norm_num)]
  have hl : 0 ≤ Real.log 2 := Real.log_nonneg (by norm_num)
  have e' : (top fun x => (r x : EReal) * Ideal.log 2) = ((r k0 * Real.log 2 : ℝ) : EReal) := by
    rw [hlog]
    simp only [← EReal.coe_mul]
    exact top_eq (fun x => ((r x * Real.log 2 : ℝ) : EReal)) k0 fun x => EReal.coe_le_coe_iff.mpr (mul_le_mul_of_nonneg_right (hle x) hl)
  have h2 : ∀ k, Ideal.exp2 ((r k : EReal) - (r k0 : EReal)) = (Real.exp ((r k - r k0) * Real.log 2) : EReal) := fun k => by
    rw [← EReal.coe_sub, Ideal.exp2_coe]
    congr 1
    show (2 : ℝ) ^ (r k - r k0) = _
    rw [Real.rpow_def_of_pos two_pos, mul_comm]
  have h1 : ∀ k, Ideal.exp ((r k : EReal) * (Real.log 2 : EReal) - ((r k0 * Real.log 2 : ℝ) : EReal))
      = (Real.exp ((r k - r k0) * Real.log 2) : EReal) := fun k => by
    rw [← EReal.coe_mul, ← EReal.coe_sub, Ideal.exp_coe, sub_mul]
  rw [e, e', hlog]
  simp only [h1, h2]
  rw [sum_coe]
  have hpos : 0 < ∑ x, Real.exp ((r x - r k0) * Real.log 2) := Finset.sum_pos (fun x _ => Real.exp_pos _) ⟨0, Finset.mem_univ _⟩
  simp only [Ideal.div_coe hpos.ne']
  rw [mul_comm, mul_sum_of_fin _ (by exact_mod_cast (one_div_pos.mpr hpos).le) (EReal.coe_ne_top _)]
  exact Finset.sum_congr rfl fun k _ => by rw [← mul_assoc, mul_comm (_ : EReal) (Real.exp _ : EReal)]

end Cert.OnlineSoftmax

end
-- ==== Proof.AttnClaim.lean ====
/-
The attention call against the reference: under the precondition (finite queries and keys, ones in the upper half of every
value head) the array that the call leaves is the reference's softmax attention.
-/
module

public import proofs.«01_k».proof.Proof.AttnPoint
public import proofs.«01_k».proof.Proof.AttnRef
public import proofs.«01_k».proof.Proof.Softmax

@[expose] public section

set_option maxRecDepth 16384

noncomputable section

namespace Cert.OnlineSoftmax

open Idealize.ShloMosaic

theorem runMax_le {k : ℕ} (s : ℕ → Fin k → EReal) (B : EReal) (n : ℕ) (h : ∀ p < n, ∀ x, s p x ≤ B) : runMax s n ≤ B := by
  induction n with
  | zero => exact bot_le
  | succ n ih =>
    exact max_le (ih fun p hp => h p (by omega)) ((Finset.fold_max_le _).mpr ⟨bot_le, fun x _ => h n (by omega) x⟩)

/-- The running maximum of 8 blocks of 512 is the maximum of the 4096 scores. -/
theorem runMax_blocks (S : ℕ → EReal) : runMax (fun p (x : Fin 512) => S (512 * p + x)) 8 = top fun k : Fin 4096 => S k := by
  refine le_antisymm (runMax_le _ _ _ fun p hp x => le_top (fun k : Fin 4096 => S k) ⟨512 * p + x, by omega⟩) ?_
  refine (Finset.fold_max_le _).mpr ⟨bot_le, fun k _ => ?_⟩
  have h := le_runMax (fun p (x : Fin 512) => S (512 * p + x)) 8 ((k : ℕ) / 512) ⟨(k : ℕ) % 512, by omega⟩ (by omega)
  simpa only [Nat.div_add_mod] using h

/-- The running weighted sum of 8 blocks of 512 is the weighted sum over the 4096 scores. -/
theorem runSum_blocks (S W : ℕ → EReal) :
    runSum (fun p (x : Fin 512) => S (512 * p + x)) (fun p (x : Fin 512) => W (512 * p + x)) 8
      = ∑ k : Fin 4096, Ideal.exp2 (S k - top fun k : Fin 4096 => S k) * W k := by
  rw [runSum_eq, runMax_blocks, Finset.sum_range]
  rw [← Fin.sum_mul_add_fin 8 512 (fun k : Fin 4096 => Ideal.exp2 (S k - top fun k : Fin 4096 => S k) * W k)]
  exact Finset.sum_congr rfl fun p _ => Finset.sum_congr rfl fun x _ => by simp only [Nat.mul_comm (p : ℕ) 512]

/-- A sum of products of reals is a real. -/
theorem sum_mul_real {n : ℕ} (f g : Fin n → EReal) (hf : ∀ x, f x ≠ ⊥ ∧ f x ≠ ⊤) (hg : ∀ x, g x ≠ ⊥ ∧ g x ≠ ⊤) :
    ∃ r : ℝ, ∑ x, f x * g x = (r : EReal) := by
  refine ⟨∑ x, (f x).toReal * (g x).toReal, ?_⟩
  rw [← sum_coe]
  refine Finset.sum_congr rfl fun x _ => ?_
  rw [EReal.coe_mul, EReal.coe_toReal (hf x).2 (hf x).1, EReal.coe_toReal (hg x).2 (hg x).1]

end Cert.OnlineSoftmax

namespace Cert.AttnRefIdeal.Own

open Cert.AttnIdeal.Step Cert.OnlineSoftmax Idealize.ShloMosaic Idealize.SL.Sem

/-- A softmax numerator of the reference, over the scores. -/
theorem expo_score (Q K : FVec Ideal S4x4096x512 .bf16) (b h : Fin 4) (i k : Fin 4096) (r : ℕ → ℝ) (hr : ∀ k, score Q K b h i k = (r k : EReal)) :
    expo Q K (ix4 b h i k) = Ideal.exp ((r k : EReal) * Ideal.log 2 - top fun x : Fin 4096 => (r x : EReal) * Ideal.log 2) := by
  rw [expo_at]
  simp only [scores_at, hr]

/-- The quotient of the call's finished sums is the reference's attention. -/
theorem attn_eq (Q K V : FVec Ideal S4x4096x512 .bf16) (hQ : ∀ y, Q y ≠ (⊥ : EReal) ∧ Q y ≠ (⊤ : EReal))
    (hK : ∀ y, K y ≠ (⊥ : EReal) ∧ K y ≠ (⊤ : EReal))
    (hV : ∀ (b h : Fin 4) (k : Fin 4096) (j : Fin 64), at3 V b k (128 * h + (64 + j)) = 1) (y : S4x4096x256.Idx) :
    attnOut Q K V (y 0) (y 1) (y 2) = REF Q K V y := by
  have hy : (y 2 : ℕ) < 256 := (y 2).isLt
  rw [REF_at Q K V y ⟨(y 2 : ℕ) / 64, by omega⟩ rfl]
  have hs : ∀ k : ℕ, ∃ r : ℝ, score Q K (y 0) ((y 2 : ℕ) / 64) (y 1) k = (r : EReal) := fun k =>
    sum_mul_real _ _ (fun d => hQ _) (fun d => hK _)
  choose r hr using hs
  have e1 := runSum_blocks (score Q K (y 0) ((y 2 : ℕ) / 64) (y 1)) (fun k => at3 V (y 0) k (128 * ((y 2 : ℕ) / 64) + (y 2 : ℕ) % 64))
  have e2 := runSum_blocks (score Q K (y 0) ((y 2 : ℕ) / 64) (y 1)) (fun k => at3 V (y 0) k (128 * ((y 2 : ℕ) / 64) + (64 + (y 2 : ℕ) % 64)))
  have e3 := quotient_eq_softmax (fun k : Fin 4096 => r k) (fun k : Fin 4096 => at3 V (y 0) k (128 * ((y 2 : ℕ) / 64) + (y 2 : ℕ) % 64))
  have hone : ∀ k : Fin 4096, at3 V (y 0) k (128 * ((y 2 : ℕ) / 64) + (64 + (y 2 : ℕ) % 64)) = 1 := fun k =>
    hV (y 0) ⟨(y 2 : ℕ) / 64, by omega⟩ k ⟨(y 2 : ℕ) % 64, by omega⟩
  simp only [hone, mul_one] at e2
  refine (congrArg₂ Ideal.div e1 e2).trans ?_
  simp only [hr]
  have hx := fun k : Fin 4096 => expo_score Q K (y 0 : Fin 4) ⟨(y 2 : ℕ) / 64, by omega⟩ (y 1 : Fin 4096) k r hr
  refine e3.trans (Finset.sum_congr rfl fun k _ => ?_)
  exact congrArg₂ (· * ·) (congrArg₂ Ideal.div (hx k).symm (Finset.sum_congr rfl fun x _ => (hx x).symm)) rfl

/-- "Less than +∞ in absolute value" says of an extended real that it is neither infinity. -/
theorem finite_of_lt {φ : FTy} (x : Ideal φ) (h : BitVec.ofBool (decide (max (x : EReal) (-(x : EReal)) < Ideal.ofBits .f32 0x7F800000#32)) = 1#1) :
    (x : EReal) ≠ ⊥ ∧ (x : EReal) ≠ ⊤ := by
  have htop : Ideal.ofBits .f32 0x7F800000#32 = ⊤ := by simp [Ideal.ofBits, Ideal.ieee]
  rw [htop] at h
  have hlt : max (x : EReal) (-(x : EReal)) < ⊤ := by
    by_contra hn
    rw [decide_eq_false hn] at h
    exact absurd h (by decide)
  constructor
  · rintro e
    rw [e] at hlt
    simp at hlt
  · rintro e
    rw [e] at hlt
    simp at hlt

/-- What the precondition says of the queries and of the keys. -/
theorem pre_finite (q k v : FVec Ideal S4x4096x512 .bf16) :
    ((Cert.Pre_attn_pre.fn (F := Ideal) q k v).1 = (fun _ => 1#1) → ∀ y, q y ≠ (⊥ : EReal) ∧ q y ≠ (⊤ : EReal))
    ∧ ((Cert.Pre_attn_pre.fn (F := Ideal) q k v).2.1 = (fun _ => 1#1) → ∀ y, k y ≠ (⊥ : EReal) ∧ k y ≠ (⊤ : EReal)) :=
  ⟨fun h y => finite_of_lt (q y) (congrFun h y), fun h y => finite_of_lt (k y) (congrFun h y)⟩

/-- An entry inside the array, by its coordinates. -/
theorem at3_ix (X : FVec Ideal S4x4096x512 .bf16) (b : Fin 4) (i : Fin 4096) (n : ℕ) (h : n < 512) :
    at3 X b i n = X (ix3 b i ⟨n, h⟩) := by
  unfold at3
  congr 1
  funext a
  match a with
  | 0 => exact Fin.ext (Nat.mod_eq_of_lt b.isLt)
  | 1 => exact Fin.ext (Nat.mod_eq_of_lt i.isLt)
  | 2 => exact Fin.ext (Nat.mod_eq_of_lt h)

/-- What it says of the values: the upper 64 columns of every head are ones. -/
theorem pre_ones (q k v : FVec Ideal S4x4096x512 .bf16) (h : (Cert.Pre_attn_pre.fn (F := Ideal) q k v).2.2 = (fun _ => 1#1))
    (b h' : Fin 4) (k : Fin 4096) (j : Fin 64) : at3 v b k (128 * h' + (64 + j)) = 1 := by
  have e := congrFun h (ix4 b h' k j)
  dsimp only [Cert.Pre_attn_pre.fn] at e
  revert e
  pointwise
  intro e
  have e1 : (v (ix3 b k ⟨(h' : ℕ) * 128 + (64 + j), by omega⟩) : EReal) = 1 := by
    by_contra hn
    rw [decide_eq_false hn] at e
    exact absurd e (by decide)
  rw [Nat.mul_comm, at3_ix v b k _ (by omega)]
  exact e1

end Cert.AttnRefIdeal.Own

end
-- ==== Proof.AttnRun.lean ====
/-
The claims about the attention call, each proved: both programs run, and under the precondition they leave the same array.
-/
module

public import proofs.«01_k».proof.Defs
public import proofs.«01_k».proof.Proof.Gen.Attn.Frame
public import proofs.«01_k».proof.Proof.Gen.AttnIdeal.Frame
public import proofs.«01_k».proof.Proof.AttnClaim
public import Idealize.ShloMosaic.Lib.Claim
public import Idealize.ShloMosaic.Lib.Quiescent

@[expose] public section

set_option maxRecDepth 16384

noncomputable section

namespace Cert.Proof.Attention

open Idealize.ShloMosaic Idealize.SL.Sem

/-- The word-for-word program runs and leaves its arguments. -/
theorem frame_bits : Cert.quiescent_Attn (hAttn := Cert.Attn.Gen.facts) := fun m ρ _ => Cert.Attn.Gen.frame m ρ

/-- The same of the idealized program. -/
theorem frame_ideal : Cert.quiescent_AttnIdeal (hAttnIdeal := Cert.AttnIdeal.Gen.facts) := fun m ρ _ => Cert.AttnIdeal.Gen.frame m ρ

/-- The same of the reference. -/
theorem frame_ref : Cert.quiescent_AttnRefIdeal (hAttnRefIdeal := Cert.AttnRefIdeal.Own.facts) := by
  intro m g _
  hlo_run
  · exact fun _ => ⟨trivial, trivial, trivial⟩
  · exact sem_eq_zero_of_no_sems (sig := Cert.AttnRefIdeal.sig) rfl _

/-- The idealized attention call and the reference leave the same array, wherever the precondition holds. -/
theorem algebraic : Cert.algebraic_AttnIdeal_AttnRefIdeal_pre_attn_pre (hAttnIdeal := Cert.AttnIdeal.Gen.facts)
    (hAttnRefIdeal := Cert.AttnRefIdeal.Own.facts) (hPre_attn_pre := Cert.AttnRefIdeal.Own.preFacts) := by
  pair_intro
  · run_from Cert.AttnIdeal.Gen.run_main m g
  · hlo_run
    obtain ⟨h1, h2, h3⟩ := hpre c
    refine Eq.trans ?_ (Cert.AttnIdeal.Step.final m c).symm
    funext y
    exact (Cert.AttnRefIdeal.Own.attn_eq _ _ _ ((Cert.AttnRefIdeal.Own.pre_finite _ _ _).1 h1)
      ((Cert.AttnRefIdeal.Own.pre_finite _ _ _).2 h2) (Cert.AttnRefIdeal.Own.pre_ones _ _ _ h3) y).symm

end Cert.Proof.Attention

end
-- ==== Proof.FfnStep.lean ====
/-
The experts' feed-forward call, one grid point: over the 256-row trips of its loop the body adds to every row of the
output block the product of that row's gated hidden values (512 of the 2048) with the down projection.
-/
module

public import proofs.«01_k».proof.Proof.Gen.FfnIdeal.Value
public import Idealize.ShloMosaic.Lib.Pipeline.ValueKit
public import Idealize.ShloMosaic.Lib.Pipeline.ReadBack
public import Idealize.ShloMosaic.Lib.Pointwise
public import Idealize.ShloMosaic.Lib.WritesUnit
public import Idealize.ShloMosaic.Lib.VecWindow

@[expose] public section

set_option maxRecDepth 16384

noncomputable section

namespace Cert.FfnIdeal.Step

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- A hidden value: the gate product through the sigmoid-weighted unit, times the up product. -/
def act (a b : EReal) : EReal := a * Ideal.div 1 (1 + Ideal.exp (-a)) * b

/-- What one grid point adds at row `r`, column `j`: its 512 hidden values against the down projection. -/
def part (x : FVec Ideal S1x2048x1024 .bf16) (wg wu : FVec Ideal S1x1x1024x512 .f32) (wd : FVec Ideal S1x1x512x1024 .f32)
    (r : Fin 2048) (j : Fin 1024) : EReal :=
  ∑ f : Fin 512, act (∑ d : Fin 1024, x (ix3 0 r d) * wg (ix4 0 0 d f)) (∑ d : Fin 1024, x (ix3 0 r d) * wu (ix4 0 0 d f))
    * wd (ix4 0 0 f j)

theorem ofBits_zero : Ideal.ofBits FTy.f32 0#32 = (0 : EReal) := by simp [Ideal.ofBits, Ideal.ieee]

theorem ofBits_one : Ideal.ofBits FTy.f32 1065353216#32 = (1 : EReal) := by
  simp [Ideal.ofBits, Ideal.ieee]
  norm_cast
  norm_num

/-- What one trip of the loop stores, at one of its 256 rows. -/
theorem pay2_at (wg wu : FVec Ideal S1x1x1024x512 .f32) (wd : FVec Ideal S1x1x512x1024 .f32)
    (x : FVec Ideal S1x256x1024 .bf16) (o : FVec Ideal S1x256x1024 .f32) (r : Fin 256) (j : Fin 1024) :
    k0_pay2 wg wu wd x o (ix3 0 r j) = o (ix3 0 r j)
      + ∑ f : Fin 512, act (∑ d : Fin 1024, x (ix3 0 r d) * wg (ix4 0 0 d f)) (∑ d : Fin 1024, x (ix3 0 r d) * wu (ix4 0 0 d f))
        * wd (ix4 0 0 f j) := by
  pointwise [k0_pay2]
  simp only [act, zero_sub]

theorem pay1_at (y : S1x2048x1024.Idx) : (k0_pay1 : FVec Ideal S1x2048x1024 .f32) y = 0 := by
  pointwise [k0_pay1]

section Loop

variable (𝒱 : Variants) (bd : Option 𝒱.V) (i : grid0.Coords)
  (arg2 : Memref sig .tc .vmem S1x2048x1024 .bf16) (harg2 : arg2.IsWhole)
  (arg3 : Memref sig .tc .vmem S1x1x1024x512 .f32) (harg3 : arg3.IsWhole)
  (arg4 : Memref sig .tc .vmem S1x1x1024x512 .f32) (harg4 : arg4.IsWhole)
  (arg5 : Memref sig .tc .vmem S1x1x512x1024 .f32) (harg5 : arg5.IsWhole)
  (arg6 : Memref sig .tc .vmem S1x2048x1024 .f32) (harg6 : arg6.IsWhole)
  (wg wu : Vec Ideal S1x1x1024x512 .f32) (wd : Vec Ideal S1x1x512x1024 .f32)
  (X : BufTy.Contents (Elt Ideal) arg2.view.ty) (G : BufTy.Contents (Elt Ideal) arg6.view.ty)

/-- One trip stores one piece: 256 rows. -/
theorem trip_pieces (k : Fin k0_t1_loop.trips) (f : BufTy.Contents (Elt Ideal) arg6.view.ty) :
    tripL_k0_t1 𝒱 c bd i arg2 harg2 arg3 harg3 arg4 harg4 arg5 harg5 arg6 harg6 wg wu wd X k f
      = [⟨Rect.unit (s := S1x2048x1024) (k0_off1 k) S1x256x1024.size (k0_off1_inb k), k0_pay2 wg wu wd
          (View.readAt (Elt Ideal) arg2.view (Rect.unit (s := S1x2048x1024) (k0_off1 k) S1x256x1024.size (k0_off1_inb k)).toLoadRect X)
          (View.readAt (Elt Ideal) arg6.view (Rect.unit (s := S1x2048x1024) (k0_off1 k) S1x256x1024.size (k0_off1_inb k)).toLoadRect f)⟩] := by
  unfold tripL_k0_t1 trip_k0_t1
  rfl

/-- The rows of the trips still to come are as the loop found them. -/
theorem rows_ahead (n : ℕ) (hn : n ≤ k0_t1_loop.trips) (y : S1x2048x1024.Idx) (hy : 256 * n ≤ (y 1).val) :
    arg6.view.read (Elt Ideal) (arg6.view.writes (Elt Ideal) G (pb_k0_t1 𝒱 c bd i arg2 harg2 arg3 harg3 arg4 harg4 arg5 harg5 arg6 harg6 wg wu wd X G n)) y = arg6.view.read (Elt Ideal) G y := by
  induction n with
  | zero => rfl
  | succ n ih =>
    rw [pb_k0_t1_succ 𝒱 c bd i arg2 harg2 arg3 harg3 arg4 harg4 arg5 harg5 arg6 harg6 wg wu wd X G ⟨n, hn⟩, trip_pieces]
    refine (View.read_writes_cons_unit_of_not_mem arg6.view G _ _ _ y (k0_off1_eq ⟨n, hn⟩) 1 (.inr ?_)).trans
      (ih (by omega) (by omega))
    show 256 * n + 256 ≤ (y 1).val
    omega

/-- The rows of the trips made hold what they held, and the products added. -/
theorem rows_done (T : List (View.Piece (Elt Ideal) S1x2048x1024 .f32)) (n : ℕ) (hn : n ≤ k0_t1_loop.trips)
    (r : Fin 2048) (j : Fin 1024) (hy : r.val < 256 * n) :
    View.canon (pb_k0_t1 𝒱 c bd i arg2 harg2 arg3 harg3 arg4 harg4 arg5 harg5 arg6 harg6 wg wu wd X G n ++ T) (ix3 0 r j)
      = arg6.view.read (Elt Ideal) G (ix3 0 r j) + part (arg2.view.read (Elt Ideal) X) wg wu wd r j := by
  induction n with
  | zero => omega
  | succ n ih =>
    rw [pb_k0_t1_succ 𝒱 c bd i arg2 harg2 arg3 harg3 arg4 harg4 arg5 harg5 arg6 harg6 wg wu wd X G ⟨n, hn⟩, trip_pieces]
    have hoff := k0_off1_eq ⟨n, hn⟩
    by_cases h : r.val < 256 * n
    · rw [List.singleton_append, List.cons_append, View.canon_cons_of_not_mem]
      · exact ih (by omega) h
      · rw [Rect.mem_set_unit]
        intro hall
        have := hall 1
        rw [hoff] at this
        have h1 : 256 * n ≤ r.val := this.1
        omega
    · have hr : r.val - 256 * n < 256 := by omega
      have e : ∀ l : Fin 1024, (Rect.unit (s := S1x2048x1024) (k0_off1 ⟨n, hn⟩) S1x256x1024.size (k0_off1_inb ⟨n, hn⟩)).emb
          (ix3 (0 : Fin 1) (⟨r.val - 256 * n, hr⟩ : Fin 256) l) = ix3 (0 : Fin 1) r l := by
        intro l
        funext a
        refine Fin.ext ?_
        show k0_off1 ⟨n, hn⟩ a + 1 * (ix3 (0 : Fin 1) (⟨r.val - 256 * n, hr⟩ : Fin 256) l a).val = (ix3 (0 : Fin 1) r l a).val
        rw [hoff]
        fin_cases a
        · rfl
        · show 256 * n + 1 * (r.val - 256 * n) = r.val
          omega
        · show 0 + 1 * l.val = l.val
          omega
      rw [List.singleton_append, List.cons_append]
      refine (congrArg _ (e j).symm).trans ((View.canon_cons_emb _ _ _ _).trans ?_)
      refine (pay2_at wg wu wd _ _ ⟨r.val - 256 * n, hr⟩ j).trans ?_
      have hx : ∀ d : Fin 1024, View.readAt (Elt Ideal) arg2.view (Rect.unit (s := S1x2048x1024) (k0_off1 ⟨n, hn⟩) S1x256x1024.size (k0_off1_inb ⟨n, hn⟩)).toLoadRect X
          (ix3 (0 : Fin 1) (⟨r.val - 256 * n, hr⟩ : Fin 256) d) = arg2.view.read (Elt Ideal) X (ix3 0 r d) := fun d =>
        congrArg (arg2.view.read (Elt Ideal) X) (e d)
      refine congrArg₂ (· + ·) ((congrArg (arg6.view.read (Elt Ideal) _) (e j)).trans
        (rows_ahead c 𝒱 bd i arg2 harg2 arg3 harg3 arg4 harg4 arg5 harg5 arg6 harg6 wg wu wd X G n (by omega) (ix3 0 r j) ?_)) ?_
      · show 256 * n ≤ r.val
        omega
      · simp only [part, hx]

end Loop

theorem trips_eq : k0_t1_loop.trips = 8 := by decide +kernel

/-- The first point of an expert: the block is set to zero, then the products are added. -/
theorem point_first (t : Fin cfg0.N) (h0 : t.val % 4 = 0) (r : Fin 2048) (j : Fin 1024) :
    outsAt0 m c t.val t.isLt (ix3 0 r j) = 0 + part (iblk m c 0 t) (iblk m c 1 t) (iblk m c 2 t) (iblk m c 3 t) r j := by
  rw [outsAt0_A m c t h0]
  frame_out
  refine (rows_done c _ _ _ _ _ _ _ _ _ _ _ _ _ _ _ _ _ _ _ _ (le_of_eq rfl) r j ?_).trans ?_
  · have := r.isLt
    rw [trips_eq]
    omega
  · rw [Memref.IsWhole.read_unread]
    refine congrArg (· + _) ((View.read_writes_cons_unit_of_mem _ _ _ _ [] (ix3 0 r j) (ix3 0 r j) rfl ?_).trans (pay1_at _))
    intro a
    fin_cases a <;> simp

/-- A later point of the expert: the products are added to what the point before left. -/
theorem point_next (t : Fin cfg0.N) (h0 : ¬ t.val % 4 = 0) (r : Fin 2048) (j : Fin 1024) :
    outsAt0 m c t.val t.isLt (ix3 0 r j) = outsAt0 m c (t.val - 1) (by omega) (ix3 0 r j)
      + part (iblk m c 0 t) (iblk m c 1 t) (iblk m c 2 t) (iblk m c 3 t) r j := by
  rw [outsAt0_B m c t h0]
  frame_out
  refine (congrArg (fun L => View.canon L (ix3 0 r j)) (List.append_nil _).symm).trans ?_
  refine (rows_done c _ _ _ _ _ _ _ _ _ _ _ _ _ _ _ _ _ _ [] _ (le_of_eq rfl) r j ?_).trans ?_
  · have := r.isLt
    rw [trips_eq]
    omega
  · rw [Memref.IsWhole.read_unread, Memref.IsWhole.read_unread]

end Cert.FfnIdeal.Step

end
-- ==== Proof.FfnClaim.lean ====
/-
The experts' feed-forward call as a whole: the sum over the four blocks of hidden columns is the sum over all 2048, and
the array left at the end is, entry by entry, what the reference computes.
-/
module

public import proofs.«01_k».proof.Proof.FfnStep
public import proofs.«01_k».proof.Proof.Gen.FfnRefIdeal.Run

@[expose] public section

set_option maxRecDepth 16384

noncomputable section

namespace Cert.FfnIdeal.Step

open Cert.FfnIdeal Cert.FfnIdeal.Gen Idealize.ShloMosaic Idealize.ShloMosaic.TcCoe Idealize.SL.Sem
open Idealize.ShloMosaic.Pipeline (Dat)

/-- Entry `(e, r, j)` of the experts' output: the gated hidden values of expert `e` against its down projection. -/
def ffnOut (X : FVec Ideal S16x2048x1024 .bf16) (Wg Wu : FVec Ideal S2x16x1024x2048 .f32) (Wd : FVec Ideal S2x16x2048x1024 .f32)
    (e : Fin 16) (r : Fin 2048) (j : Fin 1024) : EReal :=
  ∑ f : Fin 2048, act (∑ d : Fin 1024, X (ix3 e r d) * Wg (ix4 0 e d f)) (∑ d : Fin 1024, X (ix3 e r d) * Wu (ix4 0 e d f))
    * Wd (ix4 0 e f j)

variable (m : (ℓ : Loc nD τ sig) → Buf (Elt Ideal) ℓ) (c : Dev nD)

def xArr : FVec Ideal S16x2048x1024 .bf16 := m ((c.tc : Thread nD τ).loc main_arg0)
def gArr : FVec Ideal S2x16x1024x2048 .f32 := m ((c.tc : Thread nD τ).loc main_arg1)
def uArr : FVec Ideal S2x16x1024x2048 .f32 := m ((c.tc : Thread nD τ).loc main_arg2)
def dArr : FVec Ideal S2x16x2048x1024 .f32 := m ((c.tc : Thread nD τ).loc main_arg3)

theorem idx0 : ∀ t : Fin cfg0.N, win0_0.index t = ![t.val / 4, 0, 0] := (by decide +kernel : ∀ t : Fin grid0.N, _)
theorem idx1 : ∀ t : Fin cfg0.N, win0_1.index t = ![0, t.val / 4, 0, t.val % 4] := (by decide +kernel : ∀ t : Fin grid0.N, _)
theorem idx2 : ∀ t : Fin cfg0.N, win0_2.index t = ![0, t.val / 4, 0, t.val % 4] := (by decide +kernel : ∀ t : Fin grid0.N, _)
theorem idx3 : ∀ t : Fin cfg0.N, win0_3.index t = ![0, t.val / 4, t.val % 4, 0] := (by decide +kernel : ∀ t : Fin grid0.N, _)
theorem idx4 : ∀ t : Fin cfg0.N, win0_4.index t = ![t.val / 4, 0, 0] := (by decide +kernel : ∀ t : Fin grid0.N, _)

theorem x_at (t : Fin cfg0.N) (e : Fin 16) (he : t.val / 4 = e.val) (r : Fin 2048) (d : Fin 1024) :
    (iblk m c 0 t : FVec Ideal S1x2048x1024 .bf16) (ix3 0 r d) = xArr m c (ix3 e r d) := by
  blk_ext [iblk, V, xArr, idx0 t]
  all_goals omega

theorem g_at (t : Fin cfg0.N) (e : Fin 16) (he : t.val / 4 = e.val) (d : Fin 1024) (f : Fin 512) (l : Fin 2048)
    (hl : t.val % 4 * 512 + f.val = l.val) :
    (iblk m c 1 t : FVec Ideal S1x1x1024x512 .f32) (ix4 0 0 d f) = gArr m c (ix4 0 e d l) := by
  blk_ext [iblk, V, gArr, idx1 t]
  all_goals omega

theorem u_at (t : Fin cfg0.N) (e : Fin 16) (he : t.val / 4 = e.val) (d : Fin 1024) (f : Fin 512) (l : Fin 2048)
    (hl : t.val % 4 * 512 + f.val = l.val) :
    (iblk m c 2 t : FVec Ideal S1x1x1024x512 .f32) (ix4 0 0 d f) = uArr m c (ix4 0 e d l) := by
  blk_ext [iblk, V, uArr, idx2 t]
  all_goals omega

theorem d_at (t : Fin cfg0.N) (e : Fin 16) (he : t.val / 4 = e.val) (j : Fin 1024) (f : Fin 512) (l : Fin 2048)
    (hl : t.val % 4 * 512 + f.val = l.val) :
    (iblk m c 3 t : FVec Ideal S1x1x512x1024 .f32) (ix4 0 0 f j) = dArr m c (ix4 0 e l j) := by
  blk_ext [iblk, V, dArr, idx3 t]
  all_goals omega

/-- At an expert's last point the block holds the whole sum. -/
theorem out_block (t : Fin cfg0.N) (h3 : t.val % 4 = 3) (e : Fin 16) (he : t.val / 4 = e.val) (r : Fin 2048) (j : Fin 1024) :
    outsAt0 m c t.val t.isLt (ix3 0 r j) = ffnOut (xArr m c) (gArr m c) (uArr m c) (dArr m c) e r j := by
  have h := Pipeline.eq_sum_fin_of_reset_step_apply_of_flush
    (fun n hn (i : Fin 2048 × Fin 1024) => (outsAt0 m c n hn (ix3 0 i.1 i.2) : EReal)) 4 (fun _ => 0)
    (fun t i => part (iblk m c 0 t) (iblk m c 1 t) (iblk m c 2 t) (iblk m c 3 t) i.1 i.2)
    (fun t h i => point_first m c t h i.1 i.2) (fun t h i => point_next m c t h i.1 i.2) t h3 (r, j)
  refine h.trans ?_
  rw [zero_add]
  simp only [part, ffnOut]
  refine Fin.sum_mul_add_congr fun s f hl => ?_
  have hs := s.isLt
  have h1 : (4 * (t.val / 4) + s.val) / 4 = e.val := by omega
  have h2 : (4 * (t.val / 4) + s.val) % 4 * 512 + f.val = s.val * 512 + f.val := by omega
  rw [d_at m c ⟨4 * (t.val / 4) + s.val, Pipeline.run_point_lt_of_flush t h3 s⟩ e h1 j f ⟨s.val * 512 + f.val, hl⟩ h2]
  simp only [x_at m c ⟨4 * (t.val / 4) + s.val, Pipeline.run_point_lt_of_flush t h3 s⟩ e h1,
    fun d => g_at m c ⟨4 * (t.val / 4) + s.val, Pipeline.run_point_lt_of_flush t h3 s⟩ e h1 d f ⟨s.val * 512 + f.val, hl⟩ h2,
    fun d => u_at m c ⟨4 * (t.val / 4) + s.val, Pipeline.run_point_lt_of_flush t h3 s⟩ e h1 d f ⟨s.val * 512 + f.val, hl⟩ h2]

theorem eq_ix3 (y : S1x2048x1024.Idx) : y = ix3 (0 : Fin 1) (y 1 : Fin 2048) (y 2 : Fin 1024) := by
  funext a
  match a with
  | ⟨0, _⟩ => exact Subsingleton.elim (α := Fin 1) _ _
  | ⟨1, _⟩ => rfl
  | ⟨2, _⟩ => rfl

/-- The call's output array. -/
theorem final : (dats m 0 c).arrAt 4 (cfgs 0).N
    = fun i : S16x2048x1024.Idx => ffnOut (xArr m c) (gArr m c) (uArr m c) (dArr m c) (i 0) (i 1) (i 2) := by
  refine (dats m 0 c).arrAt_eq_of_covers 4 _ (by decide +kernel) fun t hf y => ?_
  blk_simp
  rw [after0_4]
  have h3 : t.val % 4 = 3 := (flush0_4 t).mp hf
  have ht : t.val < 64 := lt_of_lt_of_eq t.isLt N_0
  refine (congrArg (outsAt0 m c t.val t.isLt) (eq_ix3 y)).trans ?_
  refine (out_block m c t h3 ⟨t.val / 4, by omega⟩ rfl (y 1) (y 2)).trans ?_
  congr 1
  all_goals
    refine Fin.ext ?_
    blk_simp [idx4 t]

end Cert.FfnIdeal.Step

namespace Cert.FfnRefIdeal.Own

open Cert.FfnRefIdeal Cert.FfnRefIdeal.Gen Cert.FfnIdeal.Step Idealize.ShloMosaic Idealize.SL.Sem

/-- The reference's hidden products of one projection. -/
def hidden (X : FVec Ideal S16x2048x1024 .bf16) (W : FVec Ideal S2x16x1024x2048 .f32) : FVec Ideal S16x2048x2048 .f32 :=
  Host.dotGeneral dot_S16x2048x1024_S16x1024x2048_S16x2048x2048_2_1_1_2_0_0 none (extf .f32 X bitsLt_bf16_f32)
    (shapeCast _ (extractStridedSlice S1x16x1024x2048 ![0, 0, 0, 0] W slices_S2x16x1024x2048_S1x16x1024x2048_0_0_0_0)
      shapeCasts_S1x16x1024x2048_S16x1024x2048)

theorem hidden_at (X : FVec Ideal S16x2048x1024 .bf16) (W : FVec Ideal S2x16x1024x2048 .f32) (e : Fin 16) (r f : Fin 2048) :
    hidden X W (ix3 e r f) = ∑ d : Fin 1024, X (ix3 e r d) * W (ix4 0 e d f) := by
  pointwise [hidden]

/-- The reference's gated hidden values. -/
def gated (G U : FVec Ideal S16x2048x2048 .f32) : FVec Ideal S16x2048x2048 .f32 :=
  mulf (mulf G (Host.divf (broadcastInDim S16x2048x2048 ![] bcast_S_S16x2048x2048 (constant S_ .f32 0x3F800000#32))
    (addf (broadcastInDim S16x2048x2048 ![] bcast_S_S16x2048x2048 (constant S_ .f32 0x3F800000#32)) (Host.exp (Host.negf G))))) U

theorem gated_at (G U : FVec Ideal S16x2048x2048 .f32) (e : Fin 16) (r f : Fin 2048) :
    gated G U (ix3 e r f) = act (G (ix3 e r f)) (U (ix3 e r f)) := by
  pointwise [gated]
  rfl

/-- The reference's down projection. -/
def down (H : FVec Ideal S16x2048x2048 .f32) (W : FVec Ideal S2x16x2048x1024 .f32) : FVec Ideal S16x2048x1024 .f32 :=
  Host.dotGeneral dot_S16x2048x2048_S16x2048x1024_S16x2048x1024_2_1_1_2_0_0 none H
    (shapeCast _ (extractStridedSlice S1x16x2048x1024 ![0, 0, 0, 0] W slices_S2x16x2048x1024_S1x16x2048x1024_0_0_0_0)
      shapeCasts_S1x16x2048x1024_S16x2048x1024)

theorem down_at (H : FVec Ideal S16x2048x2048 .f32) (W : FVec Ideal S2x16x2048x1024 .f32) (e : Fin 16) (r : Fin 2048) (j : Fin 1024) :
    down H W (ix3 e r j) = ∑ f : Fin 2048, H (ix3 e r f) * W (ix4 0 e f j) := by
  pointwise [down]

theorem ffn_at (X : FVec Ideal S16x2048x1024 .bf16) (Wg Wu : FVec Ideal S2x16x1024x2048 .f32) (Wd : FVec Ideal S2x16x2048x1024 .f32)
    (e : Fin 16) (r : Fin 2048) (j : Fin 1024) :
    down (gated (hidden X Wg) (hidden X Wu)) Wd (ix3 e r j) = ffnOut X Wg Wu Wd e r j := by
  simp only [down_at, gated_at, hidden_at, ffnOut]

/-- The reference's output, entry by entry. -/
theorem ffn_eq (X : FVec Ideal S16x2048x1024 .bf16) (Wg Wu : FVec Ideal S2x16x1024x2048 .f32) (Wd : FVec Ideal S2x16x2048x1024 .f32)
    (y : S16x2048x1024.Idx) :
    down (gated (hidden X Wg) (hidden X Wu)) Wd y = ffnOut X Wg Wu Wd (y 0) (y 1) (y 2) := by
  have hy : y = ix3 (y 0 : Fin 16) (y 1 : Fin 2048) (y 2 : Fin 1024) := by
    funext a
    match a with
    | ⟨0, _⟩ => rfl
    | ⟨1, _⟩ => rfl
    | ⟨2, _⟩ => rfl
  exact (congrArg _ hy).trans (ffn_at X Wg Wu Wd (y 0) (y 1) (y 2))

end Cert.FfnRefIdeal.Own

end
-- ==== Proof.FfnRun.lean ====
/-
The claims about the experts' feed-forward call, each proved: both programs run, and they leave the same array.
-/
module

public import proofs.«01_k».proof.Defs
public import proofs.«01_k».proof.Proof.Gen.Ffn.Frame
public import proofs.«01_k».proof.Proof.Gen.FfnIdeal.Frame
public import proofs.«01_k».proof.Proof.FfnClaim
public import Idealize.ShloMosaic.Lib.Claim
public import Idealize.ShloMosaic.Lib.Quiescent

@[expose] public section

set_option maxRecDepth 16384

noncomputable section

namespace Cert.Proof.Experts

open Idealize.ShloMosaic Idealize.SL.Sem

/-- The word-for-word program runs and leaves its arguments. -/
theorem frame_bits : Cert.quiescent_Ffn (hFfn := Cert.Ffn.Gen.facts) := fun m ρ _ => Cert.Ffn.Gen.frame m ρ

/-- The same of the idealized program. -/
theorem frame_ideal : Cert.quiescent_FfnIdeal (hFfnIdeal := Cert.FfnIdeal.Gen.facts) := fun m ρ _ => Cert.FfnIdeal.Gen.frame m ρ

/-- The same of the reference. -/
theorem frame_ref : Cert.quiescent_FfnRefIdeal (hFfnRefIdeal := Cert.FfnRefIdeal.Gen.facts) := by
  intro m g _
  hlo_run
  · exact fun _ => ⟨trivial, trivial, trivial, trivial⟩
  · exact sem_eq_zero_of_no_sems (sig := Cert.FfnRefIdeal.sig) rfl _

/-- The idealized feed-forward call and the reference leave the same array. -/
theorem algebraic : Cert.algebraic_FfnIdeal_FfnRefIdeal (hFfnIdeal := Cert.FfnIdeal.Gen.facts)
    (hFfnRefIdeal := Cert.FfnRefIdeal.Gen.facts) := by
  pair_intro
  · run_from Cert.FfnIdeal.Gen.run_main m g
  · hlo_run
    refine Eq.trans ?_ (Cert.FfnIdeal.Step.final m c).symm
    funext y
    exact Cert.FfnRefIdeal.Own.ffn_eq _ _ _ _ y

end Cert.Proof.Experts

end
-- ==== Proof.InprojPlace.lean ====
/-
Where the columns of the combined projection go: the call keeps the thirteen segments in an order of its own, two of them
followed by columns of zeros. The kernel lays out the weight's columns so, the reference the product's.
-/
module

public import proofs.«01_k».proof.Proof.Gen.InprojIdeal.Value
public import proofs.«01_k».proof.Proof.Gen.InprojRefIdeal.Run
public import Idealize.ShloMosaic.Lib.Pipeline.ValueKit
public import Idealize.ShloMosaic.Lib.Pointwise

@[expose] public section

set_option maxRecDepth 16384

noncomputable section

namespace Cert.Place

open Idealize.ShloMosaic

/-- The projection's column that column `j` of the result holds (any, where it holds none). -/
def src (j : ℕ) : ℕ :=
  if j < 1440 then j else if j < 2304 then j + 160 else if j < 2560 then j - 864 else if j < 2568 then j - 96 else j - 344

/-- The columns of zeros. -/
def gap (j : ℕ) : Prop := (1440 ≤ j ∧ j < 1536) ∨ (2568 ≤ j ∧ j < 2816)

theorem src_lt (j : Fin 3584) : src j.val < 3240 := by
  have := j.isLt
  unfold src
  split_ifs <;> omega

open Classical in
/-- A row of 3240 values laid out in the call's 3584 columns. -/
def place (g : Fin 3240 → EReal) (j : Fin 3584) : EReal := if gap j.val then 0 else g ⟨src j.val, src_lt j⟩

theorem place_of_gap (g : Fin 3240 → EReal) (j : Fin 3584) (h : gap j.val) : place g j = 0 := if_pos h

theorem place_of_src (g : Fin 3240 → EReal) (j : Fin 3584) (h : ¬ gap j.val) (k : Fin 3240) (hk : k.val = src j.val) :
    place g j = g k := by
  unfold place
  rw [if_neg h]
  exact congrArg g (Fin.ext hk.symm)

/-- A sum of products with laid-out rows is the sums laid out. -/
theorem sum_place (a : Fin 1024 → EReal) (g : Fin 1024 → Fin 3240 → EReal) (j : Fin 3584) :
    ∑ d : Fin 1024, a d * place (g d) j = place (fun k => ∑ d : Fin 1024, a d * g d k) j := by
  unfold place
  split_ifs
  · simp
  · rfl

end Cert.Place

namespace Cert.InprojIdeal.Spread

open Cert.InprojIdeal Cert.InprojIdeal.Gen Cert.Place Idealize.ShloMosaic

/-- The columns in the call's order. -/
def spread (W : FVec Ideal S1024x3240 .f32) : FVec Ideal S1024x3584 .f32 :=
  concatenate S1024x3584 1 [⟨S1024x256, extractStridedSlice S1024x256 ![0, 0] W slices_S1024x3240_S1024x256_0_0⟩,
    ⟨S1024x256, extractStridedSlice S1024x256 ![0, 256] W slices_S1024x3240_S1024x256_0_256⟩,
    ⟨S1024x256, extractStridedSlice S1024x256 ![0, 512] W slices_S1024x3240_S1024x256_0_512⟩,
    ⟨S1024x256, extractStridedSlice S1024x256 ![0, 768] W slices_S1024x3240_S1024x256_0_768⟩,
    ⟨S1024x256, extractStridedSlice S1024x256 ![0, 1024] W slices_S1024x3240_S1024x256_0_1024⟩,
    ⟨S1024x128, extractStridedSlice S1024x128 ![0, 1280] W slices_S1024x3240_S1024x128_0_1280⟩,
    ⟨S1024x32, extractStridedSlice S1024x32 ![0, 1408] W slices_S1024x3240_S1024x32_0_1408⟩,
    ⟨S1024x96, broadcastInDim S1024x96 ![] bcast_S_S1024x96 (constant (F := Ideal) S_ .f32 0x00000000#32)⟩,
    ⟨S1024x768, extractStridedSlice S1024x768 ![0, 1696] W slices_S1024x3240_S1024x768_0_1696⟩,
    ⟨S1024x256, extractStridedSlice S1024x256 ![0, 1440] W slices_S1024x3240_S1024x256_0_1440⟩,
    ⟨S1024x8, extractStridedSlice S1024x8 ![0, 2464] W slices_S1024x3240_S1024x8_0_2464⟩,
    ⟨S1024x248, broadcastInDim S1024x248 ![] bcast_S_S1024x248 (constant (F := Ideal) S_ .f32 0x00000000#32)⟩,
    ⟨S1024x256, extractStridedSlice S1024x256 ![0, 2472] W slices_S1024x3240_S1024x256_0_2472⟩,
    ⟨S1024x256, extractStridedSlice S1024x256 ![0, 2728] W slices_S1024x3240_S1024x256_0_2728⟩,
    ⟨S1024x256, extractStridedSlice S1024x256 ![0, 2984] W slices_S1024x3240_S1024x256_0_2984⟩]
    concatenates_S1024x256_S1024x256_S1024x256_S1024x256_S1024x256_S1024x128_S1024x32_S1024x96_S1024x768_S1024x256_S1024x8_S1024x248_S1024x256_S1024x256_S1024x256_S1024x3584_d1

theorem off {n : ℕ} (d : Fin 1024) (k : Fin n) (j : Fin 3584) (b : Fin 2) (hb : b ≠ 1) :
    (ix2 d k b).val = (ix2 d j b).val := by
  match b with
  | ⟨0, _⟩ => rfl
  | ⟨1, _⟩ => exact absurd rfl hb

theorem before0 : (((([S1024x256, S1024x256, S1024x256, S1024x256, S1024x256, S1024x128, S1024x32, S1024x96, S1024x768, S1024x256, S1024x8, S1024x248, S1024x256, S1024x256, S1024x256] : List Shape).take 0).map
    fun s => if h : s.rank = S1024x3584.rank then s.size ((1 : Fin S1024x3584.rank).cast h.symm) else 0)).sum = 0 := by
  decide +kernel

theorem piece0 (W : FVec Ideal S1024x3240 .f32) (d : Fin 1024) (j : Fin 3584) (h1 : 0 ≤ j.val) (h2 : j.val < 256) :
    spread W (ix2 d j) = place (fun k => W (ix2 d k)) j := by
  unfold spread
  refine (concatenate_apply_piece (t := S1024x3584) 1 _ _ (ix2 d j) 0 (by exact Nat.lt_of_lt_of_eq (by decide : 0 < 15) rfl) S1024x256 _ rfl rfl 0 (by exact before0)
    (ix2 d ⟨j.val - 0, by omega⟩) (fun b hb => off d _ j b hb) (by show 0 + (j.val - 0) = j.val; omega)).trans ?_
  rw [place_of_src _ j (by unfold gap; omega) ⟨0 + (j.val - 0), by omega⟩ (by unfold src; dsimp only; split_ifs <;> omega)]
  pointwise []

theorem before1 : (((([S1024x256, S1024x256, S1024x256, S1024x256, S1024x256, S1024x128, S1024x32, S1024x96, S1024x768, S1024x256, S1024x8, S1024x248, S1024x256, S1024x256, S1024x256] : List Shape).take 1).map
    fun s => if h : s.rank = S1024x3584.rank then s.size ((1 : Fin S1024x3584.rank).cast h.symm) else 0)).sum = 256 := by
  decide +kernel

theorem piece1 (W : FVec Ideal S1024x3240 .f32) (d : Fin 1024) (j : Fin 3584) (h1 : 256 ≤ j.val) (h2 : j.val < 512) :
    spread W (ix2 d j) = place (fun k => W (ix2 d k)) j := by
  unfold spread
  refine (concatenate_apply_piece (t := S1024x3584) 1 _ _ (ix2 d j) 1 (by exact Nat.lt_of_lt_of_eq (by decide : 1 < 15) rfl) S1024x256 _ rfl rfl 256 (by exact before1)
    (ix2 d ⟨j.val - 256, by omega⟩) (fun b hb => off d _ j b hb) (by show 256 + (j.val - 256) = j.val; omega)).trans ?_
  rw [place_of_src _ j (by unfold gap; omega) ⟨256 + (j.val - 256), by omega⟩ (by unfold src; dsimp only; split_ifs <;> omega)]
  pointwise []

theorem before2 : (((([S1024x256, S1024x256, S1024x256, S1024x256, S1024x256, S1024x128, S1024x32, S1024x96, S1024x768, S1024x256, S1024x8, S1024x248, S1024x256, S1024x256, S1024x256] : List Shape).take 2).map
    fun s => if h : s.rank = S1024x3584.rank then s.size ((1 : Fin S1024x3584.rank).cast h.symm) else 0)).sum = 512 := by
  decide +kernel

theorem piece2 (W : FVec Ideal S1024x3240 .f32) (d : Fin 1024) (j : Fin 3584) (h1 : 512 ≤ j.val) (h2 : j.val < 768) :
    spread W (ix2 d j) = place (fun k => W (ix2 d k)) j := by
  unfold spread
  refine (concatenate_apply_piece (t := S1024x3584) 1 _ _ (ix2 d j) 2 (by exact Nat.lt_of_lt_of_eq (by decide : 2 < 15) rfl) S1024x256 _ rfl rfl 512 (by exact before2)
    (ix2 d ⟨j.val - 512, by omega⟩) (fun b hb => off d _ j b hb) (by show 512 + (j.val - 512) = j.val; omega)).trans ?_
  rw [place_of_src _ j (by unfold gap; omega) ⟨512 + (j.val - 512), by omega⟩ (by unfold src; dsimp only; split_ifs <;> omega)]
  pointwise []

theorem before3 : (((([S1024x256, S1024x256, S1024x256, S1024x256, S1024x256, S1024x128, S1024x32, S1024x96, S1024x768, S1024x256, S1024x8, S1024x248, S1024x256, S1024x256, S1024x256] : List Shape).take 3).map
    fun s => if h : s.rank = S1024x3584.rank then s.size ((1 : Fin S1024x3584.rank).cast h.symm) else 0)).sum = 768 := by
  decide +kernel

theorem piece3 (W : FVec Ideal S1024x3240 .f32) (d : Fin 1024) (j : Fin 3584) (h1 : 768 ≤ j.val) (h2 : j.val < 1024) :
    spread W (ix2 d j) = place (fun k => W (ix2 d k)) j := by
  unfold spread
  refine (concatenate_apply_piece (t := S1024x3584) 1 _ _ (ix2 d j) 3 (by exact Nat.lt_of_lt_of_eq (by decide : 3 < 15) rfl) S1024x256 _ rfl rfl 768 (by exact before3)
    (ix2 d ⟨j.val - 768, by omega⟩) (fun b hb => off d _ j b hb) (by show 768 + (j.val - 768) = j.val; omega)).trans ?_
  rw [place_of_src _ j (by unfold gap; omega) ⟨768 + (j.val - 768), by omega⟩ (by unfold src; dsimp only; split_ifs <;> omega)]
  pointwise []

theorem before4 : (((([S1024x256, S1024x256, S1024x256, S1024x256, S1024x256, S1024x128, S1024x32, S1024x96, S1024x768, S1024x256, S1024x8, S1024x248, S1024x256, S1024x256, S1024x256] : List Shape).take 4).map
    fun s => if h : s.rank = S1024x3584.rank then s.size ((1 : Fin S1024x3584.rank).cast h.symm) else 0)).sum = 1024 := by
  decide +kernel

theorem piece4 (W : FVec Ideal S1024x3240 .f32) (d : Fin 1024) (j : Fin 3584) (h1 : 1024 ≤ j.val) (h2 : j.val < 1280) :
    spread W (ix2 d j) = place (fun k => W (ix2 d k)) j := by
  unfold spread
  refine (concatenate_apply_piece (t := S1024x3584) 1 _ _ (ix2 d j) 4 (by exact Nat.lt_of_lt_of_eq (by decide : 4 < 15) rfl) S1024x256 _ rfl rfl 1024 (by exact before4)
    (ix2 d ⟨j.val - 1024, by omega⟩) (fun b hb => off d _ j b hb) (by show 1024 + (j.val - 1024) = j.val; omega)).trans ?_
  rw [place_of_src _ j (by unfold gap; omega) ⟨1024 + (j.val - 1024), by omega⟩ (by unfold src; dsimp only; split_ifs <;> omega)]
  pointwise []

theorem before5 : (((([S1024x256, S1024x256, S1024x256, S1024x256, S1024x256, S1024x128, S1024x32, S1024x96, S1024x768, S1024x256, S1024x8, S1024x248, S1024x256, S1024x256, S1024x256] : List Shape).take 5).map
    fun s => if h : s.rank = S1024x3584.rank then s.size ((1 : Fin S1024x3584.rank).cast h.symm) else 0)).sum = 1280 := by
  decide +kernel

theorem piece5 (W : FVec Ideal S1024x3240 .f32) (d : Fin 1024) (j : Fin 3584) (h1 : 1280 ≤ j.val) (h2 : j.val < 1408) :
    spread W (ix2 d j) = place (fun k => W (ix2 d k)) j := by
  unfold spread
  refine (concatenate_apply_piece (t := S1024x3584) 1 _ _ (ix2 d j) 5 (by exact Nat.lt_of_lt_of_eq (by decide : 5 < 15) rfl) S1024x128 _ rfl rfl 1280 (by exact before5)
    (ix2 d ⟨j.val - 1280, by omega⟩) (fun b hb => off d _ j b hb) (by show 1280 + (j.val - 1280) = j.val; omega)).trans ?_
  rw [place_of_src _ j (by unfold gap; omega) ⟨1280 + (j.val - 1280), by omega⟩ (by unfold src; dsimp only; split_ifs <;> omega)]
  pointwise []

theorem before6 : (((([S1024x256, S1024x256, S1024x256, S1024x256, S1024x256, S1024x128, S1024x32, S1024x96, S1024x768, S1024x256, S1024x8, S1024x248, S1024x256, S1024x256, S1024x256] : List Shape).take 6).map
    fun s => if h : s.rank = S1024x3584.rank then s.size ((1 : Fin S1024x3584.rank).cast h.symm) else 0)).sum = 1408 := by
  decide +kernel

theorem piece6 (W : FVec Ideal S1024x3240 .f32) (d : Fin 1024) (j : Fin 3584) (h1 : 1408 ≤ j.val) (h2 : j.val < 1440) :
    spread W (ix2 d j) = place (fun k => W (ix2 d k)) j := by
  unfold spread
  refine (concatenate_apply_piece (t := S1024x3584) 1 _ _ (ix2 d j) 6 (by exact Nat.lt_of_lt_of_eq (by decide : 6 < 15) rfl) S1024x32 _ rfl rfl 1408 (by exact before6)
    (ix2 d ⟨j.val - 1408, by omega⟩) (fun b hb => off d _ j b hb) (by show 1408 + (j.val - 1408) = j.val; omega)).trans ?_
  rw [place_of_src _ j (by unfold gap; omega) ⟨1408 + (j.val - 1408), by omega⟩ (by unfold src; dsimp only; split_ifs <;> omega)]
  pointwise []

theorem before7 : (((([S1024x256, S1024x256, S1024x256, S1024x256, S1024x256, S1024x128, S1024x32, S1024x96, S1024x768, S1024x256, S1024x8, S1024x248, S1024x256, S1024x256, S1024x256] : List Shape).take 7).map
    fun s => if h : s.rank = S1024x3584.rank then s.size ((1 : Fin S1024x3584.rank).cast h.symm) else 0)).sum = 1440 := by
  decide +kernel

theorem piece7 (W : FVec Ideal S1024x3240 .f32) (d : Fin 1024) (j : Fin 3584) (h1 : 1440 ≤ j.val) (h2 : j.val < 1536) :
    spread W (ix2 d j) = place (fun k => W (ix2 d k)) j := by
  unfold spread
  refine (concatenate_apply_piece (t := S1024x3584) 1 _ _ (ix2 d j) 7 (by exact Nat.lt_of_lt_of_eq (by decide : 7 < 15) rfl) S1024x96 _ rfl rfl 1440 (by exact before7)
    (ix2 d ⟨j.val - 1440, by omega⟩) (fun b hb => off d _ j b hb) (by show 1440 + (j.val - 1440) = j.val; omega)).trans ?_
  rw [place_of_gap _ j (by unfold gap; omega)]
  pointwise []

theorem before8 : (((([S1024x256, S1024x256, S1024x256, S1024x256, S1024x256, S1024x128, S1024x32, S1024x96, S1024x768, S1024x256, S1024x8, S1024x248, S1024x256, S1024x256, S1024x256] : List Shape).take 8).map
    fun s => if h : s.rank = S1024x3584.rank then s.size ((1 : Fin S1024x3584.rank).cast h.symm) else 0)).sum = 1536 := by
  decide +kernel

theorem piece8 (W : FVec Ideal S1024x3240 .f32) (d : Fin 1024) (j : Fin 3584) (h1 : 1536 ≤ j.val) (h2 : j.val < 2304) :
    spread W (ix2 d j) = place (fun k => W (ix2 d k)) j := by
  unfold spread
  refine (concatenate_apply_piece (t := S1024x3584) 1 _ _ (ix2 d j) 8 (by exact Nat.lt_of_lt_of_eq (by decide : 8 < 15) rfl) S1024x768 _ rfl rfl 1536 (by exact before8)
    (ix2 d ⟨j.val - 1536, by omega⟩) (fun b hb => off d _ j b hb) (by show 1536 + (j.val - 1536) = j.val; omega)).trans ?_
  rw [place_of_src _ j (by unfold gap; omega) ⟨1696 + (j.val - 1536), by omega⟩ (by unfold src; dsimp only; split_ifs <;> omega)]
  pointwise []

theorem before9 : (((([S1024x256, S1024x256, S1024x256, S1024x256, S1024x256, S1024x128, S1024x32, S1024x96, S1024x768, S1024x256, S1024x8, S1024x248, S1024x256, S1024x256, S1024x256] : List Shape).take 9).map
    fun s => if h : s.rank = S1024x3584.rank then s.size ((1 : Fin S1024x3584.rank).cast h.symm) else 0)).sum = 2304 := by
  decide +kernel

theorem piece9 (W : FVec Ideal S1024x3240 .f32) (d : Fin 1024) (j : Fin 3584) (h1 : 2304 ≤ j.val) (h2 : j.val < 2560) :
    spread W (ix2 d j) = place (fun k => W (ix2 d k)) j := by
  unfold spread
  refine (concatenate_apply_piece (t := S1024x3584) 1 _ _ (ix2 d j) 9 (by exact Nat.lt_of_lt_of_eq (by decide : 9 < 15) rfl) S1024x256 _ rfl rfl 2304 (by exact before9)
    (ix2 d ⟨j.val - 2304, by omega⟩) (fun b hb => off d _ j b hb) (by show 2304 + (j.val - 2304) = j.val; omega)).trans ?_
  rw [place_of_src _ j (by unfold gap; omega) ⟨1440 + (j.val - 2304), by omega⟩ (by unfold src; dsimp only; split_ifs <;> omega)]
  pointwise []

theorem before10 : (((([S1024x256, S1024x256, S1024x256, S1024x256, S1024x256, S1024x128, S1024x32, S1024x96, S1024x768, S1024x256, S1024x8, S1024x248, S1024x256, S1024x256, S1024x256] : List Shape).take 10).map
    fun s => if h : s.rank = S1024x3584.rank then s.size ((1 : Fin S1024x3584.rank).cast h.symm) else 0)).sum = 2560 := by
  decide +kernel

theorem piece10 (W : FVec Ideal S1024x3240 .f32) (d : Fin 1024) (j : Fin 3584) (h1 : 2560 ≤ j.val) (h2 : j.val < 2568) :
    spread W (ix2 d j) = place (fun k => W (ix2 d k)) j := by
  unfold spread
  refine (concatenate_apply_piece (t := S1024x3584) 1 _ _ (ix2 d j) 10 (by exact Nat.lt_of_lt_of_eq (by decide : 10 < 15) rfl) S1024x8 _ rfl rfl 2560 (by exact before10)
    (ix2 d ⟨j.val - 2560, by omega⟩) (fun b hb => off d _ j b hb) (by show 2560 + (j.val - 2560) = j.val; omega)).trans ?_
  rw [place_of_src _ j (by unfold gap; omega) ⟨2464 + (j.val - 2560), by omega⟩ (by unfold src; dsimp only; split_ifs <;> omega)]
  pointwise []

theorem before11 : (((([S1024x256, S1024x256, S1024x256, S1024x256, S1024x256, S1024x128, S1024x32, S1024x96, S1024x768, S1024x256, S1024x8, S1024x248, S1024x256, S1024x256, S1024x256] : List Shape).take 11).map
    fun s => if h : s.rank = S1024x3584.rank then s.size ((1 : Fin S1024x3584.rank).cast h.symm) else 0)).sum = 2568 := by
  decide +kernel

theorem piece11 (W : FVec Ideal S1024x3240 .f32) (d : Fin 1024) (j : Fin 3584) (h1 : 2568 ≤ j.val) (h2 : j.val < 2816) :
    spread W (ix2 d j) = place (fun k => W (ix2 d k)) j := by
  unfold spread
  refine (concatenate_apply_piece (t := S1024x3584) 1 _ _ (ix2 d j) 11 (by exact Nat.lt_of_lt_of_eq (by decide : 11 < 15) rfl) S1024x248 _ rfl rfl 2568 (by exact before11)
    (ix2 d ⟨j.val - 2568, by omega⟩) (fun b hb => off d _ j b hb) (by show 2568 + (j.val - 2568) = j.val; omega)).trans ?_
  rw [place_of_gap _ j (by unfold gap; omega)]
  pointwise []

theorem before12 : (((([S1024x256, S1024x256, S1024x256, S1024x256, S1024x256, S1024x128, S1024x32, S1024x96, S1024x768, S1024x256, S1024x8, S1024x248, S1024x256, S1024x256, S1024x256] : List Shape).take 12).map
    fun s => if h : s.rank = S1024x3584.rank then s.size ((1 : Fin S1024x3584.rank).cast h.symm) else 0)).sum = 2816 := by
  decide +kernel

theorem piece12 (W : FVec Ideal S1024x3240 .f32) (d : Fin 1024) (j : Fin 3584) (h1 : 2816 ≤ j.val) (h2 : j.val < 3072) :
    spread W (ix2 d j) = place (fun k => W (ix2 d k)) j := by
  unfold spread
  refine (concatenate_apply_piece (t := S1024x3584) 1 _ _ (ix2 d j) 12 (by exact Nat.lt_of_lt_of_eq (by decide : 12 < 15) rfl) S1024x256 _ rfl rfl 2816 (by exact before12)
    (ix2 d ⟨j.val - 2816, by omega⟩) (fun b hb => off d _ j b hb) (by show 2816 + (j.val - 2816) = j.val; omega)).trans ?_
  rw [place_of_src _ j (by unfold gap; omega) ⟨2472 + (j.val - 2816), by omega⟩ (by unfold src; dsimp only; split_ifs <;> omega)]
  pointwise []

theorem before13 : (((([S1024x256, S1024x256, S1024x256, S1024x256, S1024x256, S1024x128, S1024x32, S1024x96, S1024x768, S1024x256, S1024x8, S1024x248, S1024x256, S1024x256, S1024x256] : List Shape).take 13).map
    fun s => if h : s.rank = S1024x3584.rank then s.size ((1 : Fin S1024x3584.rank).cast h.symm) else 0)).sum = 3072 := by
  decide +kernel

theorem piece13 (W : FVec Ideal S1024x3240 .f32) (d : Fin 1024) (j : Fin 3584) (h1 : 3072 ≤ j.val) (h2 : j.val < 3328) :
    spread W (ix2 d j) = place (fun k => W (ix2 d k)) j := by
  unfold spread
  refine (concatenate_apply_piece (t := S1024x3584) 1 _ _ (ix2 d j) 13 (by exact Nat.lt_of_lt_of_eq (by decide : 13 < 15) rfl) S1024x256 _ rfl rfl 3072 (by exact before13)
    (ix2 d ⟨j.val - 3072, by omega⟩) (fun b hb => off d _ j b hb) (by show 3072 + (j.val - 3072) = j.val; omega)).trans ?_
  rw [place_of_src _ j (by unfold gap; omega) ⟨2728 + (j.val - 3072), by omega⟩ (by unfold src; dsimp only; split_ifs <;> omega)]
  pointwise []

theorem before14 : (((([S1024x256, S1024x256, S1024x256, S1024x256, S1024x256, S1024x128, S1024x32, S1024x96, S1024x768, S1024x256, S1024x8, S1024x248, S1024x256, S1024x256, S1024x256] : List Shape).take 14).map
    fun s => if h : s.rank = S1024x3584.rank then s.size ((1 : Fin S1024x3584.rank).cast h.symm) else 0)).sum = 3328 := by
  decide +kernel

theorem piece14 (W : FVec Ideal S1024x3240 .f32) (d : Fin 1024) (j : Fin 3584) (h1 : 3328 ≤ j.val) (h2 : j.val < 3584) :
    spread W (ix2 d j) = place (fun k => W (ix2 d k)) j := by
  unfold spread
  refine (concatenate_apply_piece (t := S1024x3584) 1 _ _ (ix2 d j) 14 (by exact Nat.lt_of_lt_of_eq (by decide : 14 < 15) rfl) S1024x256 _ rfl rfl 3328 (by exact before14)
    (ix2 d ⟨j.val - 3328, by omega⟩) (fun b hb => off d _ j b hb) (by show 3328 + (j.val - 3328) = j.val; omega)).trans ?_
  rw [place_of_src _ j (by unfold gap; omega) ⟨2984 + (j.val - 3328), by omega⟩ (by unfold src; dsimp only; split_ifs <;> omega)]
  pointwise []

theorem spread_at (W : FVec Ideal S1024x3240 .f32) (d : Fin 1024) (j : Fin 3584) :
    spread W (ix2 d j) = place (fun k => W (ix2 d k)) j := by
  have hj := j.isLt
  by_cases h0 : j.val < 256
  · exact piece0 W d j (by omega) h0
  by_cases h1 : j.val < 512
  · exact piece1 W d j (by omega) h1
  by_cases h2 : j.val < 768
  · exact piece2 W d j (by omega) h2
  by_cases h3 : j.val < 1024
  · exact piece3 W d j (by omega) h3
  by_cases h4 : j.val < 1280
  · exact piece4 W d j (by omega) h4
  by_cases h5 : j.val < 1408
  · exact piece5 W d j (by omega) h5
  by_cases h6 : j.val < 1440
  · exact piece6 W d j (by omega) h6
  by_cases h7 : j.val < 1536
  · exact piece7 W d j (by omega) h7
  by_cases h8 : j.val < 2304
  · exact piece8 W d j (by omega) h8
  by_cases h9 : j.val < 2560
  · exact piece9 W d j (by omega) h9
  by_cases h10 : j.val < 2568
  · exact piece10 W d j (by omega) h10
  by_cases h11 : j.val < 2816
  · exact piece11 W d j (by omega) h11
  by_cases h12 : j.val < 3072
  · exact piece12 W d j (by omega) h12
  by_cases h13 : j.val < 3328
  · exact piece13 W d j (by omega) h13
  exact piece14 W d j (by omega) (by omega)

end Cert.InprojIdeal.Spread

namespace Cert.InprojRefIdeal.Spread

open Cert.InprojRefIdeal Cert.InprojRefIdeal.Gen Cert.Place Idealize.ShloMosaic

/-- The columns in the call's order. -/
def spread (W : FVec Ideal S4x4096x3240 .f32) : FVec Ideal S4x4096x3584 .f32 :=
  concatenate S4x4096x3584 2 [⟨S4x4096x256, extractStridedSlice S4x4096x256 ![0, 0, 0] W slices_S4x4096x3240_S4x4096x256_0_0_0⟩,
    ⟨S4x4096x256, extractStridedSlice S4x4096x256 ![0, 0, 256] W slices_S4x4096x3240_S4x4096x256_0_0_256⟩,
    ⟨S4x4096x256, extractStridedSlice S4x4096x256 ![0, 0, 512] W slices_S4x4096x3240_S4x4096x256_0_0_512⟩,
    ⟨S4x4096x256, extractStridedSlice S4x4096x256 ![0, 0, 768] W slices_S4x4096x3240_S4x4096x256_0_0_768⟩,
    ⟨S4x4096x256, extractStridedSlice S4x4096x256 ![0, 0, 1024] W slices_S4x4096x3240_S4x4096x256_0_0_1024⟩,
    ⟨S4x4096x128, extractStridedSlice S4x4096x128 ![0, 0, 1280] W slices_S4x4096x3240_S4x4096x128_0_0_1280⟩,
    ⟨S4x4096x32, extractStridedSlice S4x4096x32 ![0, 0, 1408] W slices_S4x4096x3240_S4x4096x32_0_0_1408⟩,
    ⟨S4x4096x96, broadcastInDim S4x4096x96 ![] bcast_S_S4x4096x96 (constant (F := Ideal) S_ .f32 0x00000000#32)⟩,
    ⟨S4x4096x768, extractStridedSlice S4x4096x768 ![0, 0, 1696] W slices_S4x4096x3240_S4x4096x768_0_0_1696⟩,
    ⟨S4x4096x256, extractStridedSlice S4x4096x256 ![0, 0, 1440] W slices_S4x4096x3240_S4x4096x256_0_0_1440⟩,
    ⟨S4x4096x8, extractStridedSlice S4x4096x8 ![0, 0, 2464] W slices_S4x4096x3240_S4x4096x8_0_0_2464⟩,
    ⟨S4x4096x248, broadcastInDim S4x4096x248 ![] bcast_S_S4x4096x248 (constant (F := Ideal) S_ .f32 0x00000000#32)⟩,
    ⟨S4x4096x256, extractStridedSlice S4x4096x256 ![0, 0, 2472] W slices_S4x4096x3240_S4x4096x256_0_0_2472⟩,
    ⟨S4x4096x256, extractStridedSlice S4x4096x256 ![0, 0, 2728] W slices_S4x4096x3240_S4x4096x256_0_0_2728⟩,
    ⟨S4x4096x256, extractStridedSlice S4x4096x256 ![0, 0, 2984] W slices_S4x4096x3240_S4x4096x256_0_0_2984⟩]
    concatenates_S4x4096x256_S4x4096x256_S4x4096x256_S4x4096x256_S4x4096x256_S4x4096x128_S4x4096x32_S4x4096x96_S4x4096x768_S4x4096x256_S4x4096x8_S4x4096x248_S4x4096x256_S4x4096x256_S4x4096x256_S4x4096x3584_d2

theorem off {n : ℕ} (b : Fin 4) (s : Fin 4096) (k : Fin n) (j : Fin 3584) (q : Fin 3) (hb : q ≠ 2) :
    (ix3 b s k q).val = (ix3 b s j q).val := by
  match q with
  | ⟨0, _⟩ => rfl
  | ⟨1, _⟩ => rfl
  | ⟨2, _⟩ => exact absurd rfl hb

theorem before0 : (((([S4x4096x256, S4x4096x256, S4x4096x256, S4x4096x256, S4x4096x256, S4x4096x128, S4x4096x32, S4x4096x96, S4x4096x768, S4x4096x256, S4x4096x8, S4x4096x248, S4x4096x256, S4x4096x256, S4x4096x256] : List Shape).take 0).map
    fun s => if h : s.rank = S4x4096x3584.rank then s.size ((2 : Fin S4x4096x3584.rank).cast h.symm) else 0)).sum = 0 := by
  decide +kernel

theorem piece0 (W : FVec Ideal S4x4096x3240 .f32) (b : Fin 4) (s : Fin 4096) (j : Fin 3584) (h1 : 0 ≤ j.val) (h2 : j.val < 256) :
    spread W (ix3 b s j) = place (fun k => W (ix3 b s k)) j := by
  unfold spread
  refine (concatenate_apply_piece (t := S4x4096x3584) 2 _ _ (ix3 b s j) 0 (by exact Nat.lt_of_lt_of_eq (by decide : 0 < 15) rfl) S4x4096x256 _ rfl rfl 0 (by exact before0)
    (ix3 b s ⟨j.val - 0, by omega⟩) (fun q hq => off b s _ j q hq) (by show 0 + (j.val - 0) = j.val; omega)).trans ?_
  rw [place_of_src _ j (by unfold gap; omega) ⟨0 + (j.val - 0), by omega⟩ (by unfold src; dsimp only; split_ifs <;> omega)]
  pointwise []

theorem before1 : (((([S4x4096x256, S4x4096x256, S4x4096x256, S4x4096x256, S4x4096x256, S4x4096x128, S4x4096x32, S4x4096x96, S4x4096x768, S4x4096x256, S4x4096x8, S4x4096x248, S4x4096x256, S4x4096x256, S4x4096x256] : List Shape).take 1).map
    fun s => if h : s.rank = S4x4096x3584.rank then s.size ((2 : Fin S4x4096x3584.rank).cast h.symm) else 0)).sum = 256 := by
  decide +kernel

theorem piece1 (W : FVec Ideal S4x4096x3240 .f32) (b : Fin 4) (s : Fin 4096) (j : Fin 3584) (h1 : 256 ≤ j.val) (h2 : j.val < 512) :
    spread W (ix3 b s j) = place (fun k => W (ix3 b s k)) j := by
  unfold spread
  refine (concatenate_apply_piece (t := S4x4096x3584) 2 _ _ (ix3 b s j) 1 (by exact Nat.lt_of_lt_of_eq (by decide : 1 < 15) rfl) S4x4096x256 _ rfl rfl 256 (by exact before1)
    (ix3 b s ⟨j.val - 256, by omega⟩) (fun q hq => off b s _ j q hq) (by show 256 + (j.val - 256) = j.val; omega)).trans ?_
  rw [place_of_src _ j (by unfold gap; omega) ⟨256 + (j.val - 256), by omega⟩ (by unfold src; dsimp only; split_ifs <;> omega)]
  pointwise []

theorem before2 : (((([S4x4096x256, S4x4096x256, S4x4096x256, S4x4096x256, S4x4096x256, S4x4096x128, S4x4096x32, S4x4096x96, S4x4096x768, S4x4096x256, S4x4096x8, S4x4096x248, S4x4096x256, S4x4096x256, S4x4096x256] : List Shape).take 2).map
    fun s => if h : s.rank = S4x4096x3584.rank then s.size ((2 : Fin S4x4096x3584.rank).cast h.symm) else 0)).sum = 512 := by
  decide +kernel

theorem piece2 (W : FVec Ideal S4x4096x3240 .f32) (b : Fin 4) (s : Fin 4096) (j : Fin 3584) (h1 : 512 ≤ j.val) (h2 : j.val < 768) :
    spread W (ix3 b s j) = place (fun k => W (ix3 b s k)) j := by
  unfold spread
  refine (concatenate_apply_piece (t := S4x4096x3584) 2 _ _ (ix3 b s j) 2 (by exact Nat.lt_of_lt_of_eq (by decide : 2 < 15) rfl) S4x4096x256 _ rfl rfl 512 (by exact before2)
    (ix3 b s ⟨j.val - 512, by omega⟩) (fun q hq => off b s _ j q hq) (by show 512 + (j.val - 512) = j.val; omega)).trans ?_
  rw [place_of_src _ j (by unfold gap; omega) ⟨512 + (j.val - 512), by omega⟩ (by unfold src; dsimp only; split_ifs <;> omega)]
  pointwise []

theorem before3 : (((([S4x4096x256, S4x4096x256, S4x4096x256, S4x4096x256, S4x4096x256, S4x4096x128, S4x4096x32, S4x4096x96, S4x4096x768, S4x4096x256, S4x4096x8, S4x4096x248, S4x4096x256, S4x4096x256, S4x4096x256] : List Shape).take 3).map
    fun s => if h : s.rank = S4x4096x3584.rank then s.size ((2 : Fin S4x4096x3584.rank).cast h.symm) else 0)).sum = 768 := by
  decide +kernel

theorem piece3 (W : FVec Ideal S4x4096x3240 .f32) (b : Fin 4) (s : Fin 4096) (j : Fin 3584) (h1 : 768 ≤ j.val) (h2 : j.val < 1024) :
    spread W (ix3 b s j) = place (fun k => W (ix3 b s k)) j := by
  unfold spread
  refine (concatenate_apply_piece (t := S4x4096x3584) 2 _ _ (ix3 b s j) 3 (by exact Nat.lt_of_lt_of_eq (by decide : 3 < 15) rfl) S4x4096x256 _ rfl rfl 768 (by exact before3)
    (ix3 b s ⟨j.val - 768, by omega⟩) (fun q hq => off b s _ j q hq) (by show 768 + (j.val - 768) = j.val; omega)).trans ?_
  rw [place_of_src _ j (by unfold gap; omega) ⟨768 + (j.val - 768), by omega⟩ (by unfold src; dsimp only; split_ifs <;> omega)]
  pointwise []

theorem before4 : (((([S4x4096x256, S4x4096x256, S4x4096x256, S4x4096x256, S4x4096x256, S4x4096x128, S4x4096x32, S4x4096x96, S4x4096x768, S4x4096x256, S4x4096x8, S4x4096x248, S4x4096x256, S4x4096x256, S4x4096x256] : List Shape).take 4).map
    fun s => if h : s.rank = S4x4096x3584.rank then s.size ((2 : Fin S4x4096x3584.rank).cast h.symm) else 0)).sum = 1024 := by
  decide +kernel

theorem piece4 (W : FVec Ideal S4x4096x3240 .f32) (b : Fin 4) (s : Fin 4096) (j : Fin 3584) (h1 : 1024 ≤ j.val) (h2 : j.val < 1280) :
    spread W (ix3 b s j) = place (fun k => W (ix3 b s k)) j := by
  unfold spread
  refine (concatenate_apply_piece (t := S4x4096x3584) 2 _ _ (ix3 b s j) 4 (by exact Nat.lt_of_lt_of_eq (by decide : 4 < 15) rfl) S4x4096x256 _ rfl rfl 1024 (by exact before4)
    (ix3 b s ⟨j.val - 1024, by omega⟩) (fun q hq => off b s _ j q hq) (by show 1024 + (j.val - 1024) = j.val; omega)).trans ?_
  rw [place_of_src _ j (by unfold gap; omega) ⟨1024 + (j.val - 1024), by omega⟩ (by unfold src; dsimp only; split_ifs <;> omega)]
  pointwise []

theorem before5 : (((([S4x4096x256, S4x4096x256, S4x4096x256, S4x4096x256, S4x4096x256, S4x4096x128, S4x4096x32, S4x4096x96, S4x4096x768, S4x4096x256, S4x4096x8, S4x4096x248, S4x4096x256, S4x4096x256, S4x4096x256] : List Shape).take 5).map
    fun s => if h : s.rank = S4x4096x3584.rank then s.size ((2 : Fin S4x4096x3584.rank).cast h.symm) else 0)).sum = 1280 := by
  decide +kernel

theorem piece5 (W : FVec Ideal S4x4096x3240 .f32) (b : Fin 4) (s : Fin 4096) (j : Fin 3584) (h1 : 1280 ≤ j.val) (h2 : j.val < 1408) :
    spread W (ix3 b s j) = place (fun k => W (ix3 b s k)) j := by
  unfold spread
  refine (concatenate_apply_piece (t := S4x4096x3584) 2 _ _ (ix3 b s j) 5 (by exact Nat.lt_of_lt_of_eq (by decide : 5 < 15) rfl) S4x4096x128 _ rfl rfl 1280 (by exact before5)
    (ix3 b s ⟨j.val - 1280, by omega⟩) (fun q hq => off b s _ j q hq) (by show 1280 + (j.val - 1280) = j.val; omega)).trans ?_
  rw [place_of_src _ j (by unfold gap; omega) ⟨1280 + (j.val - 1280), by omega⟩ (by unfold src; dsimp only; split_ifs <;> omega)]
  pointwise []

theorem before6 : (((([S4x4096x256, S4x4096x256, S4x4096x256, S4x4096x256, S4x4096x256, S4x4096x128, S4x4096x32, S4x4096x96, S4x4096x768, S4x4096x256, S4x4096x8, S4x4096x248, S4x4096x256, S4x4096x256, S4x4096x256] : List Shape).take 6).map
    fun s => if h : s.rank = S4x4096x3584.rank then s.size ((2 : Fin S4x4096x3584.rank).cast h.symm) else 0)).sum = 1408 := by
  decide +kernel

theorem piece6 (W : FVec Ideal S4x4096x3240 .f32) (b : Fin 4) (s : Fin 4096) (j : Fin 3584) (h1 : 1408 ≤ j.val) (h2 : j.val < 1440) :
    spread W (ix3 b s j) = place (fun k => W (ix3 b s k)) j := by
  unfold spread
  refine (concatenate_apply_piece (t := S4x4096x3584) 2 _ _ (ix3 b s j) 6 (by exact Nat.lt_of_lt_of_eq (by decide : 6 < 15) rfl) S4x4096x32 _ rfl rfl 1408 (by exact before6)
    (ix3 b s ⟨j.val - 1408, by omega⟩) (fun q hq => off b s _ j q hq) (by show 1408 + (j.val - 1408) = j.val; omega)).trans ?_
  rw [place_of_src _ j (by unfold gap; omega) ⟨1408 + (j.val - 1408), by omega⟩ (by unfold src; dsimp only; split_ifs <;> omega)]
  pointwise []

theorem before7 : (((([S4x4096x256, S4x4096x256, S4x4096x256, S4x4096x256, S4x4096x256, S4x4096x128, S4x4096x32, S4x4096x96, S4x4096x768, S4x4096x256, S4x4096x8, S4x4096x248, S4x4096x256, S4x4096x256, S4x4096x256] : List Shape).take 7).map
    fun s => if h : s.rank = S4x4096x3584.rank then s.size ((2 : Fin S4x4096x3584.rank).cast h.symm) else 0)).sum = 1440 := by
  decide +kernel

theorem piece7 (W : FVec Ideal S4x4096x3240 .f32) (b : Fin 4) (s : Fin 4096) (j : Fin 3584) (h1 : 1440 ≤ j.val) (h2 : j.val < 1536) :
    spread W (ix3 b s j) = place (fun k => W (ix3 b s k)) j := by
  unfold spread
  refine (concatenate_apply_piece (t := S4x4096x3584) 2 _ _ (ix3 b s j) 7 (by exact Nat.lt_of_lt_of_eq (by decide : 7 < 15) rfl) S4x4096x96 _ rfl rfl 1440 (by exact before7)
    (ix3 b s ⟨j.val - 1440, by omega⟩) (fun q hq => off b s _ j q hq) (by show 1440 + (j.val - 1440) = j.val; omega)).trans ?_
  rw [place_of_gap _ j (by unfold gap; omega)]
  pointwise []

theorem before8 : (((([S4x4096x256, S4x4096x256, S4x4096x256, S4x4096x256, S4x4096x256, S4x4096x128, S4x4096x32, S4x4096x96, S4x4096x768, S4x4096x256, S4x4096x8, S4x4096x248, S4x4096x256, S4x4096x256, S4x4096x256] : List Shape).take 8).map
    fun s => if h : s.rank = S4x4096x3584.rank then s.size ((2 : Fin S4x4096x3584.rank).cast h.symm) else 0)).sum = 1536 := by
  decide +kernel

theorem piece8 (W : FVec Ideal S4x4096x3240 .f32) (b : Fin 4) (s : Fin 4096) (j : Fin 3584) (h1 : 1536 ≤ j.val) (h2 : j.val < 2304) :
    spread W (ix3 b s j) = place (fun k => W (ix3 b s k)) j := by
  unfold spread
  refine (concatenate_apply_piece (t := S4x4096x3584) 2 _ _ (ix3 b s j) 8 (by exact Nat.lt_of_lt_of_eq (by decide : 8 < 15) rfl) S4x4096x768 _ rfl rfl 1536 (by exact before8)
    (ix3 b s ⟨j.val - 1536, by omega⟩) (fun q hq => off b s _ j q hq) (by show 1536 + (j.val - 1536) = j.val; omega)).trans ?_
  rw [place_of_src _ j (by unfold gap; omega) ⟨1696 + (j.val - 1536), by omega⟩ (by unfold src; dsimp only; split_ifs <;> omega)]
  pointwise []

theorem before9 : (((([S4x4096x256, S4x4096x256, S4x4096x256, S4x4096x256, S4x4096x256, S4x4096x128, S4x4096x32, S4x4096x96, S4x4096x768, S4x4096x256, S4x4096x8, S4x4096x248, S4x4096x256, S4x4096x256, S4x4096x256] : List Shape).take 9).map
    fun s => if h : s.rank = S4x4096x3584.rank then s.size ((2 : Fin S4x4096x3584.rank).cast h.symm) else 0)).sum = 2304 := by
  decide +kernel

theorem piece9 (W : FVec Ideal S4x4096x3240 .f32) (b : Fin 4) (s : Fin 4096) (j : Fin 3584) (h1 : 2304 ≤ j.val) (h2 : j.val < 2560) :
    spread W (ix3 b s j) = place (fun k => W (ix3 b s k)) j := by
  unfold spread
  refine (concatenate_apply_piece (t := S4x4096x3584) 2 _ _ (ix3 b s j) 9 (by exact Nat.lt_of_lt_of_eq (by decide : 9 < 15) rfl) S4x4096x256 _ rfl rfl 2304 (by exact before9)
    (ix3 b s ⟨j.val - 2304, by omega⟩) (fun q hq => off b s _ j q hq) (by show 2304 + (j.val - 2304) = j.val; omega)).trans ?_
  rw [place_of_src _ j (by unfold gap; omega) ⟨1440 + (j.val - 2304), by omega⟩ (by unfold src; dsimp only; split_ifs <;> omega)]
  pointwise []

theorem before10 : (((([S4x4096x256, S4x4096x256, S4x4096x256, S4x4096x256, S4x4096x256, S4x4096x128, S4x4096x32, S4x4096x96, S4x4096x768, S4x4096x256, S4x4096x8, S4x4096x248, S4x4096x256, S4x4096x256, S4x4096x256] : List Shape).take 10).map
    fun s => if h : s.rank = S4x4096x3584.rank then s.size ((2 : Fin S4x4096x3584.rank).cast h.symm) else 0)).sum = 2560 := by
  decide +kernel

theorem piece10 (W : FVec Ideal S4x4096x3240 .f32) (b : Fin 4) (s : Fin 4096) (j : Fin 3584) (h1 : 2560 ≤ j.val) (h2 : j.val < 2568) :
    spread W (ix3 b s j) = place (fun k => W (ix3 b s k)) j := by
  unfold spread
  refine (concatenate_apply_piece (t := S4x4096x3584) 2 _ _ (ix3 b s j) 10 (by exact Nat.lt_of_lt_of_eq (by decide : 10 < 15) rfl) S4x4096x8 _ rfl rfl 2560 (by exact before10)
    (ix3 b s ⟨j.val - 2560, by omega⟩) (fun q hq => off b s _ j q hq) (by show 2560 + (j.val - 2560) = j.val; omega)).trans ?_
  rw [place_of_src _ j (by unfold gap; omega) ⟨2464 + (j.val - 2560), by omega⟩ (by unfold src; dsimp only; split_ifs <;> omega)]
  pointwise []

theorem before11 : (((([S4x4096x256, S4x4096x256, S4x4096x256, S4x4096x256, S4x4096x256, S4x4096x128, S4x4096x32, S4x4096x96, S4x4096x768, S4x4096x256, S4x4096x8, S4x4096x248, S4x4096x256, S4x4096x256, S4x4096x256] : List Shape).take 11).map
    fun s => if h : s.rank = S4x4096x3584.rank then s.size ((2 : Fin S4x4096x3584.rank).cast h.symm) else 0)).sum = 2568 := by
  decide +kernel

theorem piece11 (W : FVec Ideal S4x4096x3240 .f32) (b : Fin 4) (s : Fin 4096) (j : Fin 3584) (h1 : 2568 ≤ j.val) (h2 : j.val < 2816) :
    spread W (ix3 b s j) = place (fun k => W (ix3 b s k)) j := by
  unfold spread
  refine (concatenate_apply_piece (t := S4x4096x3584) 2 _ _ (ix3 b s j) 11 (by exact Nat.lt_of_lt_of_eq (by decide : 11 < 15) rfl) S4x4096x248 _ rfl rfl 2568 (by exact before11)
    (ix3 b s ⟨j.val - 2568, by omega⟩) (fun q hq => off b s _ j q hq) (by show 2568 + (j.val - 2568) = j.val; omega)).trans ?_
  rw [place_of_gap _ j (by unfold gap; omega)]
  pointwise []

theorem before12 : (((([S4x4096x256, S4x4096x256, S4x4096x256, S4x4096x256, S4x4096x256, S4x4096x128, S4x4096x32, S4x4096x96, S4x4096x768, S4x4096x256, S4x4096x8, S4x4096x248, S4x4096x256, S4x4096x256, S4x4096x256] : List Shape).take 12).map
    fun s => if h : s.rank = S4x4096x3584.rank then s.size ((2 : Fin S4x4096x3584.rank).cast h.symm) else 0)).sum = 2816 := by
  decide +kernel

theorem piece12 (W : FVec Ideal S4x4096x3240 .f32) (b : Fin 4) (s : Fin 4096) (j : Fin 3584) (h1 : 2816 ≤ j.val) (h2 : j.val < 3072) :
    spread W (ix3 b s j) = place (fun k => W (ix3 b s k)) j := by
  unfold spread
  refine (concatenate_apply_piece (t := S4x4096x3584) 2 _ _ (ix3 b s j) 12 (by exact Nat.lt_of_lt_of_eq (by decide : 12 < 15) rfl) S4x4096x256 _ rfl rfl 2816 (by exact before12)
    (ix3 b s ⟨j.val - 2816, by omega⟩) (fun q hq => off b s _ j q hq) (by show 2816 + (j.val - 2816) = j.val; omega)).trans ?_
  rw [place_of_src _ j (by unfold gap; omega) ⟨2472 + (j.val - 2816), by omega⟩ (by unfold src; dsimp only; split_ifs <;> omega)]
  pointwise []

theorem before13 : (((([S4x4096x256, S4x4096x256, S4x4096x256, S4x4096x256, S4x4096x256, S4x4096x128, S4x4096x32, S4x4096x96, S4x4096x768, S4x4096x256, S4x4096x8, S4x4096x248, S4x4096x256, S4x4096x256, S4x4096x256] : List Shape).take 13).map
    fun s => if h : s.rank = S4x4096x3584.rank then s.size ((2 : Fin S4x4096x3584.rank).cast h.symm) else 0)).sum = 3072 := by
  decide +kernel

theorem piece13 (W : FVec Ideal S4x4096x3240 .f32) (b : Fin 4) (s : Fin 4096) (j : Fin 3584) (h1 : 3072 ≤ j.val) (h2 : j.val < 3328) :
    spread W (ix3 b s j) = place (fun k => W (ix3 b s k)) j := by
  unfold spread
  refine (concatenate_apply_piece (t := S4x4096x3584) 2 _ _ (ix3 b s j) 13 (by exact Nat.lt_of_lt_of_eq (by decide : 13 < 15) rfl) S4x4096x256 _ rfl rfl 3072 (by exact before13)
    (ix3 b s ⟨j.val - 3072, by omega⟩) (fun q hq => off b s _ j q hq) (by show 3072 + (j.val - 3072) = j.val; omega)).trans ?_
  rw [place_of_src _ j (by unfold gap; omega) ⟨2728 + (j.val - 3072), by omega⟩ (by unfold src; dsimp only; split_ifs <;> omega)]
  pointwise []

theorem before14 : (((([S4x4096x256, S4x4096x256, S4x4096x256, S4x4096x256, S4x4096x256, S4x4096x128, S4x4096x32, S4x4096x96, S4x4096x768, S4x4096x256, S4x4096x8, S4x4096x248, S4x4096x256, S4x4096x256, S4x4096x256] : List Shape).take 14).map
    fun s => if h : s.rank = S4x4096x3584.rank then s.size ((2 : Fin S4x4096x3584.rank).cast h.symm) else 0)).sum = 3328 := by
  decide +kernel

theorem piece14 (W : FVec Ideal S4x4096x3240 .f32) (b : Fin 4) (s : Fin 4096) (j : Fin 3584) (h1 : 3328 ≤ j.val) (h2 : j.val < 3584) :
    spread W (ix3 b s j) = place (fun k => W (ix3 b s k)) j := by
  unfold spread
  refine (concatenate_apply_piece (t := S4x4096x3584) 2 _ _ (ix3 b s j) 14 (by exact Nat.lt_of_lt_of_eq (by decide : 14 < 15) rfl) S4x4096x256 _ rfl rfl 3328 (by exact before14)
    (ix3 b s ⟨j.val - 3328, by omega⟩) (fun q hq => off b s _ j q hq) (by show 3328 + (j.val - 3328) = j.val; omega)).trans ?_
  rw [place_of_src _ j (by unfold gap; omega) ⟨2984 + (j.val - 3328), by omega⟩ (by unfold src; dsimp only; split_ifs <;> omega)]
  pointwise []

theorem spread_at (W : FVec Ideal S4x4096x3240 .f32) (b : Fin 4) (s : Fin 4096) (j : Fin 3584) :
    spread W (ix3 b s j) = place (fun k => W (ix3 b s k)) j := by
  have hj := j.isLt
  by_cases h0 : j.val < 256
  · exact piece0 W b s j (by omega) h0
  by_cases h1 : j.val < 512
  · exact piece1 W b s j (by omega) h1
  by_cases h2 : j.val < 768
  · exact piece2 W b s j (by omega) h2
  by_cases h3 : j.val < 1024
  · exact piece3 W b s j (by omega) h3
  by_cases h4 : j.val < 1280
  · exact piece4 W b s j (by omega) h4
  by_cases h5 : j.val < 1408
  · exact piece5 W b s j (by omega) h5
  by_cases h6 : j.val < 1440
  · exact piece6 W b s j (by omega) h6
  by_cases h7 : j.val < 1536
  · exact piece7 W b s j (by omega) h7
  by_cases h8 : j.val < 2304
  · exact piece8 W b s j (by omega) h8
  by_cases h9 : j.val < 2560
  · exact piece9 W b s j (by omega) h9
  by_cases h10 : j.val < 2568
  · exact piece10 W b s j (by omega) h10
  by_cases h11 : j.val < 2816
  · exact piece11 W b s j (by omega) h11
  by_cases h12 : j.val < 3072
  · exact piece12 W b s j (by omega) h12
  by_cases h13 : j.val < 3328
  · exact piece13 W b s j (by omega) h13
  exact piece14 W b s j (by omega) (by omega)

end Cert.InprojRefIdeal.Spread

end
-- ==== Proof.Rms.lean ====
/-
The root-mean-square norm of a row of 1024 entries.
-/
module

public import Idealize.ShloMosaic.PureOps
public import Idealize.ShloMosaic.Lib.Pointwise

@[expose] public section

noncomputable section

namespace Cert.Rms

open Idealize.ShloMosaic

/-- A row divided by its root mean square, times a weight: entry `j`. -/
def rms (x : Fin 1024 → EReal) (w : EReal) (j : Fin 1024) : EReal :=
  x j * Ideal.rsqrt (Ideal.div (∑ d : Fin 1024, x d * x d) (Ideal.ofBits .f32 0x44800000#32) + Ideal.ofBits .f32 0x358637BD#32) * w

end Cert.Rms

end
-- ==== Proof.InprojClaim.lean ====
/-
The combined input projection: the array the kernel leaves is, entry by entry, what the reference computes.
-/
module

public import proofs.«01_k».proof.Proof.InprojPlace
public import Idealize.ShloMosaic.Lib.Pipeline.ValueKit
public import Idealize.ShloMosaic.Lib.Pipeline.ReadBack
public import Idealize.ShloMosaic.Lib.Pointwise
public import proofs.«01_k».proof.Proof.Rms

@[expose] public section

set_option maxRecDepth 16384

noncomputable section

namespace Cert.InprojIdeal.Step

open Cert.InprojIdeal Cert.InprojIdeal.Gen Cert.InprojIdeal.Spread Idealize.ShloMosaic Idealize.ShloMosaic.TcCoe Idealize.SL.Sem
open Cert.Rms Cert.Place

/-- Entry `(r, j)` of the result: the normed row `r` against the weight's columns, laid out in the call's order. -/
def projOut (X : FVec Ideal S4x4096x1024 .f32) (L : FVec Ideal S2x1024 .f32) (W : FVec Ideal S2x1024x3240 .f32)
    (r : Fin 16384) (j : Fin 3584) : EReal :=
  place (fun k => ∑ d : Fin 1024, rms (fun d => X (ix3 ⟨r.val / 4096, by omega⟩ ⟨r.val % 4096, by omega⟩ d)) (L (ix2 0 d)) d
    * W (ix3 0 d k)) j

/-! ## One visit -/

theorem pay5_at (x : FVec Ideal S512x1024 .f32) (l : FVec Ideal S1x1024 .f32) (r : Fin 512) (d : Fin 1024) :
    k0_pay5 (F := Ideal) x l (ix2 r d) = rms (fun d => x (ix2 r d)) (l (ix2 0 d)) d := by
  pointwise [k0_pay5]
  rfl

theorem pay6_at (x : FVec Ideal S512x1024 .f32) (l : FVec Ideal S1x1024 .f32) (w : FVec Ideal S1024x512 .bf16) (r j : Fin 512) :
    k0_pay6 (F := Ideal) x l w (ix2 r j) = ∑ d : Fin 1024, rms (fun d => x (ix2 r d)) (l (ix2 0 d)) d * w (ix2 d j) := by
  pointwise [k0_pay6, pay5_at]

theorem pay7_at (x : FVec Ideal S512x1024 .f32) (l : FVec Ideal S1x1024 .f32) (w : FVec Ideal S1024x512 .bf16) (r j : Fin 512) :
    k0_pay7 (F := Ideal) x l w (ix2 r j) = ∑ d : Fin 1024, rms (fun d => x (ix2 r d)) (l (ix2 0 d)) d * w (ix2 d j) := by
  pointwise [k0_pay7, pay5_at]

theorem pay8_at (x : FVec Ideal S512x1024 .f32) (l : FVec Ideal S1x1024 .f32) (w : FVec Ideal S1024x512 .bf16) (r j : Fin 512) :
    k0_pay8 (F := Ideal) x l w (ix2 r j) = ∑ d : Fin 1024, rms (fun d => x (ix2 r d)) (l (ix2 0 d)) d * w (ix2 d j) := by
  pointwise [k0_pay8, pay5_at]

theorem pay2_at (x : FVec Ideal S512x1024 .bf16) (w : FVec Ideal S1024x512 .bf16) (r j : Fin 512) :
    k0_pay2 (F := Ideal) x w (ix2 r j) = ∑ d : Fin 1024, x (ix2 r d) * w (ix2 d j) := by
  pointwise [k0_pay2]

theorem pay3_at (x : FVec Ideal S512x1024 .bf16) (w : FVec Ideal S1024x512 .bf16) (r j : Fin 512) :
    k0_pay3 (F := Ideal) x w (ix2 r j) = ∑ d : Fin 1024, x (ix2 r d) * w (ix2 d j) := by
  pointwise [k0_pay3]

theorem pay4_at (x : FVec Ideal S512x1024 .bf16) (w : FVec Ideal S1024x512 .bf16) (r j : Fin 512) :
    k0_pay4 (F := Ideal) x w (ix2 r j) = ∑ d : Fin 1024, x (ix2 r d) * w (ix2 d j) := by
  pointwise [k0_pay4]

theorem pay1_at (x : FVec Ideal S512x1024 .bf16) (w : FVec Ideal S1024x512 .bf16) (r j : Fin 512) :
    k0_pay1 (F := Ideal) x (k0_pay9 w) (constant S512x512 .f32 0x00000000#32) (ix2 r j) = ∑ d : Fin 1024, x (ix2 r d) * w (ix2 d j) := by
  pointwise [k0_pay1, k0_pay9]

theorem pay10_at (x : FVec Ideal S512x1024 .f32) (l : FVec Ideal S1x1024 .f32) (w : FVec Ideal S1024x3584 .bf16) (r : Fin 512) (d : Fin 1024) :
    k0_pay10 (F := Ideal) x l w (ix2 r d) = rms (fun d => x (ix2 r d)) (l (ix2 0 d)) d := by
  unfold k0_pay10
  frame_out
  exact pay5_at x l r d

/-- The 512 columns of the weight from column `o` on. -/
theorem ld_at (w : FVec Ideal S1024x3584 .bf16) (o : ℕ)
    (inb : ∀ a, (![0, o] : Fin 2 → ℕ) a + S1024x512.size a ≤ S1024x3584.size a) (d : Fin 1024) (b : Fin 512) (h : o + b.val < 3584) :
    View.ld (Val := Elt Ideal) (e' := .bf16) w (Rect.unit (s := S1024x3584) ![0, o] S1024x512.size inb) (ix2 d b) = w (ix2 d ⟨o + b.val, h⟩) := by
  have e : (Rect.unit (s := S1024x3584) ![0, o] S1024x512.size inb).emb (ix2 d b) = ix2 d ⟨o + b.val, h⟩ := by
    funext q
    match q with
    | ⟨0, _⟩ => refine Fin.ext ?_; blk_simp
    | ⟨1, _⟩ => refine Fin.ext ?_; blk_simp
  exact congrArg w e

/-- What one visit leaves, entry by entry. -/
def outBlk (x : FVec Ideal S512x1024 .f32) (l : FVec Ideal S1x1024 .f32) (w : FVec Ideal S1024x3584 .bf16) : FVec Ideal S512x3584 .f32 :=
  fun y => ∑ d : Fin 1024, rms (fun d => x (ix2 (y 0) d)) (l (ix2 0 d)) d * w (ix2 d (y 1))

/-- A block of 512 columns of it. -/
theorem outBlk_emb (x : FVec Ideal S512x1024 .f32) (l : FVec Ideal S1x1024 .f32) (w : FVec Ideal S1024x3584 .bf16) (o : ℕ)
    (inb : ∀ a, (![0, o] : Fin 2 → ℕ) a + S512x512.size a ≤ S512x3584.size a) (a b : Fin 512) (h : o + b.val < 3584) :
    outBlk x l w ((Rect.unit (s := S512x3584) ![0, o] S512x512.size inb).emb (ix2 a b))
      = ∑ d : Fin 1024, rms (fun d => x (ix2 a d)) (l (ix2 0 d)) d * w (ix2 d ⟨o + b.val, h⟩) := by
  have e : (Rect.unit (s := S512x3584) ![0, o] S512x512.size inb).emb (ix2 a b) = ix2 a ⟨o + b.val, h⟩ := by
    funext q
    match q with
    | ⟨0, _⟩ => refine Fin.ext ?_; blk_simp
    | ⟨1, _⟩ => refine Fin.ext ?_; blk_simp
  exact congrArg (outBlk x l w) e

theorem eq_pair (j : S512x512.Idx) : j = ix2 (j 0) (j 1) := by
  funext a
  match a with
  | ⟨0, _⟩ => rfl
  | ⟨1, _⟩ => rfl

theorem cols0_at (x : FVec Ideal S512x1024 .f32) (l : FVec Ideal S1x1024 .f32) (w : FVec Ideal S1024x3584 .bf16) (a b : Fin 512) :
    k0_pay6 (F := Ideal) x l (View.ld w r0_2) (ix2 a b)
      = outBlk x l w (r0_3.emb (ix2 a b)) := by
  refine (pay6_at x l (View.ld (Val := Elt Ideal) (e' := .bf16) w r0_2) a b).trans ?_
  refine Eq.trans ?_ (outBlk_emb x l w 0 _ a b (by omega)).symm
  refine Finset.sum_congr rfl fun d _ => ?_
  rw [ld_at w 0 _ d b (by omega)]

theorem cols0 (x : FVec Ideal S512x1024 .f32) (l : FVec Ideal S1x1024 .f32) (w : FVec Ideal S1024x3584 .bf16) (j : S512x512.Idx) :
    k0_pay6 (F := Ideal) x l (View.ld w r0_2) j = outBlk x l w (r0_3.emb j) := by
  rw [eq_pair j]
  exact cols0_at x l w (j 0) (j 1)

theorem cols512_at (x : FVec Ideal S512x1024 .f32) (l : FVec Ideal S1x1024 .f32) (w : FVec Ideal S1024x3584 .bf16) (a b : Fin 512) :
    k0_pay7 (F := Ideal) x l (View.ld w r0_4) (ix2 a b)
      = outBlk x l w (r0_5.emb (ix2 a b)) := by
  refine (pay7_at x l (View.ld (Val := Elt Ideal) (e' := .bf16) w r0_4) a b).trans ?_
  refine Eq.trans ?_ (outBlk_emb x l w 512 _ a b (by omega)).symm
  refine Finset.sum_congr rfl fun d _ => ?_
  rw [ld_at w 512 _ d b (by omega)]

theorem cols512 (x : FVec Ideal S512x1024 .f32) (l : FVec Ideal S1x1024 .f32) (w : FVec Ideal S1024x3584 .bf16) (j : S512x512.Idx) :
    k0_pay7 (F := Ideal) x l (View.ld w r0_4) j = outBlk x l w (r0_5.emb j) := by
  rw [eq_pair j]
  exact cols512_at x l w (j 0) (j 1)

theorem cols1024_at (x : FVec Ideal S512x1024 .f32) (l : FVec Ideal S1x1024 .f32) (w : FVec Ideal S1024x3584 .bf16) (a b : Fin 512) :
    k0_pay8 (F := Ideal) x l (View.ld w r0_6) (ix2 a b)
      = outBlk x l w (r0_7.emb (ix2 a b)) := by
  refine (pay8_at x l (View.ld (Val := Elt Ideal) (e' := .bf16) w r0_6) a b).trans ?_
  refine Eq.trans ?_ (outBlk_emb x l w 1024 _ a b (by omega)).symm
  refine Finset.sum_congr rfl fun d _ => ?_
  rw [ld_at w 1024 _ d b (by omega)]

theorem cols1024 (x : FVec Ideal S512x1024 .f32) (l : FVec Ideal S1x1024 .f32) (w : FVec Ideal S1024x3584 .bf16) (j : S512x512.Idx) :
    k0_pay8 (F := Ideal) x l (View.ld w r0_6) j = outBlk x l w (r0_7.emb j) := by
  rw [eq_pair j]
  exact cols1024_at x l w (j 0) (j 1)

theorem cols1536_at (x : FVec Ideal S512x1024 .f32) (l : FVec Ideal S1x1024 .f32) (w : FVec Ideal S1024x3584 .bf16) (a b : Fin 512) :
    k0_pay1 (F := Ideal) (k0_pay10 x l w) (k0_pay9 (View.ld w r0_8)) (constant S512x512 .f32 0x00000000#32) (ix2 a b)
      = outBlk x l w (r0_9.emb (ix2 a b)) := by
  refine (pay1_at (k0_pay10 x l w) (View.ld (Val := Elt Ideal) (e' := .bf16) w r0_8) a b).trans ?_
  refine Eq.trans ?_ (outBlk_emb x l w 1536 _ a b (by omega)).symm
  refine Finset.sum_congr rfl fun d _ => ?_
  rw [pay10_at, ld_at w 1536 _ d b (by omega)]

theorem cols1536 (x : FVec Ideal S512x1024 .f32) (l : FVec Ideal S1x1024 .f32) (w : FVec Ideal S1024x3584 .bf16) (j : S512x512.Idx) :
    k0_pay1 (F := Ideal) (k0_pay10 x l w) (k0_pay9 (View.ld w r0_8)) (constant S512x512 .f32 0x00000000#32) j = outBlk x l w (r0_9.emb j) := by
  rw [eq_pair j]
  exact cols1536_at x l w (j 0) (j 1)

theorem cols2048_at (x : FVec Ideal S512x1024 .f32) (l : FVec Ideal S1x1024 .f32) (w : FVec Ideal S1024x3584 .bf16) (a b : Fin 512) :
    k0_pay2 (F := Ideal) (k0_pay10 x l w) (View.ld w r0_10) (ix2 a b)
      = outBlk x l w (r0_11.emb (ix2 a b)) := by
  refine (pay2_at (k0_pay10 x l w) (View.ld (Val := Elt Ideal) (e' := .bf16) w r0_10) a b).trans ?_
  refine Eq.trans ?_ (outBlk_emb x l w 2048 _ a b (by omega)).symm
  refine Finset.sum_congr rfl fun d _ => ?_
  rw [pay10_at, ld_at w 2048 _ d b (by omega)]

theorem cols2048 (x : FVec Ideal S512x1024 .f32) (l : FVec Ideal S1x1024 .f32) (w : FVec Ideal S1024x3584 .bf16) (j : S512x512.Idx) :
    k0_pay2 (F := Ideal) (k0_pay10 x l w) (View.ld w r0_10) j = outBlk x l w (r0_11.emb j) := by
  rw [eq_pair j]
  exact cols2048_at x l w (j 0) (j 1)

theorem cols2560_at (x : FVec Ideal S512x1024 .f32) (l : FVec Ideal S1x1024 .f32) (w : FVec Ideal S1024x3584 .bf16) (a b : Fin 512) :
    k0_pay3 (F := Ideal) (k0_pay10 x l w) (View.ld w r0_12) (ix2 a b)
      = outBlk x l w (r0_13.emb (ix2 a b)) := by
  refine (pay3_at (k0_pay10 x l w) (View.ld (Val := Elt Ideal) (e' := .bf16) w r0_12) a b).trans ?_
  refine Eq.trans ?_ (outBlk_emb x l w 2560 _ a b (by omega)).symm
  refine Finset.sum_congr rfl fun d _ => ?_
  rw [pay10_at, ld_at w 2560 _ d b (by omega)]

theorem cols2560 (x : FVec Ideal S512x1024 .f32) (l : FVec Ideal S1x1024 .f32) (w : FVec Ideal S1024x3584 .bf16) (j : S512x512.Idx) :
    k0_pay3 (F := Ideal) (k0_pay10 x l w) (View.ld w r0_12) j = outBlk x l w (r0_13.emb j) := by
  rw [eq_pair j]
  exact cols2560_at x l w (j 0) (j 1)

theorem cols3072_at (x : FVec Ideal S512x1024 .f32) (l : FVec Ideal S1x1024 .f32) (w : FVec Ideal S1024x3584 .bf16) (a b : Fin 512) :
    k0_pay4 (F := Ideal) (k0_pay10 x l w) (View.ld w r0_14) (ix2 a b)
      = outBlk x l w (r0_15.emb (ix2 a b)) := by
  refine (pay4_at (k0_pay10 x l w) (View.ld (Val := Elt Ideal) (e' := .bf16) w r0_14) a b).trans ?_
  refine Eq.trans ?_ (outBlk_emb x l w 3072 _ a b (by omega)).symm
  refine Finset.sum_congr rfl fun d _ => ?_
  rw [pay10_at, ld_at w 3072 _ d b (by omega)]

theorem cols3072 (x : FVec Ideal S512x1024 .f32) (l : FVec Ideal S1x1024 .f32) (w : FVec Ideal S1024x3584 .bf16) (j : S512x512.Idx) :
    k0_pay4 (F := Ideal) (k0_pay10 x l w) (View.ld w r0_14) j = outBlk x l w (r0_15.emb j) := by
  rw [eq_pair j]
  exact cols3072_at x l w (j 0) (j 1)

theorem out_at (x : FVec Ideal S512x1024 .f32) (l : FVec Ideal S1x1024 .f32) (w : FVec Ideal S1024x3584 .bf16) (y : S512x3584.Idx) :
    out0_3 (F := Ideal) x l w y = outBlk x l w y := by
  frame_out
  refine View.canon_apply_of_pieces (Val := Elt Ideal) (outBlk x l w) _ (fun p hp j => ?_) y (cover0_3 _ _ _ _ _ _ _ y)
  simp only [List.mem_cons, List.mem_nil_iff, or_false] at hp
  rcases hp with rfl | rfl | rfl | rfl | rfl | rfl | rfl
  · exact cols3072 x l w j
  · exact cols2560 x l w j
  · exact cols2048 x l w j
  · exact cols1536 x l w j
  · exact cols1024 x l w j
  · exact cols512 x l w j
  · exact cols0 x l w j

/-- The same, of blocks that hold rows of the whole arrays. -/
theorem out_of (x : FVec Ideal S512x1024 .f32) (l : FVec Ideal S1x1024 .f32) (w : FVec Ideal S1024x3584 .bf16)
    (X : FVec Ideal S4x4096x1024 .f32) (L : FVec Ideal S2x1024 .f32) (W : FVec Ideal S2x1024x3240 .f32)
    (r : Fin 512) (j : Fin 3584) (R : Fin 16384)
    (hx : ∀ d, x (ix2 r d) = X (ix3 ⟨R.val / 4096, by omega⟩ ⟨R.val % 4096, by omega⟩ d))
    (hl : ∀ d, l (ix2 0 d) = L (ix2 0 d)) (hw : ∀ d, w (ix2 d j) = place (fun k => W (ix3 0 d k)) j) :
    out0_3 (F := Ideal) x l w (ix2 r j) = projOut X L W R j := by
  rw [out_at]
  unfold projOut
  rw [← sum_place]
  refine Finset.sum_congr rfl fun d _ => ?_
  refine congrArg₂ (· * ·) ?_ (hw d)
  refine (congrArg (fun f => rms f (l (ix2 0 d)) d) (funext hx)).trans ?_
  rw [hl]

/-! ## The arrays the region finds -/

variable (m : (ℓ : Loc nD τ sig) → Buf (Elt Ideal) ℓ) (c : Dev nD)

def xArr : FVec Ideal S4x4096x1024 .f32 := m ((c.tc : Thread nD τ).loc main_arg0)
def lArr : FVec Ideal S2x1024 .f32 := m ((c.tc : Thread nD τ).loc main_arg1)
def wArr : FVec Ideal S2x1024x3240 .f32 := m ((c.tc : Thread nD τ).loc main_arg2)

theorem V_x : V m c main_v0 = shapeCast S16384x1024 (xArr m c) shapeCasts_S4x4096x1024_S16384x1024 := by
  show StableHlo.after hostOps0 (fun b => m (c, b)) (Proc.devRef .tc main_v0) = _
  after_results
  rfl

theorem V_l : V m c main_v3 = broadcastInDim S1x1024 ![1] bcast_S1024_S1x1024_1
    (shapeCast S1024 (extractStridedSlice S1x1024 ![0, 0] (lArr m c) slices_S2x1024_S1x1024_0_0) shapeCasts_S1x1024_S1024) := by
  show StableHlo.after hostOps0 (fun b => m (c, b)) (Proc.devRef .tc main_v3) = _
  after_results
  rfl

theorem V_w : V m c main_v22 = truncf .bf16 (spread (shapeCast S1024x3240
    (extractStridedSlice S1x1024x3240 ![0, 0, 0] (wArr m c) slices_S2x1024x3240_S1x1024x3240_0_0_0)
    shapeCasts_S1x1024x3240_S1024x3240)) bitsLt_bf16_f32 := by
  show StableHlo.after hostOps0 (fun b => m (c, b)) (Proc.devRef .tc main_v22) = _
  after_results_simp <;> (try dsimp only [Matrix.cons_val]) <;> (try after_results_simp) <;> rfl

theorem first_layer (W : FVec Ideal S2x1024x3240 .f32) (d : Fin 1024) (k : Fin 3240) :
    shapeCast S1024x3240 (extractStridedSlice S1x1024x3240 ![0, 0, 0] W slices_S2x1024x3240_S1x1024x3240_0_0_0)
      shapeCasts_S1x1024x3240_S1024x3240 (ix2 d k) = W (ix3 0 d k) := by
  pointwise []

theorem cast_spread (W : FVec Ideal S2x1024x3240 .f32) (d : Fin 1024) (j : Fin 3584) :
    truncf (F := Ideal) .bf16 (spread (shapeCast S1024x3240
      (extractStridedSlice S1x1024x3240 ![0, 0, 0] W slices_S2x1024x3240_S1x1024x3240_0_0_0)
      shapeCasts_S1x1024x3240_S1024x3240)) bitsLt_bf16_f32 (ix2 d j) = place (fun k => W (ix3 0 d k)) j := by
  refine Eq.trans (by pointwise []) ((spread_at _ d j).trans (congrArg (fun g => place g j) (funext fun k => first_layer W d k)))

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

theorem lt_N (t : Fin cfg0.N) : t.val < 32 := lt_of_lt_of_eq t.isLt N_0

theorem x_at (t : Fin cfg0.N) (r : Fin 512) (d : Fin 1024) :
    (iblk m c 0 t : FVec Ideal S512x1024 .f32) (ix2 r d)
      = xArr m c (ix3 ⟨(t.val * 512 + r.val) / 4096, by have := lt_N t; omega⟩ ⟨(t.val * 512 + r.val) % 4096, by omega⟩ d) := by
  have h : (iblk m c 0 t : FVec Ideal S512x1024 .f32) (ix2 r d)
      = (V m c main_v0 : FVec Ideal S16384x1024 .f32) (ix2 ⟨t.val * 512 + r.val, by have := lt_N t; omega⟩ d) := by
    refine congrArg (V m c main_v0 : FVec Ideal S16384x1024 .f32) ?_
    funext a
    match a with
    | ⟨0, _⟩ => refine Fin.ext ?_; blk_simp [idx0 t]
    | ⟨1, _⟩ => refine Fin.ext ?_; blk_simp [idx0 t]
  refine h.trans ((congrFun (V_x m c) _).trans ?_)
  generalize xArr m c = X
  pointwise []

theorem l_at (t : Fin cfg0.N) (d : Fin 1024) :
    (iblk m c 1 t : FVec Ideal S1x1024 .f32) (ix2 0 d) = lArr m c (ix2 0 d) := by
  have h : (iblk m c 1 t : FVec Ideal S1x1024 .f32) (ix2 0 d) = (V m c main_v3 : FVec Ideal S1x1024 .f32) (ix2 0 d) := by
    refine congrArg (V m c main_v3 : FVec Ideal S1x1024 .f32) ?_
    funext a
    match a with
    | ⟨0, _⟩ => refine Fin.ext ?_; blk_simp [idx1 t]
    | ⟨1, _⟩ => refine Fin.ext ?_; blk_simp [idx1 t]
  refine h.trans ((congrFun (V_l m c) _).trans ?_)
  generalize lArr m c = L
  pointwise []

theorem w_at (t : Fin cfg0.N) (j : Fin 3584) (d : Fin 1024) :
    (iblk m c 2 t : FVec Ideal S1024x3584 .bf16) (ix2 d j) = place (fun k => wArr m c (ix3 0 d k)) j := by
  have h : (iblk m c 2 t : FVec Ideal S1024x3584 .bf16) (ix2 d j) = (V m c main_v22 : FVec Ideal S1024x3584 .bf16) (ix2 d j) := by
    refine congrArg (V m c main_v22 : FVec Ideal S1024x3584 .bf16) ?_
    funext a
    match a with
    | ⟨0, _⟩ => refine Fin.ext ?_; blk_simp [idx2 t]
    | ⟨1, _⟩ => refine Fin.ext ?_; blk_simp [idx2 t]
  refine h.trans ((congrFun (V_w m c) _).trans ?_)
  exact cast_spread (wArr m c) d j

theorem visit_at (t : Fin cfg0.N) (r : Fin 512) (j : Fin 3584) :
    out0_3 (F := Ideal) (iblk m c 0 t) (iblk m c 1 t) (iblk m c 2 t) (ix2 r j)
      = projOut (xArr m c) (lArr m c) (wArr m c) ⟨t.val * 512 + r.val, by have := lt_N t; omega⟩ j :=
  out_of (iblk m c 0 t) (iblk m c 1 t) (iblk m c 2 t) _ _ _ r j _ (x_at m c t r) (l_at m c t) (w_at m c t j)

/-- The array left at the end. -/
theorem final : (dats m 0 c).arrAt 3 (cfgs 0).N
    = fun i : S16384x3584.Idx => projOut (xArr m c) (lArr m c) (wArr m c) (i 0) (i 1) := by
  refine (dats m 0 c).arrAt_eq_of_covers 3 _ (by decide +kernel) fun t hf y => ?_
  blk_simp
  rw [after0_3]
  have hy : y = ix2 (y 0) (y 1) := by
    funext a
    match a with
    | ⟨0, _⟩ => rfl
    | ⟨1, _⟩ => rfl
  refine (congrArg (out0_3 (F := Ideal) (iblk m c 0 t) (iblk m c 1 t) (iblk m c 2 t)) hy).trans ?_
  refine (visit_at m c t (y 0) (y 1)).trans ?_
  refine congrArg₂ (projOut (xArr m c) (lArr m c) (wArr m c)) (Fin.ext ?_) (Fin.ext ?_)
  all_goals blk_simp [idx3 t]

end Cert.InprojIdeal.Step

namespace Cert.InprojRefIdeal.Own

open Cert.InprojRefIdeal Cert.InprojRefIdeal.Gen Cert.InprojRefIdeal.Spread Idealize.ShloMosaic Idealize.SL.Sem
open Cert.Rms Cert.Place Cert.InprojIdeal.Step

/-- The reference's product. -/
def proj (X : FVec Ideal S4x4096x1024 .f32) (L : FVec Ideal S2x1024 .f32) (W : FVec Ideal S2x1024x3240 .f32) :
    FVec Ideal S4x4096x3240 .f32 :=
  Host.dotGeneral dot_S4x4096x1024_S1024x3240_S4x4096x3240_2_0_01_1_n_n none (mulf (mulf X
    (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf X X) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 (shapeCast _ (extractStridedSlice S1x1024 ![0, 0] L slices_S2x1024_S1x1024_0_0) shapeCasts_S1x1024_S1024))))
    (shapeCast _ (extractStridedSlice S1x1024x3240 ![0, 0, 0] W slices_S2x1024x3240_S1x1024x3240_0_0_0) shapeCasts_S1x1024x3240_S1024x3240)

theorem proj_at (X : FVec Ideal S4x4096x1024 .f32) (L : FVec Ideal S2x1024 .f32) (W : FVec Ideal S2x1024x3240 .f32)
    (b : Fin 4) (s : Fin 4096) (k : Fin 3240) :
    proj X L W (ix3 b s k) = ∑ d : Fin 1024, rms (fun d => X (ix3 b s d)) (L (ix2 0 d)) d * W (ix3 0 d k) := by
  pointwise [proj]
  rfl

theorem rows_at (P : FVec Ideal S4x4096x3584 .f32) (r : Fin 16384) (j : Fin 3584) :
    shapeCast S16384x3584 P shapeCasts_S4x4096x3584_S16384x3584 (ix2 r j)
      = P (ix3 ⟨r.val / 4096, by omega⟩ ⟨r.val % 4096, by omega⟩ j) := by
  pointwise []

theorem ref_at (X : FVec Ideal S4x4096x1024 .f32) (L : FVec Ideal S2x1024 .f32) (W : FVec Ideal S2x1024x3240 .f32)
    (r : Fin 16384) (j : Fin 3584) :
    shapeCast S16384x3584 (spread (proj X L W)) shapeCasts_S4x4096x3584_S16384x3584 (ix2 r j) = projOut X L W r j := by
  refine (rows_at _ r j).trans ((spread_at _ _ _ j).trans ?_)
  exact congrArg (fun g => place g j) (funext fun k => proj_at X L W _ _ k)

theorem proj_eq (X : FVec Ideal S4x4096x1024 .f32) (L : FVec Ideal S2x1024 .f32) (W : FVec Ideal S2x1024x3240 .f32)
    (y : S16384x3584.Idx) :
    shapeCast S16384x3584 (spread (proj X L W)) shapeCasts_S4x4096x3584_S16384x3584 y = projOut X L W (y 0) (y 1) := by
  have hy : y = ix2 (y 0) (y 1) := by
    funext a
    match a with
    | ⟨0, _⟩ => rfl
    | ⟨1, _⟩ => rfl
  exact (congrArg _ hy).trans (ref_at X L W (y 0) (y 1))

/-- The result the reference leaves is that arrangement of the product. -/
theorem res_eq (m : (ℓ : Loc nD τ sig) → Buf (Elt Ideal) ℓ) (c : Dev nD) :
    Value.res_main_v34 m c = shapeCast S16384x3584 (spread (proj (m ((c.tc : Thread nD τ).loc main_arg0))
      (m ((c.tc : Thread nD τ).loc main_arg1)) (m ((c.tc : Thread nD τ).loc main_arg2)))) shapeCasts_S4x4096x3584_S16384x3584 := by
  unfold Value.res_main_v34
  rfl

theorem res_of (m : (ℓ : Loc nD τ sig) → Buf (Elt Ideal) ℓ) (c : Dev nD) {X : FVec Ideal S4x4096x1024 .f32} {L : FVec Ideal S2x1024 .f32}
    {W : FVec Ideal S2x1024x3240 .f32} (hX : m ((c.tc : Thread nD τ).loc main_arg0) = X)
    (hL : m ((c.tc : Thread nD τ).loc main_arg1) = L) (hW : m ((c.tc : Thread nD τ).loc main_arg2) = W) :
    Value.res_main_v34 m c = shapeCast S16384x3584 (spread (proj X L W)) shapeCasts_S4x4096x3584_S16384x3584 := by
  subst hX hL hW
  exact res_eq m c

end Cert.InprojRefIdeal.Own

end
-- ==== Proof.InprojRun.lean ====
/-
The claims about the combined input projection, each proved: both programs run, and they leave the same array.
-/
module

public import proofs.«01_k».proof.Defs
public import proofs.«01_k».proof.Proof.Gen.Inproj.Frame
public import proofs.«01_k».proof.Proof.Gen.InprojIdeal.Frame
public import proofs.«01_k».proof.Proof.InprojClaim
public import Idealize.ShloMosaic.Lib.Claim
public import Idealize.ShloMosaic.Lib.Quiescent

@[expose] public section

set_option maxRecDepth 16384

noncomputable section

namespace Cert.Proof.Projection

open Idealize.ShloMosaic Idealize.SL.Sem

/-- The word-for-word program runs and leaves its arguments. -/
theorem frame_bits : Cert.quiescent_Inproj (hInproj := Cert.Inproj.Gen.facts) := fun m ρ _ => Cert.Inproj.Gen.frame m ρ

/-- The same of the idealized program. -/
theorem frame_ideal : Cert.quiescent_InprojIdeal (hInprojIdeal := Cert.InprojIdeal.Gen.facts) := fun m ρ _ => Cert.InprojIdeal.Gen.frame m ρ

/-- The same of the reference. -/
theorem frame_ref : Cert.quiescent_InprojRefIdeal (hInprojRefIdeal := Cert.InprojRefIdeal.Gen.facts) := by
  intro m g _
  hlo_run
  · exact fun _ => ⟨trivial, trivial, trivial⟩
  · exact sem_eq_zero_of_no_sems (sig := Cert.InprojRefIdeal.sig) rfl _

/-- The idealized projection and the reference leave the same array. -/
theorem algebraic : Cert.algebraic_InprojIdeal_InprojRefIdeal (hInprojIdeal := Cert.InprojIdeal.Gen.facts)
    (hInprojRefIdeal := Cert.InprojRefIdeal.Gen.facts) := by
  pair_intro
  · run_from Cert.InprojIdeal.Gen.run_main m g
  · run_from Cert.InprojRefIdeal.Value.run _ _
    refine Eq.trans ?_ (Cert.InprojIdeal.Step.final m c).symm
    refine (Cert.InprojRefIdeal.Own.res_of m' c (hagree c).1 (hagree c).2.1 (hagree c).2.2).trans ?_
    funext y
    exact Cert.InprojRefIdeal.Own.proj_eq _ _ _ y

end Cert.Proof.Projection

end
-- ==== Proof.NormClaim.lean ====
/-
The final norm: the array the kernel leaves is, entry by entry, what the reference computes.
-/
module

public import proofs.«01_k».proof.Proof.Gen.NormIdeal.Value
public import proofs.«01_k».proof.Proof.Gen.NormRefIdeal.Run
public import Idealize.ShloMosaic.Lib.Pipeline.ValueKit
public import Idealize.ShloMosaic.Lib.Pipeline.ReadBack
public import Idealize.ShloMosaic.Lib.Pointwise
public import proofs.«01_k».proof.Proof.Rms

@[expose] public section

set_option maxRecDepth 16384

noncomputable section

namespace Cert.NormIdeal.Step

open Cert.NormIdeal Cert.NormIdeal.Gen Idealize.ShloMosaic Idealize.ShloMosaic.TcCoe Idealize.SL.Sem
open Cert.Rms

/-- Row `r` of the residual stream with the experts' output added. -/
def sumRow (X : FVec Ideal S16384x1024 .f32) (M : FVec Ideal S4x4096x1024 .f32) (r : Fin 16384) (d : Fin 1024) : EReal :=
  X (ix2 r d) + M (ix3 ⟨r.val / 4096, by omega⟩ ⟨r.val % 4096, by omega⟩ d)

/-- Entry `(r, j)` of the result. -/
def normOut (X : FVec Ideal S16384x1024 .f32) (M : FVec Ideal S4x4096x1024 .f32) (W : FVec Ideal S1024 .f32)
    (r : Fin 16384) (j : Fin 1024) : EReal :=
  rms (sumRow X M r) (W (ix1 j)) j

/-- What one visit stores: the norm of each row. -/
theorem out_at (x y : FVec Ideal S1024x1024 .f32) (w : FVec Ideal S1x1024 .f32) (r j : Fin 1024) :
    out0_3 (F := Ideal) x y w (ix2 r j) = rms (fun d => x (ix2 r d) + y (ix2 r d)) (w (ix2 0 j)) j := by
  frame_out
  pointwise [k0_pay1]
  rfl

/-- The same, of blocks that hold rows of the whole arrays. -/
theorem out_of (x y : FVec Ideal S1024x1024 .f32) (w : FVec Ideal S1x1024 .f32) (X : FVec Ideal S16384x1024 .f32)
    (M : FVec Ideal S4x4096x1024 .f32) (W : FVec Ideal S1024 .f32) (r j : Fin 1024) (R : Fin 16384)
    (hx : ∀ d, x (ix2 r d) = X (ix2 R d))
    (hy : ∀ d, y (ix2 r d) = M (ix3 ⟨R.val / 4096, by omega⟩ ⟨R.val % 4096, by omega⟩ d))
    (hw : w (ix2 0 j) = W (ix1 j)) : out0_3 (F := Ideal) x y w (ix2 r j) = normOut X M W R j := by
  rw [out_at, hw]
  unfold normOut
  refine congrArg (fun f => rms f (W (ix1 j)) j) ?_
  funext d
  rw [hx, hy]
  rfl

variable (m : (ℓ : Loc nD τ sig) → Buf (Elt Ideal) ℓ) (c : Dev nD)

def xArr : FVec Ideal S16384x1024 .f32 := m ((c.tc : Thread nD τ).loc main_arg0)
def yArr : FVec Ideal S4x4096x1024 .f32 := m ((c.tc : Thread nD τ).loc main_arg1)
def wArr : FVec Ideal S1024 .f32 := m ((c.tc : Thread nD τ).loc main_arg2)

/-- The experts' output as the region finds it: its rows in one list. -/
theorem V_rows : V m c main_v0 = shapeCast S16384x1024 (yArr m c) shapeCasts_S4x4096x1024_S16384x1024 := by
  show StableHlo.after hostOps0 (fun b => m (c, b)) (Proc.devRef .tc main_v0) = _
  after_results
  rfl

/-- The weight as the region finds it: one row. -/
theorem V_weight : V m c main_v1 = broadcastInDim S1x1024 ![1] bcast_S1024_S1x1024_1 (wArr m c) := by
  show StableHlo.after hostOps0 (fun b => m (c, b)) (Proc.devRef .tc main_v1) = _
  after_results
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

theorem lt_N (t : Fin cfg0.N) : t.val < 16 := lt_of_lt_of_eq t.isLt N_0

theorem x_at (t : Fin cfg0.N) (r d : Fin 1024) :
    (iblk m c 0 t : FVec Ideal S1024x1024 .f32) (ix2 r d)
      = xArr m c (ix2 ⟨t.val * 1024 + r.val, by have := lt_N t; omega⟩ d) := by
  refine Eq.trans ?_ (congrFun (V_main_arg0 m c) _)
  refine congrArg (V m c main_arg0 : FVec Ideal S16384x1024 .f32) ?_
  funext a
  match a with
  | ⟨0, _⟩ => refine Fin.ext ?_; blk_simp [idx0 t]
  | ⟨1, _⟩ => refine Fin.ext ?_; blk_simp [idx0 t]

theorem y_at (t : Fin cfg0.N) (r d : Fin 1024) :
    (iblk m c 1 t : FVec Ideal S1024x1024 .f32) (ix2 r d)
      = yArr m c (ix3 ⟨(t.val * 1024 + r.val) / 4096, by have := lt_N t; omega⟩ ⟨(t.val * 1024 + r.val) % 4096, by omega⟩ d) := by
  have h : (iblk m c 1 t : FVec Ideal S1024x1024 .f32) (ix2 r d)
      = (V m c main_v0 : FVec Ideal S16384x1024 .f32) (ix2 ⟨t.val * 1024 + r.val, by have := lt_N t; omega⟩ d) := by
    refine congrArg (V m c main_v0 : FVec Ideal S16384x1024 .f32) ?_
    funext a
    match a with
    | ⟨0, _⟩ => refine Fin.ext ?_; blk_simp [idx1 t]
    | ⟨1, _⟩ => refine Fin.ext ?_; blk_simp [idx1 t]
  refine h.trans ((congrFun (V_rows m c) _).trans ?_)
  generalize yArr m c = M
  pointwise []

theorem w_at (t : Fin cfg0.N) (j : Fin 1024) :
    (iblk m c 2 t : FVec Ideal S1x1024 .f32) (ix2 0 j) = wArr m c (ix1 j) := by
  have h : (iblk m c 2 t : FVec Ideal S1x1024 .f32) (ix2 0 j) = (V m c main_v1 : FVec Ideal S1x1024 .f32) (ix2 0 j) := by
    refine congrArg (V m c main_v1 : FVec Ideal S1x1024 .f32) ?_
    funext a
    match a with
    | ⟨0, _⟩ => refine Fin.ext ?_; blk_simp [idx2 t]
    | ⟨1, _⟩ => refine Fin.ext ?_; blk_simp [idx2 t]
  refine h.trans ((congrFun (V_weight m c) _).trans ?_)
  generalize wArr m c = W
  pointwise []

theorem visit_at (t : Fin cfg0.N) (r j : Fin 1024) :
    out0_3 (F := Ideal) (iblk m c 0 t) (iblk m c 1 t) (iblk m c 2 t) (ix2 r j)
      = normOut (xArr m c) (yArr m c) (wArr m c) ⟨t.val * 1024 + r.val, by have := lt_N t; omega⟩ j :=
  out_of (iblk m c 0 t) (iblk m c 1 t) (iblk m c 2 t) _ _ _ r j _ (x_at m c t r) (y_at m c t r) (w_at m c t j)

/-- The array left at the end. -/
theorem final : (dats m 0 c).arrAt 3 (cfgs 0).N
    = fun i : S16384x1024.Idx => normOut (xArr m c) (yArr m c) (wArr m c) (i 0) (i 1) := by
  refine (dats m 0 c).arrAt_eq_of_covers 3 _ (by decide +kernel) fun t hf y => ?_
  blk_simp
  rw [after0_3]
  have hy : y = ix2 (y 0) (y 1) := by
    funext a
    match a with
    | ⟨0, _⟩ => rfl
    | ⟨1, _⟩ => rfl
  refine (congrArg (out0_3 (F := Ideal) (iblk m c 0 t) (iblk m c 1 t) (iblk m c 2 t)) hy).trans ?_
  refine (visit_at m c t (y 0) (y 1)).trans ?_
  refine congrArg₂ (normOut (xArr m c) (yArr m c) (wArr m c)) (Fin.ext ?_) (Fin.ext ?_)
  all_goals blk_simp [idx3 t]

end Cert.NormIdeal.Step

namespace Cert.NormRefIdeal.Own

open Cert.NormRefIdeal Cert.NormRefIdeal.Gen Cert.NormIdeal.Step Idealize.ShloMosaic Idealize.SL.Sem

/-- The reference's result as one term of its arguments. -/
def normRef (X : FVec Ideal S16384x1024 .f32) (M : FVec Ideal S4x4096x1024 .f32) (W : FVec Ideal S1024 .f32) : FVec Ideal S16384x1024 .f32 :=
  shapeCast _ (mulf (mulf (addf (shapeCast _ X shapeCasts_S16384x1024_S4x4096x1024) M) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (addf (shapeCast _ X shapeCasts_S16384x1024_S4x4096x1024) M) (addf (shapeCast _ X shapeCasts_S16384x1024_S4x4096x1024) M)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 W))) shapeCasts_S4x4096x1024_S16384x1024

theorem ref_at (X : FVec Ideal S16384x1024 .f32) (M : FVec Ideal S4x4096x1024 .f32) (W : FVec Ideal S1024 .f32) (r : Fin 16384)
    (j : Fin 1024) : normRef X M W (ix2 r j) = normOut X M W r j := by
  pointwise [normRef]
  rfl

theorem norm_eq (X : FVec Ideal S16384x1024 .f32) (M : FVec Ideal S4x4096x1024 .f32) (W : FVec Ideal S1024 .f32)
    (y : S16384x1024.Idx) : normRef X M W y = normOut X M W (y 0) (y 1) := by
  have hy : y = ix2 (y 0) (y 1) := by
    funext a
    match a with
    | ⟨0, _⟩ => rfl
    | ⟨1, _⟩ => rfl
  exact (congrArg _ hy).trans (ref_at X M W (y 0) (y 1))

end Cert.NormRefIdeal.Own

end
-- ==== Proof.NormRun.lean ====
/-
The claims about the final norm, each proved: both programs run, and they leave the same array.
-/
module

public import proofs.«01_k».proof.Defs
public import proofs.«01_k».proof.Proof.Gen.Norm.Frame
public import proofs.«01_k».proof.Proof.Gen.NormIdeal.Frame
public import proofs.«01_k».proof.Proof.NormClaim
public import Idealize.ShloMosaic.Lib.Claim
public import Idealize.ShloMosaic.Lib.Quiescent

@[expose] public section

set_option maxRecDepth 16384

noncomputable section

namespace Cert.Proof.FinalNorm

open Idealize.ShloMosaic Idealize.SL.Sem

/-- The word-for-word program runs and leaves its arguments. -/
theorem frame_bits : Cert.quiescent_Norm (hNorm := Cert.Norm.Gen.facts) := fun m ρ _ => Cert.Norm.Gen.frame m ρ

/-- The same of the idealized program. -/
theorem frame_ideal : Cert.quiescent_NormIdeal (hNormIdeal := Cert.NormIdeal.Gen.facts) := fun m ρ _ => Cert.NormIdeal.Gen.frame m ρ

/-- The same of the reference. -/
theorem frame_ref : Cert.quiescent_NormRefIdeal (hNormRefIdeal := Cert.NormRefIdeal.Gen.facts) := by
  intro m g _
  hlo_run
  · exact fun _ => ⟨trivial, trivial, trivial⟩
  · exact sem_eq_zero_of_no_sems (sig := Cert.NormRefIdeal.sig) rfl _

/-- The idealized norm and the reference leave the same array. -/
theorem algebraic : Cert.algebraic_NormIdeal_NormRefIdeal (hNormIdeal := Cert.NormIdeal.Gen.facts)
    (hNormRefIdeal := Cert.NormRefIdeal.Gen.facts) := by
  pair_intro
  · run_from Cert.NormIdeal.Gen.run_main m g
  · hlo_run
    refine Eq.trans ?_ (Cert.NormIdeal.Step.final m c).symm
    funext y
    exact Cert.NormRefIdeal.Own.norm_eq _ _ _ y

end Cert.Proof.FinalNorm

end
-- ==== Proof.OutprojStep.lean ====
/-
The output projection: what one visit stores, and what the reference's terms are, entry by entry.
-/
module

public import proofs.«01_k».proof.Proof.Gen.OutprojIdeal.Value
public import Idealize.ShloMosaic.Lib.Pipeline.ValueKit
public import Idealize.ShloMosaic.Lib.Pipeline.ReadBack
public import Idealize.ShloMosaic.Lib.Pointwise
public import proofs.«01_k».proof.Proof.Rms
public import proofs.«01_k».proof.Proof.OnlineSoftmax

@[expose] public section

set_option maxRecDepth 16384

noncomputable section

namespace Cert.OutprojIdeal.Step

open Cert.OutprojIdeal Cert.OutprojIdeal.Gen Idealize.ShloMosaic Idealize.ShloMosaic.TcCoe Idealize.SL.Sem
open Cert.Rms Cert.OnlineSoftmax

theorem ofBits_neg_inf : Ideal.ofBits FTy.f32 4286578688#32 = (⊥ : EReal) := by
  simp [Ideal.ofBits, Ideal.ieee]

theorem pay2_at (x : FVec Ideal S256x1024 .f32) (a b c d : FVec Ideal S256x256 .f32) (wa wb wc wd : FVec Ideal S256x1024 .bf16)
    (r : Fin 256) (j : Fin 1024) :
    k0_pay2 (F := Ideal) x a wa b wb c wc d wd (ix2 r j)
      = x (ix2 r j) + (∑ k : Fin 256, a (ix2 r k) * wa (ix2 k j)) + (∑ k : Fin 256, b (ix2 r k) * wb (ix2 k j))
        + (∑ k : Fin 256, c (ix2 r k) * wc (ix2 k j)) + (∑ k : Fin 256, d (ix2 r k) * wd (ix2 k j)) := by
  pointwise [k0_pay2]

theorem pay3_at (x : FVec Ideal S256x1024 .f32) (l : FVec Ideal S1x1024 .f32) (r : Fin 256) (j : Fin 1024) :
    k0_pay3 (F := Ideal) x l (ix2 r j) = rms (fun d => x (ix2 r d)) (l (ix2 0 j)) j := by
  pointwise [k0_pay3]
  rfl

theorem pay4_at (x : FVec Ideal S256x1024 .f32) (l : FVec Ideal S1x1024 .f32) (r : Fin 256) (j : Fin 1024) :
    k0_pay4 (F := Ideal) x l (ix2 r j) = rms (fun d => x (ix2 r d)) (l (ix2 0 j)) j := by
  pointwise [k0_pay4, pay3_at]

/-- The first 16 lanes of a row of 128, with `⊥` in the others. -/
def mask (f : Fin 128 → EReal) (j : Fin 128) : EReal := if j.val < 16 then f j else ⊥

theorem lane_lt : ∀ j : Fin 128, IntOp.cmpi CmpIPredicate.slt (BitVec.ofNat 32 j.val) 16#32 = if j.val < 16 then 1#1 else 0#1 := by
  decide +kernel

theorem select_lane (f : Fin 128 → EReal) (j : Fin 128) :
    Scalar.select (IntOp.cmpi CmpIPredicate.slt (BitVec.ofNat 32 j.val) 16#32) (f j) (Ideal.ofBits FTy.f32 4286578688#32) = mask f j := by
  rw [lane_lt, mask, ofBits_neg_inf]
  by_cases h : j.val < 16
  · rw [if_pos h, if_pos h]; rfl
  · rw [if_neg h, if_neg h]; rfl

/-- The logits as the kernel adds them up: the products of a row and a column, each split into a high and a low part. -/
def splitDot (h w : Fin 1024 → EReal) : EReal :=
  ∑ d, h d * w d + ∑ d, h d * (w d - w d) + ∑ d, (h d - h d) * w d + ∑ d, (h d - h d) * (w d - w d)

theorem pay5_at (x : FVec Ideal S256x1024 .f32) (l : FVec Ideal S1x1024 .f32) (w : FVec Ideal S1024x128 .f32) (r : Fin 256) (j : Fin 128) :
    k0_pay5 (F := Ideal) x l w (ix2 r j)
      = Ideal.exp (mask (fun k => splitDot (fun d => rms (fun d => x (ix2 r d)) (l (ix2 0 d)) d) fun d => w (ix2 d k)) j
          - top (mask fun k => splitDot (fun d => rms (fun d => x (ix2 r d)) (l (ix2 0 d)) d) fun d => w (ix2 d k))) := by
  pointwise [k0_pay5, pay3_at, pay4_at]
  rw [ofBits_neg_inf]
  refine congrArg Ideal.exp (congrArg₂ (· - ·) (select_lane (fun k => splitDot (fun d => rms (fun d => x (ix2 r d)) (l (ix2 0 d)) d) fun d => w (ix2 d k)) j) ?_)
  refine congrArg (Finset.fold max ⊥ · Finset.univ) ?_
  funext k
  exact select_lane (fun k => splitDot (fun d => rms (fun d => x (ix2 r d)) (l (ix2 0 d)) d) fun d => w (ix2 d k)) k

theorem pay6_at (x : FVec Ideal S256x1024 .f32) (l : FVec Ideal S1x1024 .f32) (w : FVec Ideal S1024x128 .f32) (r : Fin 256) (j : Fin 128) :
    k0_pay6 (F := Ideal) x l w (ix2 r j) = ∑ k : Fin 128, k0_pay5 (F := Ideal) x l w (ix2 r k) := by
  pointwise [k0_pay6]

theorem pay1_at (x y : FVec Ideal S256x128 .f32) (r : Fin 256) (j : Fin 128) :
    k0_pay1 (F := Ideal) x y (ix2 r j) = Ideal.div (x (ix2 r j)) (y (ix2 r j)) := by
  pointwise [k0_pay1]

/-- 256 rows of the weight from row `o` on. -/
theorem ld_at (w : FVec Ideal S1024x1024 .bf16) (o : ℕ)
    (inb : ∀ a, (![o, 0] : Fin 2 → ℕ) a + S256x1024.size a ≤ S1024x1024.size a) (k : Fin 256) (j : Fin 1024) (h : o + k.val < 1024) :
    View.ld (Val := Elt Ideal) (e' := .bf16) w (Rect.unit (s := S1024x1024) ![o, 0] S256x1024.size inb) (ix2 k j) = w (ix2 ⟨o + k.val, h⟩ j) := by
  have e : (Rect.unit (s := S1024x1024) ![o, 0] S256x1024.size inb).emb (ix2 k j) = ix2 ⟨o + k.val, h⟩ j := by
    funext q
    match q with
    | ⟨0, _⟩ => refine Fin.ext ?_; blk_simp
    | ⟨1, _⟩ => refine Fin.ext ?_; blk_simp
  exact congrArg w e

/-- The residual stream after one visit: entry `(r, j)`. -/
def midBlk (x : FVec Ideal S256x1024 .f32) (a b c d : FVec Ideal S256x256 .f32) (w : FVec Ideal S1024x1024 .bf16) (r : Fin 256) (j : Fin 1024) : EReal :=
  x (ix2 r j) + (∑ k : Fin 256, a (ix2 r k) * w (ix2 ⟨0 + k.val, by omega⟩ j)) + (∑ k : Fin 256, b (ix2 r k) * w (ix2 ⟨256 + k.val, by omega⟩ j))
    + (∑ k : Fin 256, c (ix2 r k) * w (ix2 ⟨512 + k.val, by omega⟩ j)) + (∑ k : Fin 256, d (ix2 r k) * w (ix2 ⟨768 + k.val, by omega⟩ j))

theorem pay7_eq (x : FVec Ideal S256x1024 .f32) (a b c d : FVec Ideal S256x256 .f32) (w : FVec Ideal S1024x1024 .bf16)
    (l : FVec Ideal S1x1024 .f32) (rw : FVec Ideal S1024x128 .f32) :
    k0_pay7 (F := Ideal) x a b c d w l rw
      = k0_pay2 x a (View.ld w r0_2) b (View.ld w r0_3) c (View.ld w r0_4) d (View.ld w r0_5) := by
  unfold k0_pay7
  frame_out

theorem pay7_at (x : FVec Ideal S256x1024 .f32) (a b c d : FVec Ideal S256x256 .f32) (w : FVec Ideal S1024x1024 .bf16)
    (l : FVec Ideal S1x1024 .f32) (rw : FVec Ideal S1024x128 .f32) (r : Fin 256) (j : Fin 1024) :
    k0_pay7 (F := Ideal) x a b c d w l rw (ix2 r j) = midBlk x a b c d w r j := by
  refine (congrFun (pay7_eq x a b c d w l rw) _).trans ?_
  refine (pay2_at _ _ _ _ _ _ _ _ _ r j).trans ?_
  refine congrArg₂ (· + ·) (congrArg₂ (· + ·) (congrArg₂ (· + ·) (congrArg (x (ix2 r j) + ·) ?_) ?_) ?_) ?_
  · exact Finset.sum_congr rfl fun k _ => congrArg (a (ix2 r k) * ·) (ld_at w 0 _ k j (by omega))
  · exact Finset.sum_congr rfl fun k _ => congrArg (b (ix2 r k) * ·) (ld_at w 256 _ k j (by omega))
  · exact Finset.sum_congr rfl fun k _ => congrArg (c (ix2 r k) * ·) (ld_at w 512 _ k j (by omega))
  · exact Finset.sum_congr rfl fun k _ => congrArg (d (ix2 r k) * ·) (ld_at w 768 _ k j (by omega))

theorem out8_at (x : FVec Ideal S256x1024 .f32) (a b c d : FVec Ideal S256x256 .f32) (w : FVec Ideal S1024x1024 .bf16)
    (l : FVec Ideal S1x1024 .f32) (rw : FVec Ideal S1024x128 .f32) (r : Fin 256) (j : Fin 1024) :
    out0_8 (F := Ideal) x a b c d w l rw (ix2 r j) = midBlk x a b c d w r j := by
  refine Eq.trans ?_ (pay7_at x a b c d w l rw r j)
  unfold k0_pay7
  frame_out

theorem out9_at (x : FVec Ideal S256x1024 .f32) (a b c d : FVec Ideal S256x256 .f32) (w : FVec Ideal S1024x1024 .bf16)
    (l : FVec Ideal S1x1024 .f32) (rw : FVec Ideal S1024x128 .f32) (r : Fin 256) (j : Fin 1024) :
    out0_9 (F := Ideal) x a b c d w l rw (ix2 r j) = rms (midBlk x a b c d w r) (l (ix2 0 j)) j := by
  have h : out0_9 (F := Ideal) x a b c d w l rw (ix2 r j) = k0_pay4 (F := Ideal) (k0_pay7 x a b c d w l rw) l (ix2 r j) := by
    frame_out

  refine h.trans ((pay4_at _ l r j).trans ?_)
  refine congrArg (fun f => rms f (l (ix2 0 j)) j) ?_
  funext d
  exact pay7_at _ _ _ _ _ _ _ _ r d

theorem out10_at (x : FVec Ideal S256x1024 .f32) (a b c d : FVec Ideal S256x256 .f32) (w : FVec Ideal S1024x1024 .bf16)
    (l : FVec Ideal S1x1024 .f32) (rw : FVec Ideal S1024x128 .f32) (r : Fin 256) (j : Fin 128) :
    out0_10 (F := Ideal) x a b c d w l rw (ix2 r j)
      = Ideal.div (k0_pay5 (F := Ideal) (k0_pay7 x a b c d w l rw) l rw (ix2 r j))
          (∑ k : Fin 128, k0_pay5 (F := Ideal) (k0_pay7 x a b c d w l rw) l rw (ix2 r k)) := by
  have h : out0_10 (F := Ideal) x a b c d w l rw (ix2 r j)
      = k0_pay1 (F := Ideal) (k0_pay5 (k0_pay7 x a b c d w l rw) l rw) (k0_pay6 (k0_pay7 x a b c d w l rw) l rw) (ix2 r j) := by
    frame_out

  refine h.trans ((pay1_at _ _ r j).trans ?_)
  rw [pay6_at]

end Cert.OutprojIdeal.Step

end
-- ==== Proof.Router.lean ====
/-
The router's softmax: over 128 lanes of which 16 hold logits, with every factor split into a high and a low part, it is the
softmax of the 16 logits, wherever the factors are finite.
-/
module

public import proofs.«01_k».proof.Proof.OutprojStep
public import proofs.«01_k».proof.Proof.AttnClaim

@[expose] public section

noncomputable section

namespace Cert.Router

open Idealize.ShloMosaic Cert.OnlineSoftmax Cert.OutprojIdeal.Step Cert.Rms

/-- Neither infinity. -/
def IsFin (x : EReal) : Prop := x ≠ ⊥ ∧ x ≠ ⊤

theorem IsFin.eq {x : EReal} (h : IsFin x) : x = ((x.toReal : ℝ) : EReal) := (EReal.coe_toReal h.2 h.1).symm
theorem fin_coe (r : ℝ) : IsFin (r : EReal) := ⟨EReal.coe_ne_bot r, EReal.coe_ne_top r⟩
theorem IsFin.add {x y : EReal} (hx : IsFin x) (hy : IsFin y) : IsFin (x + y) := by
  rw [hx.eq, hy.eq, ← EReal.coe_add]; exact fin_coe _
theorem IsFin.mul {x y : EReal} (hx : IsFin x) (hy : IsFin y) : IsFin (x * y) := by
  rw [hx.eq, hy.eq, ← EReal.coe_mul]; exact fin_coe _
theorem IsFin.sub_self {x : EReal} (hx : IsFin x) : x - x = 0 := by
  rw [hx.eq, ← EReal.coe_sub, _root_.sub_self, EReal.coe_zero]
theorem fin_sum {n : ℕ} (f : Fin n → EReal) (h : ∀ i, IsFin (f i)) : IsFin (∑ i, f i) := by
  have e : ∑ i, f i = ((∑ i, (f i).toReal : ℝ) : EReal) := by
    rw [← sum_coe]
    exact Finset.sum_congr rfl fun i _ => (h i).eq
  rw [e]; exact fin_coe _

theorem ofBits_dim : Ideal.ofBits .f32 0x44800000#32 = ((1024 : ℝ) : EReal) := by
  simp [Ideal.ofBits, Ideal.ieee]
  rw [← EReal.coe_mul]
  norm_num

theorem ofBits_eps : ∃ e : ℝ, 0 < e ∧ Ideal.ofBits .f32 0x358637BD#32 = (e : EReal) := by
  simp [Ideal.ofBits, Ideal.ieee]
  refine ⟨_, ?_, (EReal.coe_mul _ _).symm⟩
  norm_num

theorem mul_self_nonneg' (x : EReal) : 0 ≤ x * x := by
  induction x using EReal.rec with
  | bot => simp
  | top => simp
  | coe r => rw [← EReal.coe_mul]; exact_mod_cast mul_self_nonneg r

/-- The norm of a row is finite wherever the weight is: a row that holds an infinity has an infinite mean square, and so a
norm of zero. -/
theorem fin_rms (x : Fin 1024 → EReal) (w : EReal) (hw : IsFin w) (j : Fin 1024) : IsFin (rms x w j) := by
  obtain ⟨e, he, hE⟩ := ofBits_eps
  unfold rms
  rw [hE, ofBits_dim, Ideal.div_coe (by norm_num)]
  by_cases hx : ∀ d, IsFin (x d)
  · have hs : ∑ d, x d * x d = ((∑ d, (x d).toReal * (x d).toReal : ℝ) : EReal) := by
      rw [← sum_coe]
      refine Finset.sum_congr rfl fun d _ => ?_
      rw [EReal.coe_mul, ← (hx d).eq]
    have h0 : 0 ≤ ∑ d, (x d).toReal * (x d).toReal := Finset.sum_nonneg fun d _ => mul_self_nonneg _
    rw [hs, ← EReal.coe_mul, ← EReal.coe_add, Ideal.rsqrt_coe]
    have hp : 0 < (∑ d, (x d).toReal * (x d).toReal) * (1 / 1024) + e := by positivity
    rw [if_neg (not_lt.mpr hp.le), if_neg hp.ne']
    exact ((hx j).mul (fin_coe _)).mul hw
  · obtain ⟨d, hd⟩ := not_forall.mp hx
    have ht : x d * x d = ⊤ := by
      by_cases hb : x d = ⊥
      · rw [hb]; simp
      · have : x d = ⊤ := by
          by_contra h
          exact hd ⟨hb, h⟩
        rw [this]; simp
    have hs : ∑ d, x d * x d = ⊤ :=
      top_le_iff.mp (ht ▸ Finset.single_le_sum (f := fun d => x d * x d) (fun i _ => mul_self_nonneg' (x i)) (Finset.mem_univ d))
    have hm : (⊤ : EReal) * ((1 / 1024 : ℝ) : EReal) = ⊤ := EReal.top_mul_coe_of_pos (by norm_num)
    rw [hs, hm, EReal.top_add_coe]
    have hz : Ideal.rsqrt ⊤ = 0 := by simp
    rw [hz, mul_zero, zero_mul]
    exact fin_coe 0

/-- The low parts of finite numbers are zero, and so is what they contribute. -/
theorem splitDot_eq (h w : Fin 1024 → EReal) (hh : ∀ d, IsFin (h d)) (hw : ∀ d, IsFin (w d)) : splitDot h w = ∑ d, h d * w d := by
  unfold splitDot
  simp only [(hh _).sub_self, (hw _).sub_self, mul_zero, zero_mul, Finset.sum_const_zero, add_zero]

theorem mask_congr (f g : Fin 128 → EReal) (h : ∀ j, j.val < 16 → f j = g j) : mask f = mask g := by
  funext j
  unfold mask
  split
  · exact h j ‹_›
  · rfl

/-- The largest of the masked lanes is the largest of the 16. -/
theorem top_mask (f : Fin 128 → EReal) : top (mask f) = top fun k : Fin 16 => f ⟨k.val, by omega⟩ := by
  refine le_antisymm ((Finset.fold_max_le _).mpr ⟨bot_le, fun j _ => ?_⟩) ((Finset.fold_max_le _).mpr ⟨bot_le, fun k _ => ?_⟩)
  · unfold mask
    split
    · exact le_top (fun k : Fin 16 => f ⟨k.val, by omega⟩) ⟨j.val, ‹_›⟩
    · exact bot_le
  · have h := le_top (mask f) ⟨k.val, by omega⟩
    have e : mask f ⟨k.val, by omega⟩ = f ⟨k.val, by omega⟩ := if_pos k.isLt
    exact e ▸ h

/-- A sum over 128 lanes of which those from 16 on are zero. -/
theorem sum_lanes (g : Fin 128 → EReal) (h : ∀ j, ¬ j.val < 16 → g j = 0) : ∑ j, g j = ∑ k : Fin 16, g ⟨k.val, by omega⟩ := by
  refine (Fin.sum_univ_add (a := 16) (b := 112) g).trans ?_
  have z : ∑ i : Fin 112, g (Fin.natAdd 16 i) = 0 := Finset.sum_eq_zero fun i _ => h _ (by simp)
  rw [z, add_zero]
  rfl

/-- The affinities of a row of 16 logits, in 128 columns: the softmax of the logits, and zeros. -/
def affOf (l : Fin 16 → EReal) (j : Fin 128) : EReal :=
  if h : j.val < 16 then Ideal.div (Ideal.exp (l ⟨j.val, h⟩ - top l)) (∑ k, Ideal.exp (l k - top l)) else 0

theorem softmax_lanes (f : Fin 128 → EReal) (hf : ∀ j, j.val < 16 → IsFin (f j)) (j : Fin 128) :
    Ideal.div (Ideal.exp (mask f j - top (mask f))) (∑ k, Ideal.exp (mask f k - top (mask f)))
      = affOf (fun k => f ⟨k.val, by omega⟩) j := by
  have hr : (fun k : Fin 16 => f ⟨k.val, by omega⟩) = fun k => (((f ⟨k.val, by omega⟩).toReal : ℝ) : EReal) := by
    funext k
    exact (hf _ k.isLt).eq
  obtain ⟨k0, e, -⟩ := top_real fun k : Fin 16 => (f ⟨k.val, by omega⟩).toReal
  have ht : (top fun k : Fin 16 => f ⟨k.val, by omega⟩) = (((f ⟨k0.val, by omega⟩).toReal : ℝ) : EReal) := hr ▸ e
  have h0 : ∀ k : Fin 128, ¬ k.val < 16 → Ideal.exp (mask f k - top (mask f)) = 0 := fun k hk => by
    rw [top_mask, ht, mask, if_neg hk]
    simp [sub_eq_add_neg]
  have hs : ∑ k, Ideal.exp (mask f k - top (mask f))
      = ∑ k : Fin 16, Ideal.exp (f ⟨k.val, by omega⟩ - top fun k : Fin 16 => f ⟨k.val, by omega⟩) := by
    rw [sum_lanes _ h0]
    refine Finset.sum_congr rfl fun k _ => ?_
    rw [top_mask, mask, if_pos k.isLt]
  rw [hs]
  unfold affOf
  split
  · rw [top_mask, mask, if_pos ‹_›]
  · rw [h0 _ ‹_›]
    have hp : ∑ k : Fin 16, Ideal.exp (f ⟨k.val, by omega⟩ - top fun k : Fin 16 => f ⟨k.val, by omega⟩)
        = ((∑ k : Fin 16, Real.exp ((f ⟨k.val, by omega⟩).toReal - (f ⟨k0.val, by omega⟩).toReal) : ℝ) : EReal) := by
      rw [← sum_coe, ht]
      refine Finset.sum_congr rfl fun k _ => ?_
      rw [← Ideal.exp_coe, EReal.coe_sub, ← (hf ⟨k.val, by omega⟩ k.isLt).eq, ← (hf ⟨k0.val, by omega⟩ k0.isLt).eq]
    have pos : 0 < ∑ k : Fin 16, Real.exp ((f ⟨k.val, by omega⟩).toReal - (f ⟨k0.val, by omega⟩).toReal) :=
      Finset.sum_pos (fun x _ => Real.exp_pos _) ⟨0, Finset.mem_univ _⟩
    rw [hp, Ideal.div_coe pos.ne', zero_mul]

end Cert.Router

end
-- ==== Proof.OutprojClaim.lean ====
/-
The output projection with the second norm and the router: the three arrays the call leaves are, entry by entry, what the
reference computes.
-/
module

public import proofs.«01_k».proof.Proof.Router
public import proofs.«01_k».proof.Proof.Gen.OutprojRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.OutprojIdeal.Step

open Cert.OutprojIdeal Cert.OutprojIdeal.Gen Idealize.ShloMosaic Idealize.ShloMosaic.TcCoe Idealize.SL.Sem
open Cert.Rms Cert.OnlineSoftmax Cert.Router

/-- Row `R` of the residual stream with the projection of the four branches added, a branch at a time. -/
def mid (X : FVec Ideal S4x4096x1024 .f32) (A B C D : FVec Ideal S4x4096x256 .f32) (W : FVec Ideal S2x1024x1024 .f32)
    (R : Fin 16384) (j : Fin 1024) : EReal :=
  X (ix3 ⟨R.val / 4096, by omega⟩ ⟨R.val % 4096, by omega⟩ j)
    + (∑ k : Fin 256, A (ix3 ⟨R.val / 4096, by omega⟩ ⟨R.val % 4096, by omega⟩ k) * W (ix3 0 ⟨0 + k.val, by omega⟩ j))
    + (∑ k : Fin 256, B (ix3 ⟨R.val / 4096, by omega⟩ ⟨R.val % 4096, by omega⟩ k) * W (ix3 0 ⟨256 + k.val, by omega⟩ j))
    + (∑ k : Fin 256, C (ix3 ⟨R.val / 4096, by omega⟩ ⟨R.val % 4096, by omega⟩ k) * W (ix3 0 ⟨512 + k.val, by omega⟩ j))
    + (∑ k : Fin 256, D (ix3 ⟨R.val / 4096, by omega⟩ ⟨R.val % 4096, by omega⟩ k) * W (ix3 0 ⟨768 + k.val, by omega⟩ j))

/-- Its norm. -/
def nrm (X : FVec Ideal S4x4096x1024 .f32) (A B C D : FVec Ideal S4x4096x256 .f32) (W : FVec Ideal S2x1024x1024 .f32)
    (L : FVec Ideal S2x1024 .f32) (R : Fin 16384) (j : Fin 1024) : EReal :=
  rms (mid X A B C D W R) (L (ix2 0 j)) j

/-- The logits of row `R`. -/
def lgt (X : FVec Ideal S4x4096x1024 .f32) (A B C D : FVec Ideal S4x4096x256 .f32) (W : FVec Ideal S2x1024x1024 .f32)
    (L : FVec Ideal S2x1024 .f32) (Q : FVec Ideal S2x1024x16 .f32) (R : Fin 16384) (e : Fin 16) : EReal :=
  ∑ d : Fin 1024, nrm X A B C D W L R d * Q (ix3 0 d e)

/-- The affinities of row `R`. -/
def aff (X : FVec Ideal S4x4096x1024 .f32) (A B C D : FVec Ideal S4x4096x256 .f32) (W : FVec Ideal S2x1024x1024 .f32)
    (L : FVec Ideal S2x1024 .f32) (Q : FVec Ideal S2x1024x16 .f32) (R : Fin 16384) (j : Fin 128) : EReal :=
  affOf (lgt X A B C D W L Q R) j

theorem mid_of (x : FVec Ideal S256x1024 .f32) (a b c d : FVec Ideal S256x256 .f32) (w : FVec Ideal S1024x1024 .bf16)
    (X : FVec Ideal S4x4096x1024 .f32) (A B C D : FVec Ideal S4x4096x256 .f32) (W : FVec Ideal S2x1024x1024 .f32)
    (r : Fin 256) (R : Fin 16384)
    (hx : ∀ j, x (ix2 r j) = X (ix3 ⟨R.val / 4096, by omega⟩ ⟨R.val % 4096, by omega⟩ j))
    (ha : ∀ k, a (ix2 r k) = A (ix3 ⟨R.val / 4096, by omega⟩ ⟨R.val % 4096, by omega⟩ k))
    (hb : ∀ k, b (ix2 r k) = B (ix3 ⟨R.val / 4096, by omega⟩ ⟨R.val % 4096, by omega⟩ k))
    (hc : ∀ k, c (ix2 r k) = C (ix3 ⟨R.val / 4096, by omega⟩ ⟨R.val % 4096, by omega⟩ k))
    (hd : ∀ k, d (ix2 r k) = D (ix3 ⟨R.val / 4096, by omega⟩ ⟨R.val % 4096, by omega⟩ k))
    (hw : ∀ k j, w (ix2 k j) = W (ix3 0 k j)) : midBlk x a b c d w r = mid X A B C D W R := by
  funext j
  unfold midBlk mid
  refine congrArg₂ (· + ·) (congrArg₂ (· + ·) (congrArg₂ (· + ·) (congrArg₂ (· + ·) (hx j) ?_) ?_) ?_) ?_
  · exact Finset.sum_congr rfl fun k _ => congrArg₂ (· * ·) (ha k) (hw _ j)
  · exact Finset.sum_congr rfl fun k _ => congrArg₂ (· * ·) (hb k) (hw _ j)
  · exact Finset.sum_congr rfl fun k _ => congrArg₂ (· * ·) (hc k) (hw _ j)
  · exact Finset.sum_congr rfl fun k _ => congrArg₂ (· * ·) (hd k) (hw _ j)

theorem out9_of (x : FVec Ideal S256x1024 .f32) (a b c d : FVec Ideal S256x256 .f32) (w : FVec Ideal S1024x1024 .bf16)
    (l : FVec Ideal S1x1024 .f32) (q : FVec Ideal S1024x128 .f32)
    (X : FVec Ideal S4x4096x1024 .f32) (A B C D : FVec Ideal S4x4096x256 .f32) (W : FVec Ideal S2x1024x1024 .f32)
    (L : FVec Ideal S2x1024 .f32) (r : Fin 256) (R : Fin 16384) (j : Fin 1024)
    (hm : midBlk x a b c d w r = mid X A B C D W R) (hl : ∀ j, l (ix2 0 j) = L (ix2 0 j)) :
    out0_9 (F := Ideal) x a b c d w l q (ix2 r j) = nrm X A B C D W L R j := by
  rw [out9_at, hm, hl]
  rfl

theorem out10_of (x : FVec Ideal S256x1024 .f32) (a b c d : FVec Ideal S256x256 .f32) (w : FVec Ideal S1024x1024 .bf16)
    (l : FVec Ideal S1x1024 .f32) (q : FVec Ideal S1024x128 .f32)
    (X : FVec Ideal S4x4096x1024 .f32) (A B C D : FVec Ideal S4x4096x256 .f32) (W : FVec Ideal S2x1024x1024 .f32)
    (L : FVec Ideal S2x1024 .f32) (Q : FVec Ideal S2x1024x16 .f32) (r : Fin 256) (R : Fin 16384) (j : Fin 128)
    (hm : midBlk x a b c d w r = mid X A B C D W R) (hl : ∀ j, l (ix2 0 j) = L (ix2 0 j))
    (hq : ∀ d (e : Fin 16), q (ix2 d ⟨e.val, by omega⟩) = Q (ix3 0 d e))
    (fl : ∀ d, IsFin (L (ix2 0 d))) (fq : ∀ d e, IsFin (Q (ix3 0 d e))) :
    out0_10 (F := Ideal) x a b c d w l q (ix2 r j) = aff X A B C D W L Q R j := by
  rw [out10_at]
  have e7 : (fun d' => k0_pay7 (F := Ideal) x a b c d w l q (ix2 r d')) = mid X A B C D W R := by
    funext d'
    rw [pay7_at, hm]
  simp only [pay5_at, e7, hl]
  have fn : ∀ d, IsFin (rms (mid X A B C D W R) (L (ix2 0 d)) d) := fun d => fin_rms _ _ (fl d) d
  have hs : ∀ k : Fin 128, ∀ h : k.val < 16,
      splitDot (fun d => rms (mid X A B C D W R) (L (ix2 0 d)) d) (fun d => q (ix2 d k)) = lgt X A B C D W L Q R ⟨k.val, h⟩ := by
    intro k h
    have hk : ∀ d, q (ix2 d k) = Q (ix3 0 d ⟨k.val, h⟩) := fun d => hq d ⟨k.val, h⟩
    simp only [hk]
    exact splitDot_eq _ _ fn fun d => fq _ _
  refine (softmax_lanes _ (fun k h => ?_) j).trans ?_
  · rw [hs k h]
    exact fin_sum _ fun d => (fn d).mul (fq _ _)
  · unfold aff
    refine congrArg (fun f => affOf f j) ?_
    funext e
    exact hs ⟨e.val, by omega⟩ e.isLt

variable (m : (ℓ : Loc nD τ sig) → Buf (Elt Ideal) ℓ) (c : Dev nD)

def xArr : FVec Ideal S4x4096x1024 .f32 := m ((c.tc : Thread nD τ).loc main_arg0)
def aArr : FVec Ideal S4x4096x256 .f32 := m ((c.tc : Thread nD τ).loc main_arg1)
def bArr : FVec Ideal S4x4096x256 .f32 := m ((c.tc : Thread nD τ).loc main_arg2)
def cArr : FVec Ideal S4x4096x256 .f32 := m ((c.tc : Thread nD τ).loc main_arg3)
def dArr : FVec Ideal S4x4096x256 .f32 := m ((c.tc : Thread nD τ).loc main_arg4)
def wArr : FVec Ideal S2x1024x1024 .f32 := m ((c.tc : Thread nD τ).loc main_arg5)
def lArr : FVec Ideal S2x1024 .f32 := m ((c.tc : Thread nD τ).loc main_arg6)
def qArr : FVec Ideal S2x1024x16 .f32 := m ((c.tc : Thread nD τ).loc main_arg7)

theorem lt_N (t : Fin cfg0.N) : t.val < 64 := lt_of_lt_of_eq t.isLt N_0

theorem V_x : V m c main_v4 = shapeCast S16384x1024 (xArr m c) shapeCasts_S4x4096x1024_S16384x1024 := by
  show StableHlo.after hostOps0 (fun b => m (c, b)) (Proc.devRef .tc main_v4) = _
  after_results
  rfl

theorem V_a : V m c main_v0 = shapeCast S16384x256 (aArr m c) shapeCasts_S4x4096x256_S16384x256 := by
  show StableHlo.after hostOps0 (fun b => m (c, b)) (Proc.devRef .tc main_v0) = _
  after_results
  rfl

theorem V_b : V m c main_v1 = shapeCast S16384x256 (bArr m c) shapeCasts_S4x4096x256_S16384x256 := by
  show StableHlo.after hostOps0 (fun b => m (c, b)) (Proc.devRef .tc main_v1) = _
  after_results
  rfl

theorem V_c : V m c main_v2 = shapeCast S16384x256 (cArr m c) shapeCasts_S4x4096x256_S16384x256 := by
  show StableHlo.after hostOps0 (fun b => m (c, b)) (Proc.devRef .tc main_v2) = _
  after_results
  rfl

theorem V_d : V m c main_v3 = shapeCast S16384x256 (dArr m c) shapeCasts_S4x4096x256_S16384x256 := by
  show StableHlo.after hostOps0 (fun b => m (c, b)) (Proc.devRef .tc main_v3) = _
  after_results
  rfl

theorem V_w : V m c main_v13 = truncf .bf16 (shapeCast S1024x1024 (extractStridedSlice S1x1024x1024 ![0, 0, 0] (wArr m c) slices_S2x1024x1024_S1x1024x1024_0_0_0) shapeCasts_S1x1024x1024_S1024x1024) bitsLt_bf16_f32 := by
  show StableHlo.after hostOps0 (fun b => m (c, b)) (Proc.devRef .tc main_v13) = _
  after_results
  rfl

theorem V_l : V m c main_v14 = broadcastInDim S1x1024 ![1] bcast_S1024_S1x1024_1 (shapeCast S1024 (extractStridedSlice S1x1024 ![0, 0] (lArr m c) slices_S2x1024_S1x1024_0_0) shapeCasts_S1x1024_S1024) := by
  show StableHlo.after hostOps0 (fun b => m (c, b)) (Proc.devRef .tc main_v14) = _
  after_results
  rfl

theorem V_q : V m c main_v12 = concatenate S1024x128 1 [⟨S1024x16, shapeCast S1024x16 (extractStridedSlice S1x1024x16 ![0, 0, 0] (qArr m c) slices_S2x1024x16_S1x1024x16_0_0_0) shapeCasts_S1x1024x16_S1024x16⟩, ⟨S1024x112, broadcastInDim S1024x112 ![] bcast_S_S1024x112 (constant S_ .f32 0x00000000#32)⟩] concatenates_S1024x16_S1024x112_S1024x128_d1 := by
  show StableHlo.after hostOps0 (fun b => m (c, b)) (Proc.devRef .tc main_v12) = _
  after_results
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)

theorem x_at (t : Fin cfg0.N) (r : Fin 256) (d : Fin 1024) :
    (iblk m c 0 t : FVec Ideal S256x1024 .f32) (ix2 r d) = xArr m c (ix3 ⟨(t.val * 256 + r.val) / 4096, by have := lt_N t; omega⟩ ⟨(t.val * 256 + r.val) % 4096, by omega⟩ d) := by
  have h : (iblk m c 0 t : FVec Ideal S256x1024 .f32) (ix2 r d) = (V m c main_v4 : FVec Ideal S16384x1024 .f32) (ix2 ⟨t.val * 256 + r.val, by have := lt_N t; omega⟩ d) := by
    refine congrArg (V m c main_v4 : FVec Ideal S16384x1024 .f32) ?_
    funext a
    match a with
    | ⟨0, _⟩ => refine Fin.ext ?_; blk_simp [idx0 t]
    | ⟨1, _⟩ => refine Fin.ext ?_; blk_simp [idx0 t]
  refine h.trans ((congrFun (V_x m c) _).trans ?_)
  generalize xArr m c = X
  pointwise []

theorem a_at (t : Fin cfg0.N) (r d : Fin 256) :
    (iblk m c 1 t : FVec Ideal S256x256 .f32) (ix2 r d) = aArr m c (ix3 ⟨(t.val * 256 + r.val) / 4096, by have := lt_N t; omega⟩ ⟨(t.val * 256 + r.val) % 4096, by omega⟩ d) := by
  have h : (iblk m c 1 t : FVec Ideal S256x256 .f32) (ix2 r d) = (V m c main_v0 : FVec Ideal S16384x256 .f32) (ix2 ⟨t.val * 256 + r.val, by have := lt_N t; omega⟩ d) := by
    refine congrArg (V m c main_v0 : FVec Ideal S16384x256 .f32) ?_
    funext a
    match a with
    | ⟨0, _⟩ => refine Fin.ext ?_; blk_simp [idx1 t]
    | ⟨1, _⟩ => refine Fin.ext ?_; blk_simp [idx1 t]
  refine h.trans ((congrFun (V_a m c) _).trans ?_)
  generalize aArr m c = X
  pointwise []

theorem b_at (t : Fin cfg0.N) (r d : Fin 256) :
    (iblk m c 2 t : FVec Ideal S256x256 .f32) (ix2 r d) = bArr m c (ix3 ⟨(t.val * 256 + r.val) / 4096, by have := lt_N t; omega⟩ ⟨(t.val * 256 + r.val) % 4096, by omega⟩ d) := by
  have h : (iblk m c 2 t : FVec Ideal S256x256 .f32) (ix2 r d) = (V m c main_v1 : FVec Ideal S16384x256 .f32) (ix2 ⟨t.val * 256 + r.val, by have := lt_N t; omega⟩ d) := by
    refine congrArg (V m c main_v1 : FVec Ideal S16384x256 .f32) ?_
    funext a
    match a with
    | ⟨0, _⟩ => refine Fin.ext ?_; blk_simp [idx2 t]
    | ⟨1, _⟩ => refine Fin.ext ?_; blk_simp [idx2 t]
  refine h.trans ((congrFun (V_b m c) _).trans ?_)
  generalize bArr m c = X
  pointwise []

theorem c_at (t : Fin cfg0.N) (r d : Fin 256) :
    (iblk m c 3 t : FVec Ideal S256x256 .f32) (ix2 r d) = cArr m c (ix3 ⟨(t.val * 256 + r.val) / 4096, by have := lt_N t; omega⟩ ⟨(t.val * 256 + r.val) % 4096, by omega⟩ d) := by
  have h : (iblk m c 3 t : FVec Ideal S256x256 .f32) (ix2 r d) = (V m c main_v2 : FVec Ideal S16384x256 .f32) (ix2 ⟨t.val * 256 + r.val, by have := lt_N t; omega⟩ d) := by
    refine congrArg (V m c main_v2 : FVec Ideal S16384x256 .f32) ?_
    funext a
    match a with
    | ⟨0, _⟩ => refine Fin.ext ?_; blk_simp [idx3 t]
    | ⟨1, _⟩ => refine Fin.ext ?_; blk_simp [idx3 t]
  refine h.trans ((congrFun (V_c m c) _).trans ?_)
  generalize cArr m c = X
  pointwise []

theorem d_at (t : Fin cfg0.N) (r d : Fin 256) :
    (iblk m c 4 t : FVec Ideal S256x256 .f32) (ix2 r d) = dArr m c (ix3 ⟨(t.val * 256 + r.val) / 4096, by have := lt_N t; omega⟩ ⟨(t.val * 256 + r.val) % 4096, by omega⟩ d) := by
  have h : (iblk m c 4 t : FVec Ideal S256x256 .f32) (ix2 r d) = (V m c main_v3 : FVec Ideal S16384x256 .f32) (ix2 ⟨t.val * 256 + r.val, by have := lt_N t; omega⟩ d) := by
    refine congrArg (V m c main_v3 : FVec Ideal S16384x256 .f32) ?_
    funext a
    match a with
    | ⟨0, _⟩ => refine Fin.ext ?_; blk_simp [idx4 t]
    | ⟨1, _⟩ => refine Fin.ext ?_; blk_simp [idx4 t]
  refine h.trans ((congrFun (V_d m c) _).trans ?_)
  generalize dArr m c = X
  pointwise []

theorem w_at (t : Fin cfg0.N) (k j : Fin 1024) :
    (iblk m c 5 t : FVec Ideal S1024x1024 .bf16) (ix2 k j) = wArr m c (ix3 0 k j) := by
  have h : (iblk m c 5 t : FVec Ideal S1024x1024 .bf16) (ix2 k j) = (V m c main_v13 : FVec Ideal S1024x1024 .bf16) (ix2 k j) := by
    refine congrArg (V m c main_v13 : FVec Ideal S1024x1024 .bf16) ?_
    funext a
    match a with
    | ⟨0, _⟩ => refine Fin.ext ?_; blk_simp [idx5 t]
    | ⟨1, _⟩ => refine Fin.ext ?_; blk_simp [idx5 t]
  refine h.trans ((congrFun (V_w m c) _).trans ?_)
  generalize wArr m c = X
  pointwise []

theorem l_at (t : Fin cfg0.N) (j : Fin 1024) :
    (iblk m c 6 t : FVec Ideal S1x1024 .f32) (ix2 0 j) = lArr m c (ix2 0 j) := by
  have h : (iblk m c 6 t : FVec Ideal S1x1024 .f32) (ix2 0 j) = (V m c main_v14 : FVec Ideal S1x1024 .f32) (ix2 0 j) := by
    refine congrArg (V m c main_v14 : FVec Ideal S1x1024 .f32) ?_
    funext a
    match a with
    | ⟨0, _⟩ => refine Fin.ext ?_; blk_simp [idx6 t]
    | ⟨1, _⟩ => refine Fin.ext ?_; blk_simp [idx6 t]
  refine h.trans ((congrFun (V_l m c) _).trans ?_)
  generalize lArr m c = X
  pointwise []

theorem q_at (t : Fin cfg0.N) (d : Fin 1024) (e : Fin 16) :
    (iblk m c 7 t : FVec Ideal S1024x128 .f32) (ix2 d ⟨e.val, by omega⟩) = qArr m c (ix3 0 d e) := by
  have h : (iblk m c 7 t : FVec Ideal S1024x128 .f32) (ix2 d ⟨e.val, by omega⟩) = (V m c main_v12 : FVec Ideal S1024x128 .f32) (ix2 d ⟨e.val, by omega⟩) := by
    refine congrArg (V m c main_v12 : FVec Ideal S1024x128 .f32) ?_
    funext a
    match a with
    | ⟨0, _⟩ => refine Fin.ext ?_; blk_simp [idx7 t]
    | ⟨1, _⟩ => refine Fin.ext ?_; blk_simp [idx7 t]
  refine h.trans ((congrFun (V_q m c) _).trans ?_)
  generalize qArr m c = X
  pointwise []

theorem mid_at (t : Fin cfg0.N) (r : Fin 256) :
    midBlk (iblk m c 0 t) (iblk m c 1 t) (iblk m c 2 t) (iblk m c 3 t) (iblk m c 4 t) (iblk m c 5 t) r
      = mid (xArr m c) (aArr m c) (bArr m c) (cArr m c) (dArr m c) (wArr m c) ⟨t.val * 256 + r.val, by have := lt_N t; omega⟩ :=
  mid_of (iblk m c 0 t) (iblk m c 1 t) (iblk m c 2 t) (iblk m c 3 t) (iblk m c 4 t) (iblk m c 5 t) _ _ _ _ _ _ r _
    (x_at m c t r) (a_at m c t r) (b_at m c t r) (c_at m c t r) (d_at m c t r) (w_at m c t)

theorem visit8_at (t : Fin cfg0.N) (r : Fin 256) (j : Fin 1024) :
    out0_8 (F := Ideal) (iblk m c 0 t) (iblk m c 1 t) (iblk m c 2 t) (iblk m c 3 t) (iblk m c 4 t) (iblk m c 5 t) (iblk m c 6 t) (iblk m c 7 t) (ix2 r j)
      = mid (xArr m c) (aArr m c) (bArr m c) (cArr m c) (dArr m c) (wArr m c) ⟨t.val * 256 + r.val, by have := lt_N t; omega⟩ j :=
  (out8_at (iblk m c 0 t) (iblk m c 1 t) (iblk m c 2 t) (iblk m c 3 t) (iblk m c 4 t) (iblk m c 5 t) (iblk m c 6 t) (iblk m c 7 t) r j).trans
    (congrFun (mid_at m c t r) j)

theorem visit9_at (t : Fin cfg0.N) (r : Fin 256) (j : Fin 1024) :
    out0_9 (F := Ideal) (iblk m c 0 t) (iblk m c 1 t) (iblk m c 2 t) (iblk m c 3 t) (iblk m c 4 t) (iblk m c 5 t) (iblk m c 6 t) (iblk m c 7 t) (ix2 r j)
      = nrm (xArr m c) (aArr m c) (bArr m c) (cArr m c) (dArr m c) (wArr m c) (lArr m c) ⟨t.val * 256 + r.val, by have := lt_N t; omega⟩ j :=
  out9_of (iblk m c 0 t) (iblk m c 1 t) (iblk m c 2 t) (iblk m c 3 t) (iblk m c 4 t) (iblk m c 5 t) (iblk m c 6 t) (iblk m c 7 t)
    _ _ _ _ _ _ _ r _ j (mid_at m c t r) (l_at m c t)

/-- The norm's weight and the router are finite. -/
def AllFin : Prop := (∀ d, IsFin (lArr m c (ix2 0 d))) ∧ ∀ d e, IsFin (qArr m c (ix3 0 d e))

theorem visit10_at (hf : AllFin m c) (t : Fin cfg0.N) (r : Fin 256) (j : Fin 128) :
    out0_10 (F := Ideal) (iblk m c 0 t) (iblk m c 1 t) (iblk m c 2 t) (iblk m c 3 t) (iblk m c 4 t) (iblk m c 5 t) (iblk m c 6 t) (iblk m c 7 t) (ix2 r j)
      = aff (xArr m c) (aArr m c) (bArr m c) (cArr m c) (dArr m c) (wArr m c) (lArr m c) (qArr m c) ⟨t.val * 256 + r.val, by have := lt_N t; omega⟩ j :=
  out10_of (iblk m c 0 t) (iblk m c 1 t) (iblk m c 2 t) (iblk m c 3 t) (iblk m c 4 t) (iblk m c 5 t) (iblk m c 6 t) (iblk m c 7 t)
    _ _ _ _ _ _ _ _ r _ j (mid_at m c t r) (l_at m c t) (q_at m c t)
    hf.1 hf.2

theorem final8 : (dats m 0 c).arrAt 8 (cfgs 0).N
    = fun i : S16384x1024.Idx => mid (xArr m c) (aArr m c) (bArr m c) (cArr m c) (dArr m c) (wArr m c) (i 0) (i 1) := by
  refine (dats m 0 c).arrAt_eq_of_covers 8 _ (by decide +kernel) fun t hfl y => ?_
  blk_simp
  rw [after0_8]
  have hy : y = ix2 (y 0) (y 1) := by
    funext a
    match a with
    | ⟨0, _⟩ => rfl
    | ⟨1, _⟩ => rfl
  refine (congrArg (out0_8 (F := Ideal) (iblk m c 0 t) (iblk m c 1 t) (iblk m c 2 t) (iblk m c 3 t) (iblk m c 4 t) (iblk m c 5 t) (iblk m c 6 t) (iblk m c 7 t)) hy).trans ?_
  refine (visit8_at m c t (y 0) (y 1)).trans ?_
  refine congrArg₂ (mid (xArr m c) (aArr m c) (bArr m c) (cArr m c) (dArr m c) (wArr m c)) (Fin.ext ?_) (Fin.ext ?_)
  all_goals blk_simp [idx8 t]

theorem final9 : (dats m 0 c).arrAt 9 (cfgs 0).N
    = fun i : S16384x1024.Idx => nrm (xArr m c) (aArr m c) (bArr m c) (cArr m c) (dArr m c) (wArr m c) (lArr m c) (i 0) (i 1) := by
  refine (dats m 0 c).arrAt_eq_of_covers 9 _ (by decide +kernel) fun t hfl y => ?_
  blk_simp
  rw [after0_9]
  have hy : y = ix2 (y 0) (y 1) := by
    funext a
    match a with
    | ⟨0, _⟩ => rfl
    | ⟨1, _⟩ => rfl
  refine (congrArg (out0_9 (F := Ideal) (iblk m c 0 t) (iblk m c 1 t) (iblk m c 2 t) (iblk m c 3 t) (iblk m c 4 t) (iblk m c 5 t) (iblk m c 6 t) (iblk m c 7 t)) hy).trans ?_
  refine (visit9_at m c t (y 0) (y 1)).trans ?_
  refine congrArg₂ (nrm (xArr m c) (aArr m c) (bArr m c) (cArr m c) (dArr m c) (wArr m c) (lArr m c)) (Fin.ext ?_) (Fin.ext ?_)
  all_goals blk_simp [idx9 t]

theorem final10 (hf : AllFin m c) : (dats m 0 c).arrAt 10 (cfgs 0).N
    = fun i : S16384x128.Idx => aff (xArr m c) (aArr m c) (bArr m c) (cArr m c) (dArr m c) (wArr m c) (lArr m c) (qArr m c) (i 0) (i 1) := by
  refine (dats m 0 c).arrAt_eq_of_covers 10 _ (by decide +kernel) fun t hfl y => ?_
  blk_simp
  rw [after0_10]
  have hy : y = ix2 (y 0) (y 1) := by
    funext a
    match a with
    | ⟨0, _⟩ => rfl
    | ⟨1, _⟩ => rfl
  refine (congrArg (out0_10 (F := Ideal) (iblk m c 0 t) (iblk m c 1 t) (iblk m c 2 t) (iblk m c 3 t) (iblk m c 4 t) (iblk m c 5 t) (iblk m c 6 t) (iblk m c 7 t)) hy).trans ?_
  refine (visit10_at m c hf t (y 0) (y 1)).trans ?_
  refine congrArg₂ (aff (xArr m c) (aArr m c) (bArr m c) (cArr m c) (dArr m c) (wArr m c) (lArr m c) (qArr m c)) (Fin.ext ?_) (Fin.ext ?_)
  all_goals blk_simp [idx10 t]

end Cert.OutprojIdeal.Step

end
-- ==== Proof.OutprojRef.lean ====
/-
The reference of the output projection, the second norm and the router, entry by entry.
-/
module

public import proofs.«01_k».proof.Proof.OutprojClaim
public import proofs.«01_k».proof.Pre_outproj_pre

@[expose] public section

set_option maxRecDepth 16384

noncomputable section

namespace Cert.OutprojRefIdeal.Own

open Cert.OutprojRefIdeal Cert.OutprojRefIdeal.Gen Idealize.ShloMosaic Idealize.SL.Sem
open Cert.OutprojIdeal.Step Cert.OnlineSoftmax Cert.Router Cert.Rms

/-- The shape facts of the precondition. -/
instance preFacts : Cert.Pre_outproj_pre.Facts where
  slices_S2x1024_S1x1024_0_0 := by decide
  shapeCasts_S1x1024_S1024 := by decide
  bcast_S_S1024 := by decide
  slices_S2x1024x16_S1x1024x16_0_0_0 := by decide
  shapeCasts_S1x1024x16_S1024x16 := by decide
  bcast_S_S1024x16 := by decide

/-- The four branches side by side. -/
def cat (A B C D : FVec Ideal S4x4096x256 .f32) : FVec Ideal S4x4096x1024 .f32 :=
  concatenate S4x4096x1024 2 [⟨S4x4096x256, A⟩, ⟨S4x4096x256, B⟩, ⟨S4x4096x256, C⟩, ⟨S4x4096x256, D⟩] concatenates_S4x4096x256_S4x4096x256_S4x4096x256_S4x4096x256_S4x4096x1024_d2

/-- The residual stream after the projection. -/
def midT (X Y : FVec Ideal S4x4096x1024 .f32) (W : FVec Ideal S2x1024x1024 .f32) : FVec Ideal S4x4096x1024 .f32 :=
  addf X (Host.dotGeneral dot_S4x4096x1024_S1024x1024_S4x4096x1024_2_0_01_1_n_n none Y (shapeCast _ (extractStridedSlice S1x1024x1024 ![0, 0, 0] W slices_S2x1024x1024_S1x1024x1024_0_0_0) shapeCasts_S1x1024x1024_S1024x1024))

/-- Its norm. -/
def nrmT (Y : FVec Ideal S4x4096x1024 .f32) (L : FVec Ideal S2x1024 .f32) : FVec Ideal S4x4096x1024 .f32 :=
  mulf (mulf Y (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf Y Y) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ (extractStridedSlice S1x1024 ![0, 0] L slices_S2x1024_S1x1024_0_0) shapeCasts_S1x1024_S1024)))

/-- The logits. -/
def lgtT (H : FVec Ideal S4x4096x1024 .f32) (Q : FVec Ideal S2x1024x16 .f32) : FVec Ideal S4x4096x16 .f32 :=
  Host.dotGeneral dot_S4x4096x1024_S1024x16_S4x4096x16_2_0_01_1_n_n none H (shapeCast _ (extractStridedSlice S1x1024x16 ![0, 0, 0] Q slices_S2x1024x16_S1x1024x16_0_0_0) shapeCasts_S1x1024x16_S1024x16)

/-- The softmax's numerators. -/
def expT (S : FVec Ideal S4x4096x16 .f32) : FVec Ideal S4x4096x16 .f32 :=
  Host.exp (subf S (broadcastInDim S4x4096x16 ![0, 1, 2] bcast_S4x4096x1_S4x4096x16_0_1_2 (broadcastInDim S4x4096x1 ![0, 1] bcast_S4x4096_S4x4096x1_0_1 (maximumf (broadcastInDim S4x4096 ![] bcast_S_S4x4096 (constant S_ .f32 0xFF800000#32)) (Host.reduce FloatOps.maximumf S (constant S_ .f32 0xFF800000#32) reducesTo_S4x4096x16_S4x4096_d2 h_S_)))))

/-- The softmax, with columns of zeros. -/
def affT (E : FVec Ideal S4x4096x16 .f32) : FVec Ideal S4x4096x128 .f32 :=
  concatenate S4x4096x128 2 [⟨S4x4096x16, Host.divf E (broadcastInDim S4x4096x16 ![0, 1, 2] bcast_S4x4096x1_S4x4096x16_0_1_2 (broadcastInDim S4x4096x1 ![0, 1] bcast_S4x4096_S4x4096x1_0_1 (Host.reduceAdd E (constant S_ .f32 0x00000000#32) reducesTo_S4x4096x16_S4x4096_d2 h_S_)))⟩, ⟨S4x4096x112, broadcastInDim S4x4096x112 ![] bcast_S_S4x4096x112 (constant S_ .f32 0x00000000#32)⟩] concatenates_S4x4096x16_S4x4096x112_S4x4096x128_d2

/-! ## What the terms are at an entry -/

theorem off (b : Fin 4) (t : Fin 4096) (i : Fin 256) (j : Fin 1024) (q : Fin S4x4096x256.rank) (hb : q.cast (rfl : S4x4096x256.rank = S4x4096x1024.rank) ≠ 2) :
    ((ix3 b t i : S4x4096x256.Idx) q).val = ((ix3 b t j : S4x4096x1024.Idx) (q.cast rfl)).val := by
  match q, hb with
  | ⟨0, _⟩, _ => rfl
  | ⟨1, _⟩, _ => rfl
  | ⟨2, _⟩, hb => exact absurd rfl hb

theorem before0 : (((([S4x4096x256, S4x4096x256, S4x4096x256, S4x4096x256] : List Shape).take 0).map
    fun s => if h : s.rank = S4x4096x1024.rank then s.size ((2 : Fin S4x4096x1024.rank).cast h.symm) else 0)).sum = 0 := by
  decide +kernel

theorem cat0 (A B C D : FVec Ideal S4x4096x256 .f32) (b : Fin 4) (t : Fin 4096) (k : Fin 256) :
    cat A B C D (ix3 b t ⟨0 + k.val, by omega⟩) = A (ix3 b t k) := by
  unfold cat
  exact concatenate_apply_piece (t := S4x4096x1024) 2 _ _ (ix3 b t ⟨0 + k.val, by omega⟩) 0 (by exact Nat.lt_of_lt_of_eq (by decide : 0 < 4) rfl) S4x4096x256 _ rfl rfl 0 (by exact before0)
    (ix3 b t k) (fun q hb => off b t k _ q hb) rfl

theorem before1 : (((([S4x4096x256, S4x4096x256, S4x4096x256, S4x4096x256] : List Shape).take 1).map
    fun s => if h : s.rank = S4x4096x1024.rank then s.size ((2 : Fin S4x4096x1024.rank).cast h.symm) else 0)).sum = 256 := by
  decide +kernel

theorem cat1 (A B C D : FVec Ideal S4x4096x256 .f32) (b : Fin 4) (t : Fin 4096) (k : Fin 256) :
    cat A B C D (ix3 b t ⟨256 + k.val, by omega⟩) = B (ix3 b t k) := by
  unfold cat
  exact concatenate_apply_piece (t := S4x4096x1024) 2 _ _ (ix3 b t ⟨256 + k.val, by omega⟩) 1 (by exact Nat.lt_of_lt_of_eq (by decide : 1 < 4) rfl) S4x4096x256 _ rfl rfl 256 (by exact before1)
    (ix3 b t k) (fun q hb => off b t k _ q hb) rfl

theorem before2 : (((([S4x4096x256, S4x4096x256, S4x4096x256, S4x4096x256] : List Shape).take 2).map
    fun s => if h : s.rank = S4x4096x1024.rank then s.size ((2 : Fin S4x4096x1024.rank).cast h.symm) else 0)).sum = 512 := by
  decide +kernel

theorem cat2 (A B C D : FVec Ideal S4x4096x256 .f32) (b : Fin 4) (t : Fin 4096) (k : Fin 256) :
    cat A B C D (ix3 b t ⟨512 + k.val, by omega⟩) = C (ix3 b t k) := by
  unfold cat
  exact concatenate_apply_piece (t := S4x4096x1024) 2 _ _ (ix3 b t ⟨512 + k.val, by omega⟩) 2 (by exact Nat.lt_of_lt_of_eq (by decide : 2 < 4) rfl) S4x4096x256 _ rfl rfl 512 (by exact before2)
    (ix3 b t k) (fun q hb => off b t k _ q hb) rfl

theorem before3 : (((([S4x4096x256, S4x4096x256, S4x4096x256, S4x4096x256] : List Shape).take 3).map
    fun s => if h : s.rank = S4x4096x1024.rank then s.size ((2 : Fin S4x4096x1024.rank).cast h.symm) else 0)).sum = 768 := by
  decide +kernel

theorem cat3 (A B C D : FVec Ideal S4x4096x256 .f32) (b : Fin 4) (t : Fin 4096) (k : Fin 256) :
    cat A B C D (ix3 b t ⟨768 + k.val, by omega⟩) = D (ix3 b t k) := by
  unfold cat
  exact concatenate_apply_piece (t := S4x4096x1024) 2 _ _ (ix3 b t ⟨768 + k.val, by omega⟩) 3 (by exact Nat.lt_of_lt_of_eq (by decide : 3 < 4) rfl) S4x4096x256 _ rfl rfl 768 (by exact before3)
    (ix3 b t k) (fun q hb => off b t k _ q hb) rfl

/-- A sum over 1024 is the sum of four sums over 256. -/
theorem sum_four (g : Fin 1024 → EReal) : ∑ d, g d = (∑ k : Fin 256, g ⟨0 + k.val, by omega⟩) + (∑ k : Fin 256, g ⟨256 + k.val, by omega⟩)
    + (∑ k : Fin 256, g ⟨512 + k.val, by omega⟩) + (∑ k : Fin 256, g ⟨768 + k.val, by omega⟩) := by
  have h := Fin.sum_mul_add_fin 4 256 g
  rw [← h, Fin.sum_univ_four]
  rfl

theorem midT_at (X Y : FVec Ideal S4x4096x1024 .f32) (W : FVec Ideal S2x1024x1024 .f32) (b : Fin 4) (t : Fin 4096) (j : Fin 1024) :
    midT X Y W (ix3 b t j) = X (ix3 b t j) + ∑ d : Fin 1024, Y (ix3 b t d) * W (ix3 0 d j) := by
  pointwise [midT]

theorem nrmT_at (Y : FVec Ideal S4x4096x1024 .f32) (L : FVec Ideal S2x1024 .f32) (b : Fin 4) (t : Fin 4096) (j : Fin 1024) :
    nrmT Y L (ix3 b t j) = rms (fun d => Y (ix3 b t d)) (L (ix2 0 j)) j := by
  pointwise [nrmT]
  rfl

theorem lgtT_at (H : FVec Ideal S4x4096x1024 .f32) (Q : FVec Ideal S2x1024x16 .f32) (b : Fin 4) (t : Fin 4096) (e : Fin 16) :
    lgtT H Q (ix3 b t e) = ∑ d : Fin 1024, H (ix3 b t d) * Q (ix3 0 d e) := by
  pointwise [lgtT]

theorem expT_at (S : FVec Ideal S4x4096x16 .f32) (b : Fin 4) (t : Fin 4096) (e : Fin 16) :
    expT S (ix3 b t e) = Ideal.exp (S (ix3 b t e) - top fun k : Fin 16 => S (ix3 b t k)) := by
  pointwise [expT]
  rw [ofBits_neg_inf, max_eq_right bot_le]

theorem affT_at (E : FVec Ideal S4x4096x16 .f32) (b : Fin 4) (t : Fin 4096) (j : Fin 128) :
    affT E (ix3 b t j) = if h : j.val < 16 then Ideal.div (E (ix3 b t ⟨j.val, h⟩)) (∑ k : Fin 16, E (ix3 b t k)) else 0 := by
  pointwise [affT]

/-- The residual stream, a branch at a time. -/
theorem mid_eq (X : FVec Ideal S4x4096x1024 .f32) (A B C D : FVec Ideal S4x4096x256 .f32) (W : FVec Ideal S2x1024x1024 .f32)
    (R : Fin 16384) :
    (fun j => midT X (cat A B C D) W (ix3 ⟨R.val / 4096, by omega⟩ ⟨R.val % 4096, by omega⟩ j)) = mid X A B C D W R := by
  funext j
  rw [midT_at, sum_four]
  simp only [cat0, cat1, cat2, cat3, ← add_assoc]
  rfl

theorem rows1024 (Y : FVec Ideal S4x4096x1024 .f32) (R : Fin 16384) (j : Fin 1024) :
    shapeCast S16384x1024 Y shapeCasts_S4x4096x1024_S16384x1024 (ix2 R j) = Y (ix3 ⟨R.val / 4096, by omega⟩ ⟨R.val % 4096, by omega⟩ j) := by
  pointwise []

theorem rows128 (Y : FVec Ideal S4x4096x128 .f32) (R : Fin 16384) (j : Fin 128) :
    shapeCast S16384x128 Y shapeCasts_S4x4096x128_S16384x128 (ix2 R j) = Y (ix3 ⟨R.val / 4096, by omega⟩ ⟨R.val % 4096, by omega⟩ j) := by
  pointwise []

theorem pair_eq {n : ℕ} (y : (⟨2, ![16384, n]⟩ : Shape).Idx) : y = ix2 (y 0 : Fin 16384) (y 1 : Fin n) := by
  funext a
  match a with
  | ⟨0, _⟩ => rfl
  | ⟨1, _⟩ => rfl

theorem out0_eq (X : FVec Ideal S4x4096x1024 .f32) (A B C D : FVec Ideal S4x4096x256 .f32) (W : FVec Ideal S2x1024x1024 .f32) :
    shapeCast S16384x1024 (midT X (cat A B C D) W) shapeCasts_S4x4096x1024_S16384x1024
      = fun i : S16384x1024.Idx => mid X A B C D W (i 0) (i 1) := by
  funext y
  refine (congrArg _ (pair_eq y)).trans ((rows1024 _ (y 0) (y 1)).trans ?_)
  exact congrFun (mid_eq X A B C D W (y 0)) (y 1)

theorem nrm_eq (X : FVec Ideal S4x4096x1024 .f32) (A B C D : FVec Ideal S4x4096x256 .f32) (W : FVec Ideal S2x1024x1024 .f32)
    (L : FVec Ideal S2x1024 .f32) (R : Fin 16384) (j : Fin 1024) :
    nrmT (midT X (cat A B C D) W) L (ix3 ⟨R.val / 4096, by omega⟩ ⟨R.val % 4096, by omega⟩ j) = nrm X A B C D W L R j := by
  rw [nrmT_at, mid_eq]
  rfl

theorem out1_eq (X : FVec Ideal S4x4096x1024 .f32) (A B C D : FVec Ideal S4x4096x256 .f32) (W : FVec Ideal S2x1024x1024 .f32)
    (L : FVec Ideal S2x1024 .f32) :
    truncf .bf16 (shapeCast S16384x1024 (nrmT (midT X (cat A B C D) W) L) shapeCasts_S4x4096x1024_S16384x1024) bitsLt_bf16_f32
      = fun i : S16384x1024.Idx => nrm X A B C D W L (i 0) (i 1) := by
  funext y
  refine Eq.trans (b := shapeCast S16384x1024 (nrmT (midT X (cat A B C D) W) L) shapeCasts_S4x4096x1024_S16384x1024 y) rfl ?_
  refine (congrArg _ (pair_eq y)).trans ((rows1024 _ (y 0) (y 1)).trans ?_)
  exact nrm_eq X A B C D W L (y 0) (y 1)

theorem aff_eq (X : FVec Ideal S4x4096x1024 .f32) (A B C D : FVec Ideal S4x4096x256 .f32) (W : FVec Ideal S2x1024x1024 .f32)
    (L : FVec Ideal S2x1024 .f32) (Q : FVec Ideal S2x1024x16 .f32) (R : Fin 16384) (j : Fin 128) :
    affT (expT (lgtT (nrmT (midT X (cat A B C D) W) L) Q)) (ix3 ⟨R.val / 4096, by omega⟩ ⟨R.val % 4096, by omega⟩ j)
      = aff X A B C D W L Q R j := by
  rw [affT_at]
  simp only [expT_at, lgtT_at, nrm_eq]
  rfl

theorem out2_eq (X : FVec Ideal S4x4096x1024 .f32) (A B C D : FVec Ideal S4x4096x256 .f32) (W : FVec Ideal S2x1024x1024 .f32)
    (L : FVec Ideal S2x1024 .f32) (Q : FVec Ideal S2x1024x16 .f32) :
    shapeCast S16384x128 (affT (expT (lgtT (nrmT (midT X (cat A B C D) W) L) Q))) shapeCasts_S4x4096x128_S16384x128
      = fun i : S16384x128.Idx => aff X A B C D W L Q (i 0) (i 1) := by
  funext y
  refine (congrArg _ (pair_eq y)).trans ((rows128 _ (y 0) (y 1)).trans ?_)
  exact aff_eq X A B C D W L Q (y 0) (y 1)

/-! ## The precondition -/

theorem pre_weight (X : FVec Ideal S4x4096x1024 .f32) (A B C D : FVec Ideal S4x4096x256 .f32) (W : FVec Ideal S2x1024x1024 .f32)
    (L : FVec Ideal S2x1024 .f32) (Q : FVec Ideal S2x1024x16 .f32)
    (h : (Cert.Pre_outproj_pre.fn (F := Ideal) X A B C D W L Q).1 = (fun _ => 1#1)) (d : Fin 1024) : IsFin (L (ix2 0 d)) := by
  have e := congrFun h (ix1 d)
  dsimp only [Cert.Pre_outproj_pre.fn] at e
  revert e
  pointwise
  intro e
  exact Cert.AttnRefIdeal.Own.finite_of_lt (φ := .f32) (L (ix2 0 d)) e

theorem pre_router (X : FVec Ideal S4x4096x1024 .f32) (A B C D : FVec Ideal S4x4096x256 .f32) (W : FVec Ideal S2x1024x1024 .f32)
    (L : FVec Ideal S2x1024 .f32) (Q : FVec Ideal S2x1024x16 .f32)
    (h : (Cert.Pre_outproj_pre.fn (F := Ideal) X A B C D W L Q).2 = (fun _ => 1#1)) (d : Fin 1024) (k : Fin 16) : IsFin (Q (ix3 0 d k)) := by
  have e := congrFun h (ix2 d k)
  dsimp only [Cert.Pre_outproj_pre.fn] at e
  revert e
  pointwise
  intro e
  exact Cert.AttnRefIdeal.Own.finite_of_lt (φ := .f32) (Q (ix3 0 d k)) e

/-! ## The run's results as these terms -/

theorem cat_of (m : (ℓ : Loc nD τ sig) → Buf (Elt Ideal) ℓ) (c : Dev nD) {A B C D : FVec Ideal S4x4096x256 .f32}
    (hA : m ((c.tc : Thread nD τ).loc main_arg1) = A) (hB : m ((c.tc : Thread nD τ).loc main_arg2) = B)
    (hC : m ((c.tc : Thread nD τ).loc main_arg3) = C) (hD : m ((c.tc : Thread nD τ).loc main_arg4) = D) :
    cat (m ((c.tc : Thread nD τ).loc main_arg1)) (m ((c.tc : Thread nD τ).loc main_arg2)) (m ((c.tc : Thread nD τ).loc main_arg3))
      (m ((c.tc : Thread nD τ).loc main_arg4)) = cat A B C D := by
  subst hA hB hC hD
  rfl

theorem res_of (m : (ℓ : Loc nD τ sig) → Buf (Elt Ideal) ℓ) (c : Dev nD) {X : FVec Ideal S4x4096x1024 .f32}
    {A B C D : FVec Ideal S4x4096x256 .f32} {W : FVec Ideal S2x1024x1024 .f32} {L : FVec Ideal S2x1024 .f32} {Q : FVec Ideal S2x1024x16 .f32}
    (hX : m ((c.tc : Thread nD τ).loc main_arg0) = X) (hA : m ((c.tc : Thread nD τ).loc main_arg1) = A)
    (hB : m ((c.tc : Thread nD τ).loc main_arg2) = B) (hC : m ((c.tc : Thread nD τ).loc main_arg3) = C)
    (hD : m ((c.tc : Thread nD τ).loc main_arg4) = D) (hW : m ((c.tc : Thread nD τ).loc main_arg5) = W)
    (hL : m ((c.tc : Thread nD τ).loc main_arg6) = L) (hQ : m ((c.tc : Thread nD τ).loc main_arg7) = Q) :
    Value.res_main_v39 m c = shapeCast S16384x128 (affT (expT (lgtT (nrmT (midT X (cat A B C D) W) L) Q))) shapeCasts_S4x4096x128_S16384x128 := by
  subst hX hA hB hC hD hW hL hQ
  unfold Value.res_main_v39
  rfl

end Cert.OutprojRefIdeal.Own

end
-- ==== Proof.OutprojRun.lean ====
/-
The claims about the output projection, the second norm and the router, each proved: both programs run, and they leave the same arrays.
-/
module

public import proofs.«01_k».proof.Defs
public import proofs.«01_k».proof.Proof.Gen.Outproj.Frame
public import proofs.«01_k».proof.Proof.Gen.OutprojIdeal.Frame
public import proofs.«01_k».proof.Proof.OutprojRef
public import Idealize.ShloMosaic.Lib.Claim
public import Idealize.ShloMosaic.Lib.Quiescent

@[expose] public section

set_option maxRecDepth 16384

noncomputable section

namespace Cert.Proof.OutputProjection

open Idealize.ShloMosaic Idealize.SL.Sem

/-- The word-for-word program runs and leaves its arguments. -/
theorem frame_bits : Cert.quiescent_Outproj (hOutproj := Cert.Outproj.Gen.facts) := fun m ρ _ => Cert.Outproj.Gen.frame m ρ

/-- The same of the idealized program. -/
theorem frame_ideal : Cert.quiescent_OutprojIdeal (hOutprojIdeal := Cert.OutprojIdeal.Gen.facts) := fun m ρ _ => Cert.OutprojIdeal.Gen.frame m ρ

/-- The same of the reference. -/
theorem frame_ref : Cert.quiescent_OutprojRefIdeal (hOutprojRefIdeal := Cert.OutprojRefIdeal.Gen.facts) := by
  intro m g _
  hlo_run
  · exact fun _ => ⟨trivial, trivial, trivial, trivial, trivial, trivial, trivial, trivial⟩
  · exact sem_eq_zero_of_no_sems (sig := Cert.OutprojRefIdeal.sig) rfl _

/-- The idealized call and the reference leave the same three arrays, wherever the norm's weight and the router are finite. -/
theorem algebraic : Cert.algebraic_OutprojIdeal_OutprojRefIdeal_pre_outproj_pre (hOutprojIdeal := Cert.OutprojIdeal.Gen.facts)
    (hOutprojRefIdeal := Cert.OutprojRefIdeal.Gen.facts) (hPre_outproj_pre := Cert.OutprojRefIdeal.Own.preFacts) := by
  pair_intro
  · run_from Cert.OutprojIdeal.Gen.run_main m g
  · run_from Cert.OutprojRefIdeal.Value.run _ _
    · obtain ⟨-, h1, h2, h3, h4, -⟩ := hagree c
      refine Eq.trans ?_ ((Cert.OutprojRefIdeal.Own.out0_eq _ _ _ _ _ _).trans (Cert.OutprojIdeal.Step.final8 m c).symm)
      exact congrArg (fun Y => shapeCast _ (Cert.OutprojRefIdeal.Own.midT (Cert.OutprojIdeal.Step.xArr m c) Y (Cert.OutprojIdeal.Step.wArr m c))
        Cert.OutprojRefIdeal.Gen.shapeCasts_S4x4096x1024_S16384x1024) (Cert.OutprojRefIdeal.Own.cat_of m' c h1 h2 h3 h4)
    · obtain ⟨-, h1, h2, h3, h4, -⟩ := hagree c
      refine Eq.trans ?_ ((Cert.OutprojRefIdeal.Own.out1_eq _ _ _ _ _ _ _).trans (Cert.OutprojIdeal.Step.final9 m c).symm)
      exact congrArg (fun Y => truncf .bf16 (shapeCast _ (Cert.OutprojRefIdeal.Own.nrmT
        (Cert.OutprojRefIdeal.Own.midT (Cert.OutprojIdeal.Step.xArr m c) Y (Cert.OutprojIdeal.Step.wArr m c)) (Cert.OutprojIdeal.Step.lArr m c))
        Cert.OutprojRefIdeal.Gen.shapeCasts_S4x4096x1024_S16384x1024) Cert.OutprojRefIdeal.Gen.bitsLt_bf16_f32)
        (Cert.OutprojRefIdeal.Own.cat_of m' c h1 h2 h3 h4)
    · obtain ⟨h0, h1, h2, h3, h4, h5, h6, h7⟩ := hagree c
      obtain ⟨p1, p2⟩ := hpre c
      refine (Cert.OutprojRefIdeal.Own.res_of m' c h0 h1 h2 h3 h4 h5 h6 h7).trans ?_
      refine (Cert.OutprojRefIdeal.Own.out2_eq _ _ _ _ _ _ _ _).trans (Cert.OutprojIdeal.Step.final10 m c ⟨?_, ?_⟩).symm
      · exact Cert.OutprojRefIdeal.Own.pre_weight _ _ _ _ _ _ _ _ p1
      · exact Cert.OutprojRefIdeal.Own.pre_router _ _ _ _ _ _ _ _ p2

end Cert.Proof.OutputProjection

end
-- ==== Proof.PrepStep.lean ====
/-
The preparation of the latent attention: what one visit stores, entry by entry.
-/
module

public import proofs.«01_k».proof.Proof.Gen.PrepIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.PrepIdeal.Step

open Cert.PrepIdeal Cert.PrepIdeal.Gen Idealize.ShloMosaic Idealize.ShloMosaic.TcCoe Idealize.SL.Sem

/-- A row of `n` entries divided by its root mean square (`N` is `n` as the programs write it), times a weight: entry `j`. -/
def rmsOf {n : ℕ} (N : EReal) (x : Fin n → EReal) (w : EReal) (j : Fin n) : EReal :=
  x j * Ideal.rsqrt (Ideal.div (∑ d, x d * x d) N + Ideal.ofBits .f32 0x358637BD#32) * w

/-- The number 256. -/
abbrev n256 : EReal := Ideal.ofBits .f32 0x43800000#32
/-- The number 128. -/
abbrev n128 : EReal := Ideal.ofBits .f32 0x43000000#32

/-- The projected query row before its rotation: entry `l`. -/
def qRaw (x : FVec Ideal S1x512x256 .f32) (g : FVec Ideal S1x256 .f32) (w : FVec Ideal S256x512 .bf16) (r : Fin 512) (l : Fin 512) : EReal :=
  ∑ k : Fin 256, rmsOf n256 (fun d => x (ix3 0 r d)) (g (ix2 0 k)) k * w (ix2 k l)

theorem pay1_at (x : FVec Ideal S1x512x256 .f32) (g : FVec Ideal S1x256 .f32) (w : FVec Ideal S256x512 .bf16)
    (a b c : FVec Ideal S512x512 .f32) (r l : Fin 512) :
    k0_pay1 (F := Ideal) x g w a b c (ix2 r l)
      = (qRaw x g w r l * a (ix2 r l) + qRaw x g w r ⟨(l.val + 512 - 496) % 512, by omega⟩ * b (ix2 r l)
          + qRaw x g w r ⟨(l.val + 512 - 16) % 512, by omega⟩ * c (ix2 r l)) * Ideal.ofBits .f32 0x3E16C740#32 := by
  pointwise [k0_pay1]
  rfl

theorem pay4_at (x : FVec Ideal S1x512x256 .f32) (g : FVec Ideal S1x128 .f32) (r : Fin 512) (k : Fin 128) :
    k0_pay4 (F := Ideal) x g (ix2 r k) = rmsOf n128 (fun d : Fin 128 => x (ix3 0 r ⟨d.val, by omega⟩)) (g (ix2 0 k)) k := by
  pointwise [k0_pay4, k0_pay3]
  rfl

theorem pay6_at (x : FVec Ideal S1x512x256 .f32) (a b c : FVec Ideal S512x128 .f32) (r : Fin 512) (l : Fin 128) :
    k0_pay6 (F := Ideal) x a b c (ix2 r l)
      = x (ix3 0 r ⟨128 + l.val, by omega⟩) * a (ix2 r l) + x (ix3 0 r ⟨128 + (l.val + 128 - 112) % 128, by omega⟩) * b (ix2 r l)
          + x (ix3 0 r ⟨128 + (l.val + 128 - 16) % 128, by omega⟩) * c (ix2 r l) := by
  pointwise [k0_pay6, k0_pay3]

theorem pay5_at (x : FVec Ideal S1x512x256 .f32) (g : FVec Ideal S1x128 .f32) (w : FVec Ideal S128x512 .bf16) (r l : Fin 512) :
    k0_pay5 (F := Ideal) x g w (ix2 r l) = ∑ k : Fin 128, k0_pay4 (F := Ideal) x g (ix2 r k) * w (ix2 k l) := by
  pointwise [k0_pay5]

theorem pay7_at (p : FVec Ideal S512x512 .f32) (y : FVec Ideal S512x128 .bf16) (w : FVec Ideal S128x512 .bf16) (r l : Fin 512) :
    k0_pay7 (F := Ideal) p y w (ix3 0 r l) = p (ix2 r l) + ∑ k : Fin 128, y (ix2 r k) * w (ix2 k l) := by
  pointwise [k0_pay7]

/-- The word the body computes for a lane's place within its 128. -/
def place (l : Fin 512) : BitVec 32 :=
  Scalar.select
    (IntOp.andi
      (IntOp.xori
        (IntOp.cmpi CmpIPredicate.slt
          (IntOp.remsi ArithUnit.vector (BitVec.ofNat 32 l.val) (Scalar.select (Scalar.cmpi CmpIPredicate.eq 128#32 0#32) 1#32 128#32)) 0#32)
        (Scalar.cmpi CmpIPredicate.slt (Scalar.select (Scalar.cmpi CmpIPredicate.eq 128#32 0#32) 1#32 128#32) 0#32))
      (IntOp.cmpi CmpIPredicate.ne
        (IntOp.remsi ArithUnit.vector (BitVec.ofNat 32 l.val) (Scalar.select (Scalar.cmpi CmpIPredicate.eq 128#32 0#32) 1#32 128#32)) 0#32))
    (IntOp.addi
      (IntOp.remsi ArithUnit.vector (BitVec.ofNat 32 l.val) (Scalar.select (Scalar.cmpi CmpIPredicate.eq 128#32 0#32) 1#32 128#32))
      (Scalar.select (Scalar.cmpi CmpIPredicate.eq 128#32 0#32) 1#32 128#32))
    (IntOp.remsi ArithUnit.vector (BitVec.ofNat 32 l.val) (Scalar.select (Scalar.cmpi CmpIPredicate.eq 128#32 0#32) 1#32 128#32))

theorem upper : ∀ l : Fin 512, IntOp.cmpi CmpIPredicate.sge (place l) 64#32 = if l.val % 128 < 64 then 0#1 else 1#1 := by
  decide +kernel

theorem select_upper (l : Fin 512) (f : EReal) :
    Scalar.select (IntOp.cmpi CmpIPredicate.sge (place l) 64#32) 1 f = if l.val % 128 < 64 then f else 1 := by
  rw [upper]
  by_cases h : l.val % 128 < 64
  · rw [if_pos h, if_pos h]; rfl
  · rw [if_neg h, if_neg h]; rfl

theorem pay8_at (y : FVec Ideal S512x128 .bf16) (w : FVec Ideal S128x512 .bf16) (r l : Fin 512) :
    k0_pay8 (F := Ideal) y w (ix3 0 r l) = if l.val % 128 < 64 then ∑ k : Fin 128, y (ix2 r k) * w (ix2 k l) else 1 := by
  pointwise [k0_pay8]
  exact select_upper l _

theorem out14_at (x y : FVec Ideal S1x512x256 .f32) (g : FVec Ideal S1x256 .f32) (u : FVec Ideal S1x128 .f32)
    (w : FVec Ideal S256x512 .bf16) (wk wv pl : FVec Ideal S128x512 .bf16) (a b c : FVec Ideal S512x512 .f32)
    (d e f : FVec Ideal S512x128 .f32) (r l : Fin 512) :
    out0_14 (F := Ideal) x y g u w wk wv pl a b c d e f (ix3 0 r l)
      = (qRaw x g w r l * a (ix2 r l) + qRaw x g w r ⟨(l.val + 512 - 496) % 512, by omega⟩ * b (ix2 r l)
          + qRaw x g w r ⟨(l.val + 512 - 16) % 512, by omega⟩ * c (ix2 r l)) * Ideal.ofBits .f32 0x3E16C740#32 := by
  have h : out0_14 (F := Ideal) x y g u w wk wv pl a b c d e f (ix3 0 r l) = k0_pay2 (F := Ideal) (k0_pay1 x g w a b c) (ix3 0 r l) := by
    frame_out
  refine h.trans (Eq.trans ?_ (pay1_at x g w a b c r l))
  pointwise [k0_pay2]

/-- The keys' and values' normalized row. -/
def kvRow (y : FVec Ideal S1x512x256 .f32) (u : FVec Ideal S1x128 .f32) (r : Fin 512) (k : Fin 128) : EReal :=
  rmsOf n128 (fun d : Fin 128 => y (ix3 0 r ⟨d.val, by omega⟩)) (u (ix2 0 k)) k

/-- The rotated shared part of the keys. -/
def krRow (y : FVec Ideal S1x512x256 .f32) (d e f : FVec Ideal S512x128 .f32) (r : Fin 512) (l : Fin 128) : EReal :=
  y (ix3 0 r ⟨128 + l.val, by omega⟩) * d (ix2 r l) + y (ix3 0 r ⟨128 + (l.val + 128 - 112) % 128, by omega⟩) * e (ix2 r l)
    + y (ix3 0 r ⟨128 + (l.val + 128 - 16) % 128, by omega⟩) * f (ix2 r l)

theorem out15_at (x y : FVec Ideal S1x512x256 .f32) (g : FVec Ideal S1x256 .f32) (u : FVec Ideal S1x128 .f32)
    (w : FVec Ideal S256x512 .bf16) (wk wv pl : FVec Ideal S128x512 .bf16) (a b c : FVec Ideal S512x512 .f32)
    (d e f : FVec Ideal S512x128 .f32) (r l : Fin 512) :
    out0_15 (F := Ideal) x y g u w wk wv pl a b c d e f (ix3 0 r l)
      = (∑ k : Fin 128, kvRow y u r k * wk (ix2 k l)) + ∑ k : Fin 128, krRow y d e f r k * pl (ix2 k l) := by
  have h : out0_15 (F := Ideal) x y g u w wk wv pl a b c d e f (ix3 0 r l)
      = k0_pay7 (F := Ideal) (k0_pay5 y u wk) (k0_pay6 y d e f) pl (ix3 0 r l) := by
    frame_out
  refine h.trans ((pay7_at _ _ _ r l).trans ?_)
  rw [pay5_at]
  simp only [pay4_at, pay6_at]
  rfl

theorem out16_at (x y : FVec Ideal S1x512x256 .f32) (g : FVec Ideal S1x256 .f32) (u : FVec Ideal S1x128 .f32)
    (w : FVec Ideal S256x512 .bf16) (wk wv pl : FVec Ideal S128x512 .bf16) (a b c : FVec Ideal S512x512 .f32)
    (d e f : FVec Ideal S512x128 .f32) (r l : Fin 512) :
    out0_16 (F := Ideal) x y g u w wk wv pl a b c d e f (ix3 0 r l)
      = if l.val % 128 < 64 then ∑ k : Fin 128, kvRow y u r k * wv (ix2 k l) else 1 := by
  have h : out0_16 (F := Ideal) x y g u w wk wv pl a b c d e f (ix3 0 r l) = k0_pay8 (F := Ideal) (k0_pay4 y u) wv (ix3 0 r l) := by
    frame_out
  refine h.trans ((pay8_at _ _ r l).trans ?_)
  simp only [pay4_at]
  rfl

end Cert.PrepIdeal.Step

end
-- ==== Proof.PrepTables.lean ====
/-
The arrays the host code prepares for the latent attention's preparation: the tables of the rotation, the placement of the
rotated part of the keys, and the weights laid out by head, entry by entry.
-/
module

public import proofs.«01_k».proof.Proof.PrepStep
public import Idealize.ShloMosaic.Lib.StableHlo.RunRead

@[expose] public section

set_option maxRecDepth 16384

noncomputable section

namespace Cert.PrepIdeal.Step

open Cert.PrepIdeal Cert.PrepIdeal.Gen Idealize.ShloMosaic Idealize.ShloMosaic.TcCoe Idealize.SL.Sem

/-- The angles: position times inverse frequency. -/
def angT : FVec Ideal S4096x16 .f32 :=
  mulf (broadcastInDim S4096x16 ![0, 1] bcast_S4096x1_S4096x16_0_1 (broadcastInDim S4096x1 ![0] bcast_S4096_S4096x1_0 (sitofp .f32 (iotaInDim S4096 32 0))))
    (broadcastInDim S4096x16 ![0, 1] bcast_S1x16_S4096x16_0_1 (broadcastInDim S1x16 ![1] bcast_S16_S1x16_1
      (Host.divf (broadcastInDim S16 ![] bcast_S_S16 (constant S_ .f32 0x3F800000#32))
        (Host.powf (broadcastInDim S16 ![] bcast_S_S16 (constant S_ .f32 0x48F42400#32))
          (Host.divf (addf (broadcastInDim S16 ![] bcast_S_S16 (constant S_ .f32 0x00000000#32))
              (mulf (broadcastInDim S16 ![] bcast_S_S16 (constant S_ .f32 0x40000000#32)) (sitofp .f32 (iotaInDim S16 32 0))))
            (broadcastInDim S16 ![] bcast_S_S16 (constant S_ .f32 0x42000000#32)))))))

/-- Their cosines. -/
def cosT : FVec Ideal S4096x16 .f32 := Host.cos angT
/-- Their sines. -/
def sinT : FVec Ideal S4096x16 .f32 := Host.sin angT
/-- The sines with the opposite sign. -/
def negT : FVec Ideal S4096x16 .f32 := Host.negf sinT
/-- Sixteen columns of zeros. -/
def zeroT : FVec Ideal S4096x16 .f32 := broadcastInDim S4096x16 ![] bcast_S_S4096x16 (constant S_ .f32 0x00000000#32)

/-- A table of the queries: four groups of columns side by side. -/
def catQ (A : FVec Ideal S4096x64 .f32) (B C : FVec Ideal S4096x16 .f32) (D : FVec Ideal S4096x32 .f32) : FVec Ideal S4096x128 .f32 :=
  concatenate S4096x128 1 [⟨S4096x64, A⟩, ⟨S4096x16, B⟩, ⟨S4096x16, C⟩, ⟨S4096x32, D⟩] concatenates_S4096x64_S4096x16_S4096x16_S4096x32_S4096x128_d1

/-- The table once for each head. -/
def tileQ (T : FVec Ideal S4096x128 .f32) : FVec Ideal S4096x512 .f32 :=
  shapeCast S4096x512 (broadcastInDim S1x4096x4x128 ![0, 1, 2, 3] bcast_S1x4096x1x128_S1x4096x4x128_0_1_2_3
    (shapeCast S1x4096x1x128 T shapeCasts_S4096x128_S1x4096x1x128)) shapeCasts_S1x4096x4x128_S4096x512

/-- A table of the keys. -/
def catK (A : FVec Ideal S4096x0 .f32) (B C : FVec Ideal S4096x16 .f32) (D : FVec Ideal S4096x96 .f32) : FVec Ideal S4096x128 .f32 :=
  concatenate S4096x128 1 [⟨S4096x0, A⟩, ⟨S4096x16, B⟩, ⟨S4096x16, C⟩, ⟨S4096x96, D⟩] concatenates_S4096x0_S4096x16_S4096x16_S4096x96_S4096x128_d1

def tileK (T : FVec Ideal S4096x128 .f32) : FVec Ideal S4096x128 .f32 :=
  shapeCast S4096x128 (broadcastInDim S1x4096x1x128 ![0, 1, 2, 3] bcast_S1x4096x1x128_S1x4096x1x128_0_1_2_3
    (shapeCast S1x4096x1x128 T shapeCasts_S4096x128_S1x4096x1x128)) shapeCasts_S1x4096x1x128_S4096x128

/-- `v` in every column of the first, and of the last group. -/
def fillA (v : BitVec 32) : FVec Ideal S4096x64 .f32 := broadcastInDim S4096x64 ![] bcast_S_S4096x64 (constant S_ .f32 v)
def fillD (v : BitVec 32) : FVec Ideal S4096x32 .f32 := broadcastInDim S4096x32 ![] bcast_S_S4096x32 (constant S_ .f32 v)
def fillA' (v : BitVec 32) : FVec Ideal S4096x0 .f32 := broadcastInDim S4096x0 ![] bcast_S_S4096x0 (constant S_ .f32 v)
def fillD' (v : BitVec 32) : FVec Ideal S4096x96 .f32 := broadcastInDim S4096x96 ![] bcast_S_S4096x96 (constant S_ .f32 v)

/-- The remainder of each lane by 128. -/
def remT : IVec S1x512 32 :=
  select
    (andi
      (cmpi .ne
        (cmpi .slt (Host.remsi (broadcastInDim S1x512 ![1] bcast_S512_S1x512_1 (iotaInDim S512 32 0))
            (broadcastInDim S1x512 ![] bcast_S_S1x512 (select (cmpi .eq (constantI S_ 32 128#32) (constantI S_ 32 0#32)) (constantI S_ 32 1#32) (constantI S_ 32 128#32))))
          (broadcastInDim S1x512 ![] bcast_S_S1x512 (constantI S_ 32 0#32)))
        (broadcastInDim S1x512 ![] bcast_S_S1x512
          (cmpi .slt (select (cmpi .eq (constantI S_ 32 128#32) (constantI S_ 32 0#32)) (constantI S_ 32 1#32) (constantI S_ 32 128#32)) (constantI S_ 32 0#32))))
      (cmpi .ne (Host.remsi (broadcastInDim S1x512 ![1] bcast_S512_S1x512_1 (iotaInDim S512 32 0))
          (broadcastInDim S1x512 ![] bcast_S_S1x512 (select (cmpi .eq (constantI S_ 32 128#32) (constantI S_ 32 0#32)) (constantI S_ 32 1#32) (constantI S_ 32 128#32))))
        (broadcastInDim S1x512 ![] bcast_S_S1x512 (constantI S_ 32 0#32))))
    (addi (Host.remsi (broadcastInDim S1x512 ![1] bcast_S512_S1x512_1 (iotaInDim S512 32 0))
        (broadcastInDim S1x512 ![] bcast_S_S1x512 (select (cmpi .eq (constantI S_ 32 128#32) (constantI S_ 32 0#32)) (constantI S_ 32 1#32) (constantI S_ 32 128#32))))
      (broadcastInDim S1x512 ![] bcast_S_S1x512 (select (cmpi .eq (constantI S_ 32 128#32) (constantI S_ 32 0#32)) (constantI S_ 32 1#32) (constantI S_ 32 128#32))))
    (Host.remsi (broadcastInDim S1x512 ![1] bcast_S512_S1x512_1 (iotaInDim S512 32 0))
      (broadcastInDim S1x512 ![] bcast_S_S1x512 (select (cmpi .eq (constantI S_ 32 128#32) (constantI S_ 32 0#32)) (constantI S_ 32 1#32) (constantI S_ 32 128#32))))

/-- Where the rotated part of the keys goes: a one where lane `l` takes entry `j`. -/
def placeT : FVec Ideal S128x512 .bf16 :=
  uitofp .bf16 (andi
    (cmpi .eq (broadcastInDim S128x512 ![0, 1] bcast_S1x512_S128x512_0_1 remT)
      (broadcastInDim S128x512 ![0, 1] bcast_S128x1_S128x512_0_1
        (addi (broadcastInDim S128x1 ![0] bcast_S128_S128x1_0 (iotaInDim S128 32 0)) (broadcastInDim S128x1 ![] bcast_S_S128x1 (constantI S_ 32 64#32)))))
    (broadcastInDim S128x512 ![0, 1] bcast_S128x1_S128x512_0_1
      (cmpi .slt (broadcastInDim S128x1 ![0] bcast_S128_S128x1_0 (iotaInDim S128 32 0)) (broadcastInDim S128x1 ![] bcast_S_S128x1 (constantI S_ 32 32#32)))))

/-- The queries' weight, each head followed by 32 columns of zeros. -/
def wqT (W : FVec Ideal S2x256x384 .f32) : FVec Ideal S256x512 .bf16 :=
  truncf .bf16 (shapeCast S256x512 (concatenate S256x4x128 2
    [⟨S256x4x96, shapeCast S256x4x96 (shapeCast S256x384 (extractStridedSlice S1x256x384 ![0, 0, 0] W slices_S2x256x384_S1x256x384_0_0_0) shapeCasts_S1x256x384_S256x384) shapeCasts_S256x384_S256x4x96⟩,
      ⟨S256x4x32, broadcastInDim S256x4x32 ![] bcast_S_S256x4x32 (constant S_ .f32 0x00000000#32)⟩] concatenates_S256x4x96_S256x4x32_S256x4x128_d2)
    shapeCasts_S256x4x128_S256x512) bitsLt_bf16_f32

/-- The keys' and values' weight by head. -/
def kvT (W : FVec Ideal S2x128x512 .f32) : FVec Ideal S128x4x128 .f32 :=
  shapeCast S128x4x128 (shapeCast S128x512 (extractStridedSlice S1x128x512 ![0, 0, 0] W slices_S2x128x512_S1x128x512_0_0_0) shapeCasts_S1x128x512_S128x512) shapeCasts_S128x512_S128x4x128

/-- 64 columns of each head followed by zeros. -/
def halfT (X : FVec Ideal S128x4x64 .f32) : FVec Ideal S128x512 .bf16 :=
  truncf .bf16 (shapeCast S128x512 (concatenate S128x4x128 2
    [⟨S128x4x64, X⟩, ⟨S128x4x64, broadcastInDim S128x4x64 ![] bcast_S_S128x4x64 (constant S_ .f32 0x00000000#32)⟩] concatenates_S128x4x64_S128x4x64_S128x4x128_d2)
    shapeCasts_S128x4x128_S128x512) bitsLt_bf16_f32

def wkT (W : FVec Ideal S2x128x512 .f32) : FVec Ideal S128x512 .bf16 :=
  halfT (extractStridedSlice S128x4x64 ![0, 0, 0] (kvT W) slices_S128x4x128_S128x4x64_0_0_0)

def wvT (W : FVec Ideal S2x128x512 .f32) : FVec Ideal S128x512 .bf16 :=
  halfT (extractStridedSlice S128x4x64 ![0, 0, 64] (kvT W) slices_S128x4x128_S128x4x64_0_0_64)

def qnT (W : FVec Ideal S2x256 .f32) : FVec Ideal S1x256 .f32 :=
  broadcastInDim S1x256 ![1] bcast_S256_S1x256_1 (shapeCast S256 (extractStridedSlice S1x256 ![0, 0] W slices_S2x256_S1x256_0_0) shapeCasts_S1x256_S256)

def kvnT (W : FVec Ideal S2x128 .f32) : FVec Ideal S1x128 .f32 :=
  broadcastInDim S1x128 ![1] bcast_S128_S1x128_1 (shapeCast S128 (extractStridedSlice S1x128 ![0, 0] W slices_S2x128_S1x128_0_0) shapeCasts_S1x128_S128)

/-! ### Entry by entry -/

/-- The cosine and sine of position `p`, frequency `i`. -/
def cosAt (p : Fin 4096) (i : Fin 16) : EReal := cosT (ix2 p i)
def sinAt (p : Fin 4096) (i : Fin 16) : EReal := sinT (ix2 p i)

theorem tileQ_at (T : FVec Ideal S4096x128 .f32) (p : Fin 4096) (l : Fin 512) :
    tileQ T (ix2 p l) = T (ix2 p ⟨l.val % 128, by omega⟩) := by
  pointwise [tileQ]

theorem tileK_at (T : FVec Ideal S4096x128 .f32) (p : Fin 4096) (l : Fin 128) : tileK T (ix2 p l) = T (ix2 p l) := by
  pointwise [tileK]

theorem wqT_at (W : FVec Ideal S2x256x384 .f32) (k : Fin 256) (l : Fin 512) :
    wqT W (ix2 k l) = if h : l.val % 128 < 96 then W (ix3 0 k ⟨l.val / 128 * 96 + l.val % 128, by omega⟩) else 0 := by
  pointwise [wqT]

theorem wkT_at (W : FVec Ideal S2x128x512 .f32) (k : Fin 128) (l : Fin 512) :
    wkT W (ix2 k l) = if l.val % 128 < 64 then W (ix3 0 k l) else 0 := by
  pointwise [wkT, halfT, kvT]
  split <;> rfl

theorem wvT_at (W : FVec Ideal S2x128x512 .f32) (k : Fin 128) (l : Fin 512) :
    wvT W (ix2 k l) = if h : l.val % 128 < 64 then W (ix3 0 k ⟨l.val + 64, by omega⟩) else 0 := by
  pointwise [wvT, halfT, kvT]
  split
  · exact congrArg (fun e => W (ix3 0 k e)) (Fin.ext (by show l.val / 128 * 128 + (64 + l.val % 128) = l.val + 64; omega))
  · rfl

theorem qnT_at (W : FVec Ideal S2x256 .f32) (k : Fin 256) : qnT W (ix2 0 k) = W (ix2 0 k) := by
  pointwise [qnT]

theorem kvnT_at (W : FVec Ideal S2x128 .f32) (k : Fin 128) : kvnT W (ix2 0 k) = W (ix2 0 k) := by
  pointwise [kvnT]

theorem rem_word : ∀ l : Fin 512,
    Scalar.select
        (IntOp.andi
          (IntOp.cmpi CmpIPredicate.ne
            (IntOp.cmpi CmpIPredicate.slt
              (IntOp.remsi ArithUnit.host (BitVec.ofNat 32 l.val)
                (Scalar.select (IntOp.cmpi CmpIPredicate.eq 128#32 0#32) 1#32 128#32))
              0#32)
            (IntOp.cmpi CmpIPredicate.slt (Scalar.select (IntOp.cmpi CmpIPredicate.eq 128#32 0#32) 1#32 128#32)
              0#32))
          (IntOp.cmpi CmpIPredicate.ne
            (IntOp.remsi ArithUnit.host (BitVec.ofNat 32 l.val)
              (Scalar.select (IntOp.cmpi CmpIPredicate.eq 128#32 0#32) 1#32 128#32))
            0#32))
        (IntOp.addi
          (IntOp.remsi ArithUnit.host (BitVec.ofNat 32 l.val)
            (Scalar.select (IntOp.cmpi CmpIPredicate.eq 128#32 0#32) 1#32 128#32))
          (Scalar.select (IntOp.cmpi CmpIPredicate.eq 128#32 0#32) 1#32 128#32))
        (IntOp.remsi ArithUnit.host (BitVec.ofNat 32 l.val)
          (Scalar.select (IntOp.cmpi CmpIPredicate.eq 128#32 0#32) 1#32 128#32)) = BitVec.ofNat 32 (l.val % 128) := by
  decide +kernel

theorem place_word : ∀ (j k : Fin 128),
    IntOp.andi (IntOp.cmpi CmpIPredicate.eq (BitVec.ofNat 32 k.val) (IntOp.addi (BitVec.ofNat 32 j.val) 64#32))
        (IntOp.cmpi CmpIPredicate.slt (BitVec.ofNat 32 j.val) 32#32)
      = if k.val = j.val + 64 ∧ j.val < 32 then 1#1 else 0#1 := by
  decide +kernel

theorem placeT_at (j : Fin 128) (l : Fin 512) :
    placeT (ix2 j l) = if l.val % 128 = j.val + 64 ∧ j.val < 32 then 1 else 0 := by
  pointwise [placeT, remT]
  refine Eq.trans (b := FloatOps.uitofp (F := Ideal) FTy.bf16 (if l.val % 128 = j.val + 64 ∧ j.val < 32 then 1#1 else 0#1)) ?_ ?_
  · refine congrArg _ ?_
    rw [rem_word l]
    exact place_word j ⟨l.val % 128, by omega⟩
  · split
    · show (((1#1 : BitVec 1).toNat : ℝ) : EReal) = 1
      simp
    · show (((0#1 : BitVec 1).toNat : ℝ) : EReal) = 0
      simp

/-! ### What the region finds -/

variable (m : (ℓ : Loc nD τ sig) → Buf (Elt Ideal) ℓ) (c : Dev nD)

def xArr : FVec Ideal S4x4096x3584 .f32 := m ((c.tc : Thread nD τ).loc main_arg0)
def gArr : FVec Ideal S2x256 .f32 := m ((c.tc : Thread nD τ).loc main_arg1)
def uArr : FVec Ideal S2x128 .f32 := m ((c.tc : Thread nD τ).loc main_arg2)
def wArr : FVec Ideal S2x256x384 .f32 := m ((c.tc : Thread nD τ).loc main_arg3)
def kvArr : FVec Ideal S2x128x512 .f32 := m ((c.tc : Thread nD τ).loc main_arg4)

theorem V_g : V m c main_v112 = qnT (gArr m c) := by
  show StableHlo.after (List.flatten [hostOps0, hostOps0_1, hostOps0_2]) (fun b => m (c, b)) (Proc.devRef .tc main_v112) = _
  after_reads_simp
  rfl

theorem V_u : V m c main_v113 = kvnT (uArr m c) := by
  show StableHlo.after (List.flatten [hostOps0, hostOps0_1, hostOps0_2]) (fun b => m (c, b)) (Proc.devRef .tc main_v113) = _
  after_reads_simp
  rfl

theorem V_w : V m c main_v109 = wqT (wArr m c) := by
  show StableHlo.after (List.flatten [hostOps0, hostOps0_1, hostOps0_2]) (fun b => m (c, b)) (Proc.devRef .tc main_v109) = _
  after_reads_simp
  rfl

theorem V_wk : V m c main_v110 = wkT (kvArr m c) := by
  show StableHlo.after (List.flatten [hostOps0, hostOps0_1, hostOps0_2]) (fun b => m (c, b)) (Proc.devRef .tc main_v110) = _
  after_reads_simp
  rfl

theorem V_wv : V m c main_v111 = wvT (kvArr m c) := by
  show StableHlo.after (List.flatten [hostOps0, hostOps0_1, hostOps0_2]) (fun b => m (c, b)) (Proc.devRef .tc main_v111) = _
  after_reads_simp
  rfl

theorem V_p : V m c main_v108 = placeT := by
  show StableHlo.after (List.flatten [hostOps0, hostOps0_1, hostOps0_2]) (fun b => m (c, b)) (Proc.devRef .tc main_v108) = _
  after_reads_simp
  rfl

theorem V_qc : V m c main_v30 = tileQ (catQ (fillA 0x3F800000#32) cosT cosT (fillD 0x3F800000#32)) := by
  show StableHlo.after (List.flatten [hostOps0, hostOps0_1, hostOps0_2]) (fun b => m (c, b)) (Proc.devRef .tc main_v30) = _
  after_reads_simp
  rfl

theorem V_q1 : V m c main_v33 = tileQ (catQ (fillA 0x00000000#32) negT zeroT (fillD 0x00000000#32)) := by
  show StableHlo.after (List.flatten [hostOps0, hostOps0_1, hostOps0_2]) (fun b => m (c, b)) (Proc.devRef .tc main_v33) = _
  after_reads_simp
  rfl

theorem V_q2 : V m c main_v36 = tileQ (catQ (fillA 0x00000000#32) zeroT sinT (fillD 0x00000000#32)) := by
  show StableHlo.after (List.flatten [hostOps0, hostOps0_1, hostOps0_2]) (fun b => m (c, b)) (Proc.devRef .tc main_v36) = _
  after_reads_simp
  rfl

theorem V_kc : V m c main_v67 = tileK (catK (fillA' 0x3F800000#32) cosT cosT (fillD' 0x3F800000#32)) := by
  show StableHlo.after (List.flatten [hostOps0, hostOps0_1, hostOps0_2]) (fun b => m (c, b)) (Proc.devRef .tc main_v67) = _
  after_reads_simp
  rfl

theorem V_k1 : V m c main_v70 = tileK (catK (fillA' 0x00000000#32) negT zeroT (fillD' 0x00000000#32)) := by
  show StableHlo.after (List.flatten [hostOps0, hostOps0_1, hostOps0_2]) (fun b => m (c, b)) (Proc.devRef .tc main_v70) = _
  after_reads_simp
  rfl

theorem V_k2 : V m c main_v73 = tileK (catK (fillA' 0x00000000#32) zeroT sinT (fillD' 0x00000000#32)) := by
  show StableHlo.after (List.flatten [hostOps0, hostOps0_1, hostOps0_2]) (fun b => m (c, b)) (Proc.devRef .tc main_v73) = _
  after_reads_simp
  rfl

end Cert.PrepIdeal.Step

end
-- ==== Proof.PrepOut.lean ====
/-
The three rows the preparation of the latent attention leaves, as the mathematics of the arrays it reads: the queries and keys
rotated, the values followed by ones.
-/
module

public import proofs.«01_k».proof.Proof.PrepTables
public import Idealize.ShloMosaic.Lib.Pipeline.ValueKit
public import Idealize.ShloMosaic.Lib.Pipeline.ReadBack
public import Idealize.ShloMosaic.Lib.Pointwise

@[expose] public section

set_option maxRecDepth 16384

noncomputable section

namespace Cert.PrepIdeal.Step

open Cert.PrepIdeal Cert.PrepIdeal.Gen Idealize.ShloMosaic Idealize.ShloMosaic.TcCoe Idealize.SL.Sem

theorem beforeQ0 : (((([S4096x64, S4096x16, S4096x16, S4096x32] : List Shape).take 0).map
    fun s => if h : s.rank = S4096x128.rank then s.size ((1 : Fin S4096x128.rank).cast h.symm) else 0)).sum = 0 := by
  decide +kernel

theorem catQ0 (A : FVec Ideal S4096x64 .f32) (B : FVec Ideal S4096x16 .f32) (C : FVec Ideal S4096x16 .f32) (D : FVec Ideal S4096x32 .f32) (p : Fin 4096) (k : Fin 64) :
    catQ A B C D (ix2 p ⟨0 + k.val, by omega⟩) = A (ix2 p k) := by
  unfold catQ
  exact concatenate_apply_piece (t := S4096x128) 1 _ _ (ix2 p ⟨0 + k.val, by omega⟩) 0 (by exact Nat.lt_of_lt_of_eq (by decide : 0 < 4) rfl) S4096x64 _ rfl rfl 0 (by exact beforeQ0)
    (ix2 p k) (fun q hb => by
      match q, hb with
      | ⟨0, _⟩, _ => rfl
      | ⟨1, _⟩, hb => exact absurd rfl hb) rfl

theorem beforeQ1 : (((([S4096x64, S4096x16, S4096x16, S4096x32] : List Shape).take 1).map
    fun s => if h : s.rank = S4096x128.rank then s.size ((1 : Fin S4096x128.rank).cast h.symm) else 0)).sum = 64 := by
  decide +kernel

theorem catQ1 (A : FVec Ideal S4096x64 .f32) (B : FVec Ideal S4096x16 .f32) (C : FVec Ideal S4096x16 .f32) (D : FVec Ideal S4096x32 .f32) (p : Fin 4096) (k : Fin 16) :
    catQ A B C D (ix2 p ⟨64 + k.val, by omega⟩) = B (ix2 p k) := by
  unfold catQ
  exact concatenate_apply_piece (t := S4096x128) 1 _ _ (ix2 p ⟨64 + k.val, by omega⟩) 1 (by exact Nat.lt_of_lt_of_eq (by decide : 1 < 4) rfl) S4096x16 _ rfl rfl 64 (by exact beforeQ1)
    (ix2 p k) (fun q hb => by
      match q, hb with
      | ⟨0, _⟩, _ => rfl
      | ⟨1, _⟩, hb => exact absurd rfl hb) rfl

theorem beforeQ2 : (((([S4096x64, S4096x16, S4096x16, S4096x32] : List Shape).take 2).map
    fun s => if h : s.rank = S4096x128.rank then s.size ((1 : Fin S4096x128.rank).cast h.symm) else 0)).sum = 80 := by
  decide +kernel

theorem catQ2 (A : FVec Ideal S4096x64 .f32) (B : FVec Ideal S4096x16 .f32) (C : FVec Ideal S4096x16 .f32) (D : FVec Ideal S4096x32 .f32) (p : Fin 4096) (k : Fin 16) :
    catQ A B C D (ix2 p ⟨80 + k.val, by omega⟩) = C (ix2 p k) := by
  unfold catQ
  exact concatenate_apply_piece (t := S4096x128) 1 _ _ (ix2 p ⟨80 + k.val, by omega⟩) 2 (by exact Nat.lt_of_lt_of_eq (by decide : 2 < 4) rfl) S4096x16 _ rfl rfl 80 (by exact beforeQ2)
    (ix2 p k) (fun q hb => by
      match q, hb with
      | ⟨0, _⟩, _ => rfl
      | ⟨1, _⟩, hb => exact absurd rfl hb) rfl

theorem beforeQ3 : (((([S4096x64, S4096x16, S4096x16, S4096x32] : List Shape).take 3).map
    fun s => if h : s.rank = S4096x128.rank then s.size ((1 : Fin S4096x128.rank).cast h.symm) else 0)).sum = 96 := by
  decide +kernel

theorem catQ3 (A : FVec Ideal S4096x64 .f32) (B : FVec Ideal S4096x16 .f32) (C : FVec Ideal S4096x16 .f32) (D : FVec Ideal S4096x32 .f32) (p : Fin 4096) (k : Fin 32) :
    catQ A B C D (ix2 p ⟨96 + k.val, by omega⟩) = D (ix2 p k) := by
  unfold catQ
  exact concatenate_apply_piece (t := S4096x128) 1 _ _ (ix2 p ⟨96 + k.val, by omega⟩) 3 (by exact Nat.lt_of_lt_of_eq (by decide : 3 < 4) rfl) S4096x32 _ rfl rfl 96 (by exact beforeQ3)
    (ix2 p k) (fun q hb => by
      match q, hb with
      | ⟨0, _⟩, _ => rfl
      | ⟨1, _⟩, hb => exact absurd rfl hb) rfl

theorem beforeK1 : (((([S4096x0, S4096x16, S4096x16, S4096x96] : List Shape).take 1).map
    fun s => if h : s.rank = S4096x128.rank then s.size ((1 : Fin S4096x128.rank).cast h.symm) else 0)).sum = 0 := by
  decide +kernel

theorem catK1 (A : FVec Ideal S4096x0 .f32) (B : FVec Ideal S4096x16 .f32) (C : FVec Ideal S4096x16 .f32) (D : FVec Ideal S4096x96 .f32) (p : Fin 4096) (k : Fin 16) :
    catK A B C D (ix2 p ⟨0 + k.val, by omega⟩) = B (ix2 p k) := by
  unfold catK
  exact concatenate_apply_piece (t := S4096x128) 1 _ _ (ix2 p ⟨0 + k.val, by omega⟩) 1 (by exact Nat.lt_of_lt_of_eq (by decide : 1 < 4) rfl) S4096x16 _ rfl rfl 0 (by exact beforeK1)
    (ix2 p k) (fun q hb => by
      match q, hb with
      | ⟨0, _⟩, _ => rfl
      | ⟨1, _⟩, hb => exact absurd rfl hb) rfl

theorem beforeK2 : (((([S4096x0, S4096x16, S4096x16, S4096x96] : List Shape).take 2).map
    fun s => if h : s.rank = S4096x128.rank then s.size ((1 : Fin S4096x128.rank).cast h.symm) else 0)).sum = 16 := by
  decide +kernel

theorem catK2 (A : FVec Ideal S4096x0 .f32) (B : FVec Ideal S4096x16 .f32) (C : FVec Ideal S4096x16 .f32) (D : FVec Ideal S4096x96 .f32) (p : Fin 4096) (k : Fin 16) :
    catK A B C D (ix2 p ⟨16 + k.val, by omega⟩) = C (ix2 p k) := by
  unfold catK
  exact concatenate_apply_piece (t := S4096x128) 1 _ _ (ix2 p ⟨16 + k.val, by omega⟩) 2 (by exact Nat.lt_of_lt_of_eq (by decide : 2 < 4) rfl) S4096x16 _ rfl rfl 16 (by exact beforeK2)
    (ix2 p k) (fun q hb => by
      match q, hb with
      | ⟨0, _⟩, _ => rfl
      | ⟨1, _⟩, hb => exact absurd rfl hb) rfl

theorem beforeK3 : (((([S4096x0, S4096x16, S4096x16, S4096x96] : List Shape).take 3).map
    fun s => if h : s.rank = S4096x128.rank then s.size ((1 : Fin S4096x128.rank).cast h.symm) else 0)).sum = 32 := by
  decide +kernel

theorem catK3 (A : FVec Ideal S4096x0 .f32) (B : FVec Ideal S4096x16 .f32) (C : FVec Ideal S4096x16 .f32) (D : FVec Ideal S4096x96 .f32) (p : Fin 4096) (k : Fin 96) :
    catK A B C D (ix2 p ⟨32 + k.val, by omega⟩) = D (ix2 p k) := by
  unfold catK
  exact concatenate_apply_piece (t := S4096x128) 1 _ _ (ix2 p ⟨32 + k.val, by omega⟩) 3 (by exact Nat.lt_of_lt_of_eq (by decide : 3 < 4) rfl) S4096x96 _ rfl rfl 32 (by exact beforeK3)
    (ix2 p k) (fun q hb => by
      match q, hb with
      | ⟨0, _⟩, _ => rfl
      | ⟨1, _⟩, hb => exact absurd rfl hb) rfl

theorem fillA_one (p : Fin 4096) (k : Fin 64) : fillA 0x3F800000#32 (ix2 p k) = 1 := by pointwise [fillA]
theorem fillA_zero (p : Fin 4096) (k : Fin 64) : fillA 0x00000000#32 (ix2 p k) = 0 := by pointwise [fillA]
theorem fillD_one (p : Fin 4096) (k : Fin 32) : fillD 0x3F800000#32 (ix2 p k) = 1 := by pointwise [fillD]
theorem fillD_zero (p : Fin 4096) (k : Fin 32) : fillD 0x00000000#32 (ix2 p k) = 0 := by pointwise [fillD]
theorem zeroT_at (p : Fin 4096) (k : Fin 16) : zeroT (ix2 p k) = 0 := by pointwise [zeroT]
theorem negT_at (p : Fin 4096) (k : Fin 16) : negT (ix2 p k) = -sinAt p k := by
  pointwise [negT]
  rfl

/-- A lane of the 512 by its head, its group of columns and its place there. -/
theorem lane (T : FVec Ideal S4096x128 .f32) (p : Fin 4096) (l : Fin 512) (d : Fin 128) (h : l.val % 128 = d.val) :
    tileQ T (ix2 p l) = T (ix2 p d) := by
  rw [tileQ_at]
  exact congrArg (fun e => T (ix2 p e)) (Fin.ext h)

theorem laneK (T : FVec Ideal S4096x128 .f32) (p : Fin 4096) (l d : Fin 128) (h : l.val = d.val) : tileK T (ix2 p l) = T (ix2 p d) := by
  rw [tileK_at]
  exact congrArg (fun e => T (ix2 p e)) (Fin.ext h)

/-- The scale of the queries, as the programs write it. -/
abbrev qScale : EReal := Ideal.ofBits .f32 0x3E16C740#32

/-- The projected query row: entry `e`. -/
def qE (X : FVec Ideal S4x4096x3584 .f32) (G : FVec Ideal S2x256 .f32) (W : FVec Ideal S2x256x384 .f32) (b : Fin 4) (s : Fin 4096) (e : Fin 384) : EReal :=
  ∑ k : Fin 256, rmsOf n256 (fun d : Fin 256 => X (ix3 b s ⟨1024 + d.val, by omega⟩)) (G (ix2 0 k)) k * W (ix3 0 k e)

/-- The normalized latent row. -/
def kvE (X : FVec Ideal S4x4096x3584 .f32) (U : FVec Ideal S2x128 .f32) (b : Fin 4) (s : Fin 4096) (k : Fin 128) : EReal :=
  rmsOf n128 (fun d : Fin 128 => X (ix3 b s ⟨1280 + d.val, by omega⟩)) (U (ix2 0 k)) k

/-- The row's shared part of the keys, rotated. -/
def krE (X : FVec Ideal S4x4096x3584 .f32) (b : Fin 4) (s : Fin 4096) (j : Fin 32) : EReal :=
  if h : j.val < 16 then
    X (ix3 b s ⟨1408 + j.val, by omega⟩) * cosAt s ⟨j.val, h⟩ - X (ix3 b s ⟨1408 + (j.val + 16), by omega⟩) * sinAt s ⟨j.val, h⟩
  else
    X (ix3 b s ⟨1408 + j.val, by omega⟩) * cosAt s ⟨j.val - 16, by omega⟩
      + X (ix3 b s ⟨1408 + (j.val - 16), by omega⟩) * sinAt s ⟨j.val - 16, by omega⟩

/-- Lane `l` of the queries. -/
def qOut (X : FVec Ideal S4x4096x3584 .f32) (G : FVec Ideal S2x256 .f32) (W : FVec Ideal S2x256x384 .f32) (b : Fin 4) (s : Fin 4096) (l : Fin 512) : EReal :=
  if h : l.val % 128 < 64 then qE X G W b s ⟨l.val / 128 * 96 + l.val % 128, by omega⟩ * qScale
  else if h' : l.val % 128 < 80 then
    (qE X G W b s ⟨l.val / 128 * 96 + l.val % 128, by omega⟩ * cosAt s ⟨l.val % 128 - 64, by omega⟩
      - qE X G W b s ⟨l.val / 128 * 96 + (l.val % 128 + 16), by omega⟩ * sinAt s ⟨l.val % 128 - 64, by omega⟩) * qScale
  else if h'' : l.val % 128 < 96 then
    (qE X G W b s ⟨l.val / 128 * 96 + l.val % 128, by omega⟩ * cosAt s ⟨l.val % 128 - 80, by omega⟩
      + qE X G W b s ⟨l.val / 128 * 96 + (l.val % 128 - 16), by omega⟩ * sinAt s ⟨l.val % 128 - 80, by omega⟩) * qScale
  else 0

/-- Lane `l` of the keys. -/
def kOut (X : FVec Ideal S4x4096x3584 .f32) (U : FVec Ideal S2x128 .f32) (W : FVec Ideal S2x128x512 .f32) (b : Fin 4) (s : Fin 4096) (l : Fin 512) : EReal :=
  if l.val % 128 < 64 then ∑ k : Fin 128, kvE X U b s k * W (ix3 0 k l)
  else if h : l.val % 128 < 96 then krE X b s ⟨l.val % 128 - 64, by omega⟩
  else 0

/-- Lane `l` of the values. -/
def vOut (X : FVec Ideal S4x4096x3584 .f32) (U : FVec Ideal S2x128 .f32) (W : FVec Ideal S2x128x512 .f32) (b : Fin 4) (s : Fin 4096) (l : Fin 512) : EReal :=
  if h : l.val % 128 < 64 then ∑ k : Fin 128, kvE X U b s k * W (ix3 0 k ⟨l.val + 64, by omega⟩) else 1

/-! ### The rows of a block -/

section rows

variable (x y : FVec Ideal S1x512x256 .f32) (g : FVec Ideal S1x256 .f32) (u : FVec Ideal S1x128 .f32)
  (w : FVec Ideal S256x512 .bf16) (wk wv pl : FVec Ideal S128x512 .bf16) (a b c : FVec Ideal S512x512 .f32)
  (d e f : FVec Ideal S512x128 .f32)
  (X : FVec Ideal S4x4096x3584 .f32) (G : FVec Ideal S2x256 .f32) (U : FVec Ideal S2x128 .f32)
  (W : FVec Ideal S2x256x384 .f32) (KV : FVec Ideal S2x128x512 .f32) (B : Fin 4) (s : Fin 4096) (r : Fin 512)

include X in
theorem qRaw_of (hx : ∀ d : Fin 256, x (ix3 0 r d) = X (ix3 B s ⟨1024 + d.val, by omega⟩)) (hg : g = qnT G) (hw : w = wqT W)
    (l : Fin 512) :
    qRaw x g w r l = if h : l.val % 128 < 96 then qE X G W B s ⟨l.val / 128 * 96 + l.val % 128, by omega⟩ else 0 := by
  subst hg hw
  unfold qRaw
  simp only [hx, wqT_at, qnT_at]
  split
  · rfl
  · exact Finset.sum_eq_zero fun k _ => mul_zero _

theorem q_of (hx : ∀ d : Fin 256, x (ix3 0 r d) = X (ix3 B s ⟨1024 + d.val, by omega⟩)) (hg : g = qnT G) (hw : w = wqT W)
    (ha : ∀ l, a (ix2 r l) = tileQ (catQ (fillA 0x3F800000#32) cosT cosT (fillD 0x3F800000#32)) (ix2 s l))
    (hb : ∀ l, b (ix2 r l) = tileQ (catQ (fillA 0x00000000#32) negT zeroT (fillD 0x00000000#32)) (ix2 s l))
    (hc : ∀ l, c (ix2 r l) = tileQ (catQ (fillA 0x00000000#32) zeroT sinT (fillD 0x00000000#32)) (ix2 s l)) (l : Fin 512) :
    out0_14 (F := Ideal) x y g u w wk wv pl a b c d e f (ix3 0 r l) = qOut X G W B s l := by
  rw [out14_at, ha, hb, hc, qRaw_of x g w X G W B s r hx hg hw, qRaw_of x g w X G W B s r hx hg hw, qRaw_of x g w X G W B s r hx hg hw]
  unfold qOut
  by_cases h0 : l.val % 128 < 64
  · rw [lane _ s l ⟨0 + (⟨l.val % 128, h0⟩ : Fin 64).val, by omega⟩ (by simp),
      lane _ s l ⟨0 + (⟨l.val % 128, h0⟩ : Fin 64).val, by omega⟩ (by simp),
      lane _ s l ⟨0 + (⟨l.val % 128, h0⟩ : Fin 64).val, by omega⟩ (by simp), catQ0, catQ0, catQ0, fillA_one, fillA_zero, dif_pos h0,
      dif_pos (show l.val % 128 < 96 by omega), mul_one, mul_zero, mul_zero, add_zero, add_zero]
  rw [dif_neg h0]
  by_cases h1 : l.val % 128 < 80
  · have e : ∀ T, tileQ T (ix2 s l) = T (ix2 s ⟨64 + (⟨l.val % 128 - 64, by omega⟩ : Fin 16).val, by omega⟩) :=
      fun T => lane T s l _ (by show _ = 64 + (l.val % 128 - 64); omega)
    rw [e, e, e, catQ1, catQ1, catQ1, negT_at, zeroT_at, mul_zero, add_zero, mul_neg, ← sub_eq_add_neg, dif_pos h1,
      dif_pos (show l.val % 128 < 96 by omega), dif_pos (show (l.val + 512 - 496) % 512 % 128 < 96 by omega)]
    refine congrArg (· * qScale) (congrArg₂ (· - ·) rfl (congrArg (· * sinAt s _) (congrArg (qE X G W B s) (Fin.ext ?_))))
    show (l.val + 512 - 496) % 512 / 128 * 96 + (l.val + 512 - 496) % 512 % 128 = l.val / 128 * 96 + (l.val % 128 + 16)
    omega
  rw [dif_neg h1]
  by_cases h2 : l.val % 128 < 96
  · have e : ∀ T, tileQ T (ix2 s l) = T (ix2 s ⟨80 + (⟨l.val % 128 - 80, by omega⟩ : Fin 16).val, by omega⟩) :=
      fun T => lane T s l _ (by show _ = 80 + (l.val % 128 - 80); omega)
    rw [e, e, e, catQ2, catQ2, catQ2, zeroT_at, mul_zero, add_zero, dif_pos h2,
      dif_pos (show l.val % 128 < 96 by omega), dif_pos (show (l.val + 512 - 16) % 512 % 128 < 96 by omega)]
    refine congrArg (· * qScale) (congrArg₂ (· + ·) rfl (congrArg (· * sinAt s _) (congrArg (qE X G W B s) (Fin.ext ?_))))
    show (l.val + 512 - 16) % 512 / 128 * 96 + (l.val + 512 - 16) % 512 % 128 = l.val / 128 * 96 + (l.val % 128 - 16)
    omega
  · have e : ∀ T, tileQ T (ix2 s l) = T (ix2 s ⟨96 + (⟨l.val % 128 - 96, by omega⟩ : Fin 32).val, by omega⟩) :=
      fun T => lane T s l _ (by show _ = 96 + (l.val % 128 - 96); omega)
    rw [e, e, e, catQ3, catQ3, catQ3, fillD_zero, mul_zero, mul_zero, add_zero, add_zero, dif_neg h2, dif_neg h2, zero_mul, zero_mul]

theorem kvRow_of (hy : ∀ d : Fin 256, y (ix3 0 r d) = X (ix3 B s ⟨1280 + d.val, by omega⟩)) (hu : u = kvnT U) (k : Fin 128) :
    kvRow y u r k = kvE X U B s k := by
  subst hu
  unfold kvRow
  simp only [hy, kvnT_at]
  rfl

theorem krRow_of (hy : ∀ d : Fin 256, y (ix3 0 r d) = X (ix3 B s ⟨1280 + d.val, by omega⟩))
    (hd : ∀ l, d (ix2 r l) = tileK (catK (fillA' 0x3F800000#32) cosT cosT (fillD' 0x3F800000#32)) (ix2 s l))
    (he : ∀ l, e (ix2 r l) = tileK (catK (fillA' 0x00000000#32) negT zeroT (fillD' 0x00000000#32)) (ix2 s l))
    (hf : ∀ l, f (ix2 r l) = tileK (catK (fillA' 0x00000000#32) zeroT sinT (fillD' 0x00000000#32)) (ix2 s l)) (j : Fin 32) :
    krRow y d e f r ⟨j.val, by omega⟩ = krE X B s j := by
  unfold krRow
  rw [hd, he, hf, hy, hy, hy]
  unfold krE
  by_cases h : j.val < 16
  · have q : ∀ T, tileK T (ix2 s ⟨j.val, by omega⟩) = T (ix2 s ⟨0 + (⟨j.val, h⟩ : Fin 16).val, by omega⟩) :=
      fun T => laneK T s _ _ (by show j.val = 0 + j.val; omega)
    rw [q, q, q, catK1, catK1, catK1, negT_at, zeroT_at, mul_zero, add_zero, mul_neg, ← sub_eq_add_neg, dif_pos h]
    refine congrArg₂ (· - ·) (congrArg (· * cosAt s _) (congrArg (fun z => X (ix3 B s z)) (Fin.ext ?_)))
      (congrArg (· * sinAt s _) (congrArg (fun z => X (ix3 B s z)) (Fin.ext ?_)))
    · show 1280 + (128 + j.val) = 1408 + j.val; omega
    · show 1280 + (128 + (j.val + 128 - 112) % 128) = 1408 + (j.val + 16); omega
  · have q : ∀ T, tileK T (ix2 s ⟨j.val, by omega⟩) = T (ix2 s ⟨16 + (⟨j.val - 16, by omega⟩ : Fin 16).val, by omega⟩) :=
      fun T => laneK T s _ _ (by show j.val = 16 + (j.val - 16); omega)
    rw [q, q, q, catK2, catK2, catK2, zeroT_at, mul_zero, add_zero, dif_neg h]
    refine congrArg₂ (· + ·) (congrArg (· * cosAt s _) (congrArg (fun z => X (ix3 B s z)) (Fin.ext ?_)))
      (congrArg (· * sinAt s _) (congrArg (fun z => X (ix3 B s z)) (Fin.ext ?_)))
    · show 1280 + (128 + j.val) = 1408 + j.val; omega
    · show 1280 + (128 + (j.val + 128 - 16) % 128) = 1408 + (j.val - 16); omega

theorem k_of (hy : ∀ d : Fin 256, y (ix3 0 r d) = X (ix3 B s ⟨1280 + d.val, by omega⟩)) (hu : u = kvnT U) (hk : wk = wkT KV) (hp : pl = placeT)
    (hd : ∀ l, d (ix2 r l) = tileK (catK (fillA' 0x3F800000#32) cosT cosT (fillD' 0x3F800000#32)) (ix2 s l))
    (he : ∀ l, e (ix2 r l) = tileK (catK (fillA' 0x00000000#32) negT zeroT (fillD' 0x00000000#32)) (ix2 s l))
    (hf : ∀ l, f (ix2 r l) = tileK (catK (fillA' 0x00000000#32) zeroT sinT (fillD' 0x00000000#32)) (ix2 s l)) (l : Fin 512) :
    out0_15 (F := Ideal) x y g u w wk wv pl a b c d e f (ix3 0 r l) = kOut X U KV B s l := by
  rw [out15_at]
  subst hk hp
  simp only [wkT_at, placeT_at, kvRow_of y u X U B s r hy hu]
  unfold kOut
  by_cases h0 : l.val % 128 < 64
  · have z : (∑ k : Fin 128, krRow y d e f r k * (if l.val % 128 = k.val + 64 ∧ k.val < 32 then 1 else 0)) = 0 :=
      Finset.sum_eq_zero fun k _ => by rw [if_neg (by omega), mul_zero]
    rw [z, add_zero, if_pos h0]
    simp only [if_pos h0]
  rw [if_neg h0]
  have z : (∑ k : Fin 128, kvE X U B s k * (if l.val % 128 < 64 then KV (ix3 0 k l) else 0)) = 0 :=
    Finset.sum_eq_zero fun k _ => by rw [if_neg h0, mul_zero]
  rw [z, zero_add]
  by_cases h1 : l.val % 128 < 96
  · rw [dif_pos h1]
    refine (Finset.sum_eq_single (⟨l.val % 128 - 64, by omega⟩ : Fin 128) (fun k _ hne => ?_) fun h => absurd (Finset.mem_univ _) h).trans ?_
    · rw [if_neg (fun hh => hne (Fin.ext (by show k.val = l.val % 128 - 64; omega))), mul_zero]
    · rw [if_pos (show l.val % 128 = (l.val % 128 - 64) + 64 ∧ l.val % 128 - 64 < 32 by omega), mul_one]
      exact krRow_of y d e f X B s r hy hd he hf ⟨l.val % 128 - 64, by omega⟩
  · rw [dif_neg h1]
    exact Finset.sum_eq_zero fun k _ => by rw [if_neg (by omega), mul_zero]

theorem v_of (hy : ∀ d : Fin 256, y (ix3 0 r d) = X (ix3 B s ⟨1280 + d.val, by omega⟩)) (hu : u = kvnT U) (hv : wv = wvT KV) (l : Fin 512) :
    out0_16 (F := Ideal) x y g u w wk wv pl a b c d e f (ix3 0 r l) = vOut X U KV B s l := by
  rw [out16_at]
  subst hv
  simp only [wvT_at, kvRow_of y u X U B s r hy hu]
  unfold vOut
  by_cases h0 : l.val % 128 < 64
  · rw [if_pos h0, dif_pos h0]
    simp only [dif_pos h0]
  · rw [if_neg h0, dif_neg h0]

end rows

end Cert.PrepIdeal.Step

end
-- ==== Proof.PrepClaim.lean ====
/-
The preparation of the latent attention: the three arrays the call leaves, entry by entry.
-/
module

public import proofs.«01_k».proof.Proof.PrepOut
public import proofs.«01_k».proof.Proof.Gen.PrepRefIdeal.Run

@[expose] public section

set_option maxRecDepth 16384

noncomputable section

namespace Cert.PrepIdeal.Step

open Cert.PrepIdeal Cert.PrepIdeal.Gen Idealize.ShloMosaic Idealize.ShloMosaic.TcCoe Idealize.SL.Sem

variable (m : (ℓ : Loc nD τ sig) → Buf (Elt Ideal) ℓ) (c : Dev nD)

theorem lt_N (t : Fin cfg0.N) : t.val < 32 := lt_of_lt_of_eq t.isLt N_0

theorem idx0 : ∀ t : Fin cfg0.N, win0_0.index t = ![t.val / 8, t.val % 8, 4] := (by decide +kernel : ∀ t : Fin grid0.N, _)
theorem idx1 : ∀ t : Fin cfg0.N, win0_1.index t = ![t.val / 8, t.val % 8, 5] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val % 8, 0] := (by decide +kernel : ∀ t : Fin grid0.N, _)
theorem idx9 : ∀ t : Fin cfg0.N, win0_9.index t = ![t.val % 8, 0] := (by decide +kernel : ∀ t : Fin grid0.N, _)
theorem idx10 : ∀ t : Fin cfg0.N, win0_10.index t = ![t.val % 8, 0] := (by decide +kernel : ∀ t : Fin grid0.N, _)
theorem idx11 : ∀ t : Fin cfg0.N, win0_11.index t = ![t.val % 8, 0] := (by decide +kernel : ∀ t : Fin grid0.N, _)
theorem idx12 : ∀ t : Fin cfg0.N, win0_12.index t = ![t.val % 8, 0] := (by decide +kernel : ∀ t : Fin grid0.N, _)
theorem idx13 : ∀ t : Fin cfg0.N, win0_13.index t = ![t.val % 8, 0] := (by decide +kernel : ∀ t : Fin grid0.N, _)
theorem idx14 : ∀ t : Fin cfg0.N, win0_14.index t = ![t.val / 8, t.val % 8, 0] := (by decide +kernel : ∀ t : Fin grid0.N, _)
theorem idx15 : ∀ t : Fin cfg0.N, win0_15.index t = ![t.val / 8, t.val % 8, 0] := (by decide +kernel : ∀ t : Fin grid0.N, _)
theorem idx16 : ∀ t : Fin cfg0.N, win0_16.index t = ![t.val / 8, t.val % 8, 0] := (by decide +kernel : ∀ t : Fin grid0.N, _)

theorem x_at (t : Fin cfg0.N) (r : Fin 512) (d : Fin 256) :
    (iblk m c 0 t : FVec Ideal S1x512x256 .f32) (ix3 0 r d)
      = xArr m c (ix3 ⟨t.val / 8, by have := lt_N t; omega⟩ ⟨t.val % 8 * 512 + r.val, by omega⟩ ⟨1024 + d.val, by omega⟩) := by
  have h : (iblk m c 0 t : FVec Ideal S1x512x256 .f32) (ix3 0 r d) = (V m c main_arg0 : FVec Ideal S4x4096x3584 .f32)
      (ix3 ⟨t.val / 8, by have := lt_N t; omega⟩ ⟨t.val % 8 * 512 + r.val, by omega⟩ ⟨1024 + d.val, by omega⟩) := by
    refine congrArg (V m c main_arg0 : FVec Ideal S4x4096x3584 .f32) ?_
    funext a
    match a with
    | ⟨0, _⟩ => refine Fin.ext ?_; blk_simp [idx0 t]; rfl
    | ⟨1, _⟩ => refine Fin.ext ?_; blk_simp [idx0 t]
    | ⟨2, _⟩ => refine Fin.ext ?_; blk_simp [idx0 t]
  exact h.trans (congrFun (V_main_arg0 m c) _)

theorem y_at (t : Fin cfg0.N) (r : Fin 512) (d : Fin 256) :
    (iblk m c 1 t : FVec Ideal S1x512x256 .f32) (ix3 0 r d)
      = xArr m c (ix3 ⟨t.val / 8, by have := lt_N t; omega⟩ ⟨t.val % 8 * 512 + r.val, by omega⟩ ⟨1280 + d.val, by omega⟩) := by
  have h : (iblk m c 1 t : FVec Ideal S1x512x256 .f32) (ix3 0 r d) = (V m c main_arg0 : FVec Ideal S4x4096x3584 .f32)
      (ix3 ⟨t.val / 8, by have := lt_N t; omega⟩ ⟨t.val % 8 * 512 + r.val, by omega⟩ ⟨1280 + d.val, by omega⟩) := by
    refine congrArg (V m c main_arg0 : FVec Ideal S4x4096x3584 .f32) ?_
    funext a
    match a with
    | ⟨0, _⟩ => refine Fin.ext ?_; blk_simp [idx1 t]; rfl
    | ⟨1, _⟩ => refine Fin.ext ?_; blk_simp [idx1 t]
    | ⟨2, _⟩ => refine Fin.ext ?_; blk_simp [idx1 t]
  exact h.trans (congrFun (V_main_arg0 m c) _)

theorem g_at (t : Fin cfg0.N) : (iblk m c 2 t : FVec Ideal S1x256 .f32) = qnT (gArr m c) := by
  have h : (iblk m c 2 t : FVec Ideal S1x256 .f32) = (V m c main_v112 : FVec Ideal S1x256 .f32) := by
    funext z
    refine congrArg (V m c main_v112 : FVec Ideal S1x256 .f32) ?_
    funext a
    match a with
    | ⟨0, _⟩ => refine Fin.ext ?_; blk_simp [idx2 t]
    | ⟨1, _⟩ => refine Fin.ext ?_; blk_simp [idx2 t]
  exact h.trans (V_g m c)

theorem u_at (t : Fin cfg0.N) : (iblk m c 3 t : FVec Ideal S1x128 .f32) = kvnT (uArr m c) := by
  have h : (iblk m c 3 t : FVec Ideal S1x128 .f32) = (V m c main_v113 : FVec Ideal S1x128 .f32) := by
    funext z
    refine congrArg (V m c main_v113 : FVec Ideal S1x128 .f32) ?_
    funext a
    match a with
    | ⟨0, _⟩ => refine Fin.ext ?_; blk_simp [idx3 t]
    | ⟨1, _⟩ => refine Fin.ext ?_; blk_simp [idx3 t]
  exact h.trans (V_u m c)

theorem w_at (t : Fin cfg0.N) : (iblk m c 4 t : FVec Ideal S256x512 .bf16) = wqT (wArr m c) := by
  have h : (iblk m c 4 t : FVec Ideal S256x512 .bf16) = (V m c main_v109 : FVec Ideal S256x512 .bf16) := by
    funext z
    refine congrArg (V m c main_v109 : FVec Ideal S256x512 .bf16) ?_
    funext a
    match a with
    | ⟨0, _⟩ => refine Fin.ext ?_; blk_simp [idx4 t]
    | ⟨1, _⟩ => refine Fin.ext ?_; blk_simp [idx4 t]
  exact h.trans (V_w m c)

theorem wk_at (t : Fin cfg0.N) : (iblk m c 5 t : FVec Ideal S128x512 .bf16) = wkT (kvArr m c) := by
  have h : (iblk m c 5 t : FVec Ideal S128x512 .bf16) = (V m c main_v110 : FVec Ideal S128x512 .bf16) := by
    funext z
    refine congrArg (V m c main_v110 : FVec Ideal S128x512 .bf16) ?_
    funext a
    match a with
    | ⟨0, _⟩ => refine Fin.ext ?_; blk_simp [idx5 t]
    | ⟨1, _⟩ => refine Fin.ext ?_; blk_simp [idx5 t]
  exact h.trans (V_wk m c)

theorem wv_at (t : Fin cfg0.N) : (iblk m c 6 t : FVec Ideal S128x512 .bf16) = wvT (kvArr m c) := by
  have h : (iblk m c 6 t : FVec Ideal S128x512 .bf16) = (V m c main_v111 : FVec Ideal S128x512 .bf16) := by
    funext z
    refine congrArg (V m c main_v111 : FVec Ideal S128x512 .bf16) ?_
    funext a
    match a with
    | ⟨0, _⟩ => refine Fin.ext ?_; blk_simp [idx6 t]
    | ⟨1, _⟩ => refine Fin.ext ?_; blk_simp [idx6 t]
  exact h.trans (V_wv m c)

theorem p_at (t : Fin cfg0.N) : (iblk m c 7 t : FVec Ideal S128x512 .bf16) = placeT := by
  have h : (iblk m c 7 t : FVec Ideal S128x512 .bf16) = (V m c main_v108 : FVec Ideal S128x512 .bf16) := by
    funext z
    refine congrArg (V m c main_v108 : FVec Ideal S128x512 .bf16) ?_
    funext a
    match a with
    | ⟨0, _⟩ => refine Fin.ext ?_; blk_simp [idx7 t]
    | ⟨1, _⟩ => refine Fin.ext ?_; blk_simp [idx7 t]
  exact h.trans (V_p m c)

theorem qc_at (t : Fin cfg0.N) (r : Fin 512) (l : Fin 512) :
    (iblk m c 8 t : FVec Ideal S512x512 .f32) (ix2 r l) = tileQ (catQ (fillA 0x3F800000#32) cosT cosT (fillD 0x3F800000#32)) (ix2 ⟨t.val % 8 * 512 + r.val, by omega⟩ l) := by
  have h : (iblk m c 8 t : FVec Ideal S512x512 .f32) (ix2 r l) = (V m c main_v30 : FVec Ideal S4096x512 .f32) (ix2 ⟨t.val % 8 * 512 + r.val, by omega⟩ l) := by
    refine congrArg (V m c main_v30 : FVec Ideal S4096x512 .f32) ?_
    funext a
    match a with
    | ⟨0, _⟩ => refine Fin.ext ?_; blk_simp [idx8 t]
    | ⟨1, _⟩ => refine Fin.ext ?_; blk_simp [idx8 t]
  exact h.trans (congrFun (V_qc m c) _)

theorem q1_at (t : Fin cfg0.N) (r : Fin 512) (l : Fin 512) :
    (iblk m c 9 t : FVec Ideal S512x512 .f32) (ix2 r l) = tileQ (catQ (fillA 0x00000000#32) negT zeroT (fillD 0x00000000#32)) (ix2 ⟨t.val % 8 * 512 + r.val, by omega⟩ l) := by
  have h : (iblk m c 9 t : FVec Ideal S512x512 .f32) (ix2 r l) = (V m c main_v33 : FVec Ideal S4096x512 .f32) (ix2 ⟨t.val % 8 * 512 + r.val, by omega⟩ l) := by
    refine congrArg (V m c main_v33 : FVec Ideal S4096x512 .f32) ?_
    funext a
    match a with
    | ⟨0, _⟩ => refine Fin.ext ?_; blk_simp [idx9 t]
    | ⟨1, _⟩ => refine Fin.ext ?_; blk_simp [idx9 t]
  exact h.trans (congrFun (V_q1 m c) _)

theorem q2_at (t : Fin cfg0.N) (r : Fin 512) (l : Fin 512) :
    (iblk m c 10 t : FVec Ideal S512x512 .f32) (ix2 r l) = tileQ (catQ (fillA 0x00000000#32) zeroT sinT (fillD 0x00000000#32)) (ix2 ⟨t.val % 8 * 512 + r.val, by omega⟩ l) := by
  have h : (iblk m c 10 t : FVec Ideal S512x512 .f32) (ix2 r l) = (V m c main_v36 : FVec Ideal S4096x512 .f32) (ix2 ⟨t.val % 8 * 512 + r.val, by omega⟩ l) := by
    refine congrArg (V m c main_v36 : FVec Ideal S4096x512 .f32) ?_
    funext a
    match a with
    | ⟨0, _⟩ => refine Fin.ext ?_; blk_simp [idx10 t]
    | ⟨1, _⟩ => refine Fin.ext ?_; blk_simp [idx10 t]
  exact h.trans (congrFun (V_q2 m c) _)

theorem kc_at (t : Fin cfg0.N) (r : Fin 512) (l : Fin 128) :
    (iblk m c 11 t : FVec Ideal S512x128 .f32) (ix2 r l) = tileK (catK (fillA' 0x3F800000#32) cosT cosT (fillD' 0x3F800000#32)) (ix2 ⟨t.val % 8 * 512 + r.val, by omega⟩ l) := by
  have h : (iblk m c 11 t : FVec Ideal S512x128 .f32) (ix2 r l) = (V m c main_v67 : FVec Ideal S4096x128 .f32) (ix2 ⟨t.val % 8 * 512 + r.val, by omega⟩ l) := by
    refine congrArg (V m c main_v67 : FVec Ideal S4096x128 .f32) ?_
    funext a
    match a with
    | ⟨0, _⟩ => refine Fin.ext ?_; blk_simp [idx11 t]
    | ⟨1, _⟩ => refine Fin.ext ?_; blk_simp [idx11 t]
  exact h.trans (congrFun (V_kc m c) _)

theorem k1_at (t : Fin cfg0.N) (r : Fin 512) (l : Fin 128) :
    (iblk m c 12 t : FVec Ideal S512x128 .f32) (ix2 r l) = tileK (catK (fillA' 0x00000000#32) negT zeroT (fillD' 0x00000000#32)) (ix2 ⟨t.val % 8 * 512 + r.val, by omega⟩ l) := by
  have h : (iblk m c 12 t : FVec Ideal S512x128 .f32) (ix2 r l) = (V m c main_v70 : FVec Ideal S4096x128 .f32) (ix2 ⟨t.val % 8 * 512 + r.val, by omega⟩ l) := by
    refine congrArg (V m c main_v70 : FVec Ideal S4096x128 .f32) ?_
    funext a
    match a with
    | ⟨0, _⟩ => refine Fin.ext ?_; blk_simp [idx12 t]
    | ⟨1, _⟩ => refine Fin.ext ?_; blk_simp [idx12 t]
  exact h.trans (congrFun (V_k1 m c) _)

theorem k2_at (t : Fin cfg0.N) (r : Fin 512) (l : Fin 128) :
    (iblk m c 13 t : FVec Ideal S512x128 .f32) (ix2 r l) = tileK (catK (fillA' 0x00000000#32) zeroT sinT (fillD' 0x00000000#32)) (ix2 ⟨t.val % 8 * 512 + r.val, by omega⟩ l) := by
  have h : (iblk m c 13 t : FVec Ideal S512x128 .f32) (ix2 r l) = (V m c main_v73 : FVec Ideal S4096x128 .f32) (ix2 ⟨t.val % 8 * 512 + r.val, by omega⟩ l) := by
    refine congrArg (V m c main_v73 : FVec Ideal S4096x128 .f32) ?_
    funext a
    match a with
    | ⟨0, _⟩ => refine Fin.ext ?_; blk_simp [idx13 t]
    | ⟨1, _⟩ => refine Fin.ext ?_; blk_simp [idx13 t]
  exact h.trans (congrFun (V_k2 m c) _)

theorem same_place (f : Fin 4 → Fin 4096 → Fin 512 → EReal) {b b' : Fin 4} {s s' : Fin 4096} {l l' : Fin 512} (hb : b = b') (hs : s = s')
    (hl : l = l') : f b s l = f b' s' l' := by
  subst hb hs hl
  rfl

theorem visit14_at (t : Fin cfg0.N) (r l : Fin 512) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 r l)
      = qOut (xArr m c) (gArr m c) (wArr m c) ⟨t.val / 8, by have := lt_N t; omega⟩ ⟨t.val % 8 * 512 + r.val, by omega⟩ l :=
  q_of (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ _ _ _ r (x_at m c t r) (g_at m c t) (w_at m c t) (qc_at m c t r) (q1_at m c t r) (q2_at m c t r) l

theorem final14 : (dats m 0 c).arrAt 14 (cfgs 0).N = fun i : S4x4096x512.Idx => qOut (xArr m c) (gArr m c) (wArr m c) (i 0) (i 1) (i 2) := by
  refine (dats m 0 c).arrAt_eq_of_covers 14 _ (by decide +kernel) fun t hfl y => ?_
  blk_simp
  rw [after0_14]
  have h0 : (y 0).val = 0 := by
    have : (y 0).val < 1 := (y 0).isLt
    omega
  have hy : y = ix3 0 (y 1) (y 2) := by
    funext a
    match a with
    | ⟨0, _⟩ => exact Fin.ext h0
    | ⟨1, _⟩ => rfl
    | ⟨2, _⟩ => rfl
  refine (congrArg (out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) hy).trans ?_
  refine (visit14_at m c t (y 1) (y 2)).trans ?_
  refine same_place (qOut (xArr m c) (gArr m c) (wArr m c)) (Fin.ext ?_) (Fin.ext ?_) (Fin.ext ?_)
  all_goals blk_simp [idx14 t]
  all_goals omega

theorem visit15_at (t : Fin cfg0.N) (r l : Fin 512) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 r l)
      = kOut (xArr m c) (uArr m c) (kvArr m c) ⟨t.val / 8, by have := lt_N t; omega⟩ ⟨t.val % 8 * 512 + r.val, by omega⟩ l :=
  k_of (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ _ _ _ r (y_at m c t r) (u_at m c t) (wk_at m c t) (p_at m c t) (kc_at m c t r) (k1_at m c t r) (k2_at m c t r) l

theorem final15 : (dats m 0 c).arrAt 15 (cfgs 0).N = fun i : S4x4096x512.Idx => kOut (xArr m c) (uArr m c) (kvArr m c) (i 0) (i 1) (i 2) := by
  refine (dats m 0 c).arrAt_eq_of_covers 15 _ (by decide +kernel) fun t hfl y => ?_
  blk_simp
  rw [after0_15]
  have h0 : (y 0).val = 0 := by
    have : (y 0).val < 1 := (y 0).isLt
    omega
  have hy : y = ix3 0 (y 1) (y 2) := by
    funext a
    match a with
    | ⟨0, _⟩ => exact Fin.ext h0
    | ⟨1, _⟩ => rfl
    | ⟨2, _⟩ => rfl
  refine (congrArg (out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) hy).trans ?_
  refine (visit15_at m c t (y 1) (y 2)).trans ?_
  refine same_place (kOut (xArr m c) (uArr m c) (kvArr m c)) (Fin.ext ?_) (Fin.ext ?_) (Fin.ext ?_)
  all_goals blk_simp [idx15 t]
  all_goals omega

theorem visit16_at (t : Fin cfg0.N) (r l : Fin 512) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 r l)
      = vOut (xArr m c) (uArr m c) (kvArr m c) ⟨t.val / 8, by have := lt_N t; omega⟩ ⟨t.val % 8 * 512 + r.val, by omega⟩ l :=
  v_of (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ _ _ _ r (y_at m c t r) (u_at m c t) (wv_at m c t) l

theorem final16 : (dats m 0 c).arrAt 16 (cfgs 0).N = fun i : S4x4096x512.Idx => vOut (xArr m c) (uArr m c) (kvArr m c) (i 0) (i 1) (i 2) := by
  refine (dats m 0 c).arrAt_eq_of_covers 16 _ (by decide +kernel) fun t hfl y => ?_
  blk_simp
  rw [after0_16]
  have h0 : (y 0).val = 0 := by
    have : (y 0).val < 1 := (y 0).isLt
    omega
  have hy : y = ix3 0 (y 1) (y 2) := by
    funext a
    match a with
    | ⟨0, _⟩ => exact Fin.ext h0
    | ⟨1, _⟩ => rfl
    | ⟨2, _⟩ => rfl
  refine (congrArg (out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) hy).trans ?_
  refine (visit16_at m c t (y 1) (y 2)).trans ?_
  refine same_place (vOut (xArr m c) (uArr m c) (kvArr m c)) (Fin.ext ?_) (Fin.ext ?_) (Fin.ext ?_)
  all_goals blk_simp [idx16 t]
  all_goals omega

end Cert.PrepIdeal.Step

end
-- ==== Proof.PrepRef.lean ====
/-
The reference of the latent attention's preparation, entry by entry: its queries, keys and values are those the call leaves.
-/
module

public import proofs.«01_k».proof.Proof.PrepClaim

@[expose] public section

set_option maxRecDepth 16384

noncomputable section

namespace Cert.PrepRefIdeal.Own

open Cert.PrepRefIdeal Cert.PrepRefIdeal.Gen Idealize.ShloMosaic Idealize.SL.Sem
open Cert.PrepIdeal.Step (rmsOf n256 n128 cosAt sinAt qE kvE krE qOut kOut vOut qScale)

/-- The angles of the rotation. -/
def ang : FVec Ideal S4096x16 .f32 :=
  mulf (broadcastInDim S4096x16 ![0, 1] bcast_S4096x1_S4096x16_0_1 (broadcastInDim S4096x1 ![0] bcast_S4096_S4096x1_0 (sitofp .f32 (iotaInDim S4096 32 0))))
    (broadcastInDim S4096x16 ![0, 1] bcast_S1x16_S4096x16_0_1 (broadcastInDim S1x16 ![1] bcast_S16_S1x16_1
      (Host.divf (broadcastInDim S16 ![] bcast_S_S16 (constant S_ .f32 0x3F800000#32))
        (Host.powf (broadcastInDim S16 ![] bcast_S_S16 (constant S_ .f32 0x48F42400#32))
          (Host.divf (addf (broadcastInDim S16 ![] bcast_S_S16 (constant S_ .f32 0x00000000#32))
              (mulf (broadcastInDim S16 ![] bcast_S_S16 (constant S_ .f32 0x40000000#32)) (sitofp .f32 (iotaInDim S16 32 0))))
            (broadcastInDim S16 ![] bcast_S_S16 (constant S_ .f32 0x42000000#32)))))))

def cosR : FVec Ideal S4096x16 .f32 := Host.cos ang
def sinR : FVec Ideal S4096x16 .f32 := Host.sin ang

theorem ang_eq : ang = Cert.PrepIdeal.Step.angT := rfl

theorem cosR_at (p : Fin 4096) (i : Fin 16) : cosR (ix2 p i) = cosAt p i := by
  show Host.cos ang (ix2 p i) = Host.cos Cert.PrepIdeal.Step.angT (ix2 p i)
  rw [ang_eq]
theorem sinR_at (p : Fin 4096) (i : Fin 16) : sinR (ix2 p i) = sinAt p i := by
  show Host.sin ang (ix2 p i) = Host.sin Cert.PrepIdeal.Step.angT (ix2 p i)
  rw [ang_eq]

/-- The queries' normalized latent. -/
def qN (X : FVec Ideal S4x4096x3584 .f32) (G : FVec Ideal S2x256 .f32) : FVec Ideal S4x4096x256 .f32 :=
  mulf (mulf (extractStridedSlice S4x4096x256 ![0, 0, 1024] X slices_S4x4096x3584_S4x4096x256_0_0_1024) (broadcastInDim S4x4096x256 ![0, 1, 2] bcast_S4x4096x1_S4x4096x256_0_1_2 (Host.rsqrt (addf (Host.divf (broadcastInDim S4x4096x1 ![0, 1] bcast_S4x4096_S4x4096x1_0_1 (Host.reduceAdd (mulf (extractStridedSlice S4x4096x256 ![0, 0, 1024] X slices_S4x4096x3584_S4x4096x256_0_0_1024) (extractStridedSlice S4x4096x256 ![0, 0, 1024] X slices_S4x4096x3584_S4x4096x256_0_0_1024)) (constant S_ .f32 0x00000000#32) reducesTo_S4x4096x256_S4x4096_d2 h_S_)) (broadcastInDim S4x4096x1 ![] bcast_S_S4x4096x1 (constant S_ .f32 0x43800000#32))) (broadcastInDim S4x4096x1 ![] bcast_S_S4x4096x1 (constant S_ .f32 0x358637BD#32)))))) (broadcastInDim S4x4096x256 ![0, 1, 2] bcast_S1x1x256_S4x4096x256_0_1_2 (broadcastInDim S1x1x256 ![2] bcast_S256_S1x1x256_2 (shapeCast _ (extractStridedSlice S1x256 ![0, 0] G slices_S2x256_S1x256_0_0) shapeCasts_S1x256_S256)))

/-- The queries by head. -/
def qH (X : FVec Ideal S4x4096x3584 .f32) (G : FVec Ideal S2x256 .f32) (W : FVec Ideal S2x256x384 .f32) : FVec Ideal S4x4x4096x96 .f32 :=
  transpose S4x4x4096x96 [0, 2, 1, 3] (shapeCast _ (Host.dotGeneral dot_S4x4096x256_S256x384_S4x4096x384_2_0_01_1_n_n none (qN X G) (shapeCast _ (extractStridedSlice S1x256x384 ![0, 0, 0] W slices_S2x256x384_S1x256x384_0_0_0) shapeCasts_S1x256x384_S256x384)) shapeCasts_S4x4096x384_S4x4096x4x96) transposes_S4x4096x4x96_S4x4x4096x96_0_2_1_3

/-- Three groups of columns side by side. -/
def cat3 (A B : FVec Ideal S4x4x4096x16 .f32) (C : FVec Ideal S4x4x4096x0 .f32) : FVec Ideal S4x4x4096x32 .f32 :=
  concatenate S4x4x4096x32 3 [⟨S4x4x4096x16, A⟩, ⟨S4x4x4096x16, B⟩, ⟨S4x4x4096x0, C⟩] concatenates_S4x4x4096x16_S4x4x4096x16_S4x4x4096x0_S4x4x4096x32_d3

/-- The rotation of the queries' last 32 columns: the first and the second half. -/
def qRot1 (R : FVec Ideal S4x4x4096x32 .f32) : FVec Ideal S4x4x4096x16 .f32 :=
  subf (mulf (extractStridedSlice S4x4x4096x16 ![0, 0, 0, 0] R slices_S4x4x4096x32_S4x4x4096x16_0_0_0_0) (broadcastInDim S4x4x4096x16 ![0, 1, 2, 3] bcast_S1x1x4096x16_S4x4x4096x16_0_1_2_3 (broadcastInDim S1x1x4096x16 ![2, 3] bcast_S4096x16_S1x1x4096x16_2_3 cosR))) (mulf (extractStridedSlice S4x4x4096x16 ![0, 0, 0, 16] R slices_S4x4x4096x32_S4x4x4096x16_0_0_0_16) (broadcastInDim S4x4x4096x16 ![0, 1, 2, 3] bcast_S1x1x4096x16_S4x4x4096x16_0_1_2_3 (broadcastInDim S1x1x4096x16 ![2, 3] bcast_S4096x16_S1x1x4096x16_2_3 sinR)))

def qRot2 (R : FVec Ideal S4x4x4096x32 .f32) : FVec Ideal S4x4x4096x16 .f32 :=
  addf (mulf (extractStridedSlice S4x4x4096x16 ![0, 0, 0, 16] R slices_S4x4x4096x32_S4x4x4096x16_0_0_0_16) (broadcastInDim S4x4x4096x16 ![0, 1, 2, 3] bcast_S1x1x4096x16_S4x4x4096x16_0_1_2_3 (broadcastInDim S1x1x4096x16 ![2, 3] bcast_S4096x16_S1x1x4096x16_2_3 cosR))) (mulf (extractStridedSlice S4x4x4096x16 ![0, 0, 0, 0] R slices_S4x4x4096x32_S4x4x4096x16_0_0_0_0) (broadcastInDim S4x4x4096x16 ![0, 1, 2, 3] bcast_S1x1x4096x16_S4x4x4096x16_0_1_2_3 (broadcastInDim S1x1x4096x16 ![2, 3] bcast_S4096x16_S1x1x4096x16_2_3 sinR)))

def qRot (R : FVec Ideal S4x4x4096x32 .f32) : FVec Ideal S4x4x4096x32 .f32 :=
  cat3 (qRot1 R) (qRot2 R) (extractStridedSlice S4x4x4096x0 ![0, 0, 0, 32] R slices_S4x4x4096x32_S4x4x4096x0_0_0_0_32)

/-- The queries laid out. -/
def qLay (N : FVec Ideal S4x4x4096x64 .f32) (R : FVec Ideal S4x4x4096x32 .f32) : FVec Ideal S4x4096x512 .bf16 :=
  truncf .bf16 (shapeCast S4x4096x512 (transpose S4x4096x4x128 [0, 2, 1, 3] (concatenate S4x4x4096x128 3 [⟨S4x4x4096x96, (mulf (concatenate S4x4x4096x96 3 [⟨S4x4x4096x64, N⟩, ⟨S4x4x4096x32, R⟩] concatenates_S4x4x4096x64_S4x4x4096x32_S4x4x4096x96_d3) (broadcastInDim S4x4x4096x96 ![] bcast_S_S4x4x4096x96 (constant S_ .f32 0x3E16C740#32)))⟩, ⟨S4x4x4096x32, (broadcastInDim S4x4x4096x32 ![] bcast_S_S4x4x4096x32 (constant S_ .f32 0x00000000#32))⟩] concatenates_S4x4x4096x96_S4x4x4096x32_S4x4x4096x128_d3) transposes_S4x4x4096x128_S4x4096x4x128_0_2_1_3) shapeCasts_S4x4096x4x128_S4x4096x512) bitsLt_bf16_f32

def qT (X : FVec Ideal S4x4096x3584 .f32) (G : FVec Ideal S2x256 .f32) (W : FVec Ideal S2x256x384 .f32) : FVec Ideal S4x4096x512 .bf16 :=
  qLay (extractStridedSlice S4x4x4096x64 ![0, 0, 0, 0] (qH X G W) slices_S4x4x4096x96_S4x4x4096x64_0_0_0_0)
    (qRot (extractStridedSlice S4x4x4096x32 ![0, 0, 0, 64] (qH X G W) slices_S4x4x4096x96_S4x4x4096x32_0_0_0_64))

/-- The keys' and values' normalized latent. -/
def kvN (X : FVec Ideal S4x4096x3584 .f32) (U : FVec Ideal S2x128 .f32) : FVec Ideal S4x4096x128 .f32 :=
  mulf (mulf (extractStridedSlice S4x4096x128 ![0, 0, 1280] X slices_S4x4096x3584_S4x4096x128_0_0_1280) (broadcastInDim S4x4096x128 ![0, 1, 2] bcast_S4x4096x1_S4x4096x128_0_1_2 (Host.rsqrt (addf (Host.divf (broadcastInDim S4x4096x1 ![0, 1] bcast_S4x4096_S4x4096x1_0_1 (Host.reduceAdd (mulf (extractStridedSlice S4x4096x128 ![0, 0, 1280] X slices_S4x4096x3584_S4x4096x128_0_0_1280) (extractStridedSlice S4x4096x128 ![0, 0, 1280] X slices_S4x4096x3584_S4x4096x128_0_0_1280)) (constant S_ .f32 0x00000000#32) reducesTo_S4x4096x128_S4x4096_d2 h_S_)) (broadcastInDim S4x4096x1 ![] bcast_S_S4x4096x1 (constant S_ .f32 0x43000000#32))) (broadcastInDim S4x4096x1 ![] bcast_S_S4x4096x1 (constant S_ .f32 0x358637BD#32)))))) (broadcastInDim S4x4096x128 ![0, 1, 2] bcast_S1x1x128_S4x4096x128_0_1_2 (broadcastInDim S1x1x128 ![2] bcast_S128_S1x1x128_2 (shapeCast _ (extractStridedSlice S1x128 ![0, 0] U slices_S2x128_S1x128_0_0) shapeCasts_S1x128_S128)))

/-- The keys and values by head. -/
def kvH (X : FVec Ideal S4x4096x3584 .f32) (U : FVec Ideal S2x128 .f32) (W : FVec Ideal S2x128x512 .f32) : FVec Ideal S4x4x4096x128 .f32 :=
  transpose S4x4x4096x128 [0, 2, 1, 3] (shapeCast _ (Host.dotGeneral dot_S4x4096x128_S128x512_S4x4096x512_2_0_01_1_n_n none (kvN X U) (shapeCast _ (extractStridedSlice S1x128x512 ![0, 0, 0] W slices_S2x128x512_S1x128x512_0_0_0) shapeCasts_S1x128x512_S128x512)) shapeCasts_S4x4096x512_S4x4096x4x128) transposes_S4x4096x4x128_S4x4x4096x128_0_2_1_3

/-- The shared part of the keys. -/
def kS (X : FVec Ideal S4x4096x3584 .f32) : FVec Ideal S4x1x4096x32 .f32 :=
  broadcastInDim S4x1x4096x32 ![0, 2, 3] bcast_S4x4096x32_S4x1x4096x32_0_2_3 (extractStridedSlice S4x4096x32 ![0, 0, 1408] X slices_S4x4096x3584_S4x4096x32_0_0_1408)

def cat3k (A B : FVec Ideal S4x1x4096x16 .f32) (C : FVec Ideal S4x1x4096x0 .f32) : FVec Ideal S4x1x4096x32 .f32 :=
  concatenate S4x1x4096x32 3 [⟨S4x1x4096x16, A⟩, ⟨S4x1x4096x16, B⟩, ⟨S4x1x4096x0, C⟩] concatenates_S4x1x4096x16_S4x1x4096x16_S4x1x4096x0_S4x1x4096x32_d3

def kRot1 (R : FVec Ideal S4x1x4096x32 .f32) : FVec Ideal S4x1x4096x16 .f32 :=
  subf (mulf (extractStridedSlice S4x1x4096x16 ![0, 0, 0, 0] R slices_S4x1x4096x32_S4x1x4096x16_0_0_0_0) (broadcastInDim S4x1x4096x16 ![0, 1, 2, 3] bcast_S1x1x4096x16_S4x1x4096x16_0_1_2_3 (broadcastInDim S1x1x4096x16 ![2, 3] bcast_S4096x16_S1x1x4096x16_2_3 cosR))) (mulf (extractStridedSlice S4x1x4096x16 ![0, 0, 0, 16] R slices_S4x1x4096x32_S4x1x4096x16_0_0_0_16) (broadcastInDim S4x1x4096x16 ![0, 1, 2, 3] bcast_S1x1x4096x16_S4x1x4096x16_0_1_2_3 (broadcastInDim S1x1x4096x16 ![2, 3] bcast_S4096x16_S1x1x4096x16_2_3 sinR)))

def kRot2 (R : FVec Ideal S4x1x4096x32 .f32) : FVec Ideal S4x1x4096x16 .f32 :=
  addf (mulf (extractStridedSlice S4x1x4096x16 ![0, 0, 0, 16] R slices_S4x1x4096x32_S4x1x4096x16_0_0_0_16) (broadcastInDim S4x1x4096x16 ![0, 1, 2, 3] bcast_S1x1x4096x16_S4x1x4096x16_0_1_2_3 (broadcastInDim S1x1x4096x16 ![2, 3] bcast_S4096x16_S1x1x4096x16_2_3 cosR))) (mulf (extractStridedSlice S4x1x4096x16 ![0, 0, 0, 0] R slices_S4x1x4096x32_S4x1x4096x16_0_0_0_0) (broadcastInDim S4x1x4096x16 ![0, 1, 2, 3] bcast_S1x1x4096x16_S4x1x4096x16_0_1_2_3 (broadcastInDim S1x1x4096x16 ![2, 3] bcast_S4096x16_S1x1x4096x16_2_3 sinR)))

def kRot (R : FVec Ideal S4x1x4096x32 .f32) : FVec Ideal S4x1x4096x32 .f32 :=
  cat3k (kRot1 R) (kRot2 R) (extractStridedSlice S4x1x4096x0 ![0, 0, 0, 32] R slices_S4x1x4096x32_S4x1x4096x0_0_0_0_32)

/-- The keys side by side: their own part, the shared part, zeros. -/
def catL (A : FVec Ideal S4x4x4096x64 .f32) (B C : FVec Ideal S4x4x4096x32 .f32) : FVec Ideal S4x4x4096x128 .f32 :=
  concatenate S4x4x4096x128 3 [⟨S4x4x4096x64, A⟩, ⟨S4x4x4096x32, B⟩, ⟨S4x4x4096x32, C⟩] concatenates_S4x4x4096x64_S4x4x4096x32_S4x4x4096x32_S4x4x4096x128_d3

/-- The heads side by side. -/
def lay (Y : FVec Ideal S4x4x4096x128 .f32) : FVec Ideal S4x4096x512 .bf16 :=
  truncf .bf16 (shapeCast S4x4096x512 (transpose S4x4096x4x128 [0, 2, 1, 3] Y transposes_S4x4x4096x128_S4x4096x4x128_0_2_1_3) shapeCasts_S4x4096x4x128_S4x4096x512) bitsLt_bf16_f32

def kT (X : FVec Ideal S4x4096x3584 .f32) (U : FVec Ideal S2x128 .f32) (W : FVec Ideal S2x128x512 .f32) : FVec Ideal S4x4096x512 .bf16 :=
  lay (catL (extractStridedSlice S4x4x4096x64 ![0, 0, 0, 0] (kvH X U W) slices_S4x4x4096x128_S4x4x4096x64_0_0_0_0)
    (broadcastInDim S4x4x4096x32 ![0, 1, 2, 3] bcast_S4x1x4096x32_S4x4x4096x32_0_1_2_3 (kRot (kS X)))
    (broadcastInDim S4x4x4096x32 ![] bcast_S_S4x4x4096x32 (constant S_ .f32 0x00000000#32)))

def vT (X : FVec Ideal S4x4096x3584 .f32) (U : FVec Ideal S2x128 .f32) (W : FVec Ideal S2x128x512 .f32) : FVec Ideal S4x4096x512 .bf16 :=
  lay (concatenate S4x4x4096x128 3 [⟨S4x4x4096x64, extractStridedSlice S4x4x4096x64 ![0, 0, 0, 64] (kvH X U W) slices_S4x4x4096x128_S4x4x4096x64_0_0_0_64⟩, ⟨S4x4x4096x64, (broadcastInDim S4x4x4096x64 ![] bcast_S_S4x4x4096x64 (constant S_ .f32 0x3F800000#32))⟩] concatenates_S4x4x4096x64_S4x4x4096x64_S4x4x4096x128_d3)

/-! ## What the terms are at an entry -/

theorem qN_at (X : FVec Ideal S4x4096x3584 .f32) (G : FVec Ideal S2x256 .f32) (b : Fin 4) (s : Fin 4096) (k : Fin 256) :
    qN X G (ix3 b s k) = rmsOf n256 (fun d : Fin 256 => X (ix3 b s ⟨1024 + d.val, by omega⟩)) (G (ix2 0 k)) k := by
  pointwise [qN]
  rfl

theorem kvN_at (X : FVec Ideal S4x4096x3584 .f32) (U : FVec Ideal S2x128 .f32) (b : Fin 4) (s : Fin 4096) (k : Fin 128) :
    kvN X U (ix3 b s k) = kvE X U b s k := by
  pointwise [kvN]
  rfl

theorem qH_at (X : FVec Ideal S4x4096x3584 .f32) (G : FVec Ideal S2x256 .f32) (W : FVec Ideal S2x256x384 .f32) (b h : Fin 4) (s : Fin 4096) (e : Fin 96) :
    qH X G W (ix4 b h s e) = qE X G W b s ⟨h.val * 96 + e.val, by omega⟩ := by
  unfold qE
  simp only [← qN_at]
  unfold qH
  generalize qN X G = Y
  pointwise []

theorem kvH_at (X : FVec Ideal S4x4096x3584 .f32) (U : FVec Ideal S2x128 .f32) (W : FVec Ideal S2x128x512 .f32) (b h : Fin 4) (s : Fin 4096) (e : Fin 128) :
    kvH X U W (ix4 b h s e) = ∑ k : Fin 128, kvE X U b s k * W (ix3 0 k ⟨h.val * 128 + e.val, by omega⟩) := by
  simp only [← kvN_at]
  unfold kvH
  generalize kvN X U = Y
  pointwise []

theorem qRot1_at (R : FVec Ideal S4x4x4096x32 .f32) (b h : Fin 4) (s : Fin 4096) (j : Fin 16) :
    qRot1 R (ix4 b h s j) = R (ix4 b h s ⟨j.val, by omega⟩) * cosAt s j - R (ix4 b h s ⟨16 + j.val, by omega⟩) * sinAt s j := by
  rw [← cosR_at, ← sinR_at]
  unfold qRot1
  generalize cosR = C
  generalize sinR = S
  pointwise []

theorem qRot2_at (R : FVec Ideal S4x4x4096x32 .f32) (b h : Fin 4) (s : Fin 4096) (j : Fin 16) :
    qRot2 R (ix4 b h s j) = R (ix4 b h s ⟨16 + j.val, by omega⟩) * cosAt s j + R (ix4 b h s ⟨j.val, by omega⟩) * sinAt s j := by
  rw [← cosR_at, ← sinR_at]
  unfold qRot2
  generalize cosR = C
  generalize sinR = S
  pointwise []

theorem kRot1_at (R : FVec Ideal S4x1x4096x32 .f32) (b : Fin 4) (s : Fin 4096) (j : Fin 16) :
    kRot1 R (ix4 b 0 s j) = R (ix4 b 0 s ⟨j.val, by omega⟩) * cosAt s j - R (ix4 b 0 s ⟨16 + j.val, by omega⟩) * sinAt s j := by
  rw [← cosR_at, ← sinR_at]
  unfold kRot1
  generalize cosR = C
  generalize sinR = S
  pointwise []

theorem kRot2_at (R : FVec Ideal S4x1x4096x32 .f32) (b : Fin 4) (s : Fin 4096) (j : Fin 16) :
    kRot2 R (ix4 b 0 s j) = R (ix4 b 0 s ⟨16 + j.val, by omega⟩) * cosAt s j + R (ix4 b 0 s ⟨j.val, by omega⟩) * sinAt s j := by
  rw [← cosR_at, ← sinR_at]
  unfold kRot2
  generalize cosR = C
  generalize sinR = S
  pointwise []

theorem kS_at (X : FVec Ideal S4x4096x3584 .f32) (b : Fin 4) (s : Fin 4096) (j : Fin 32) :
    kS X (ix4 b 0 s j) = X (ix3 b s ⟨1408 + j.val, by omega⟩) := by
  pointwise [kS]

theorem lay_at (Y : FVec Ideal S4x4x4096x128 .f32) (b : Fin 4) (s : Fin 4096) (l : Fin 512) :
    lay Y (ix3 b s l) = Y (ix4 b ⟨l.val / 128, by omega⟩ s ⟨l.val % 128, by omega⟩) := by
  pointwise [lay]

theorem lay_place (Y : FVec Ideal S4x4x4096x128 .f32) (b : Fin 4) (s : Fin 4096) (l : Fin 512) (d : Fin 128) (h : l.val % 128 = d.val) :
    lay Y (ix3 b s l) = Y (ix4 b ⟨l.val / 128, by omega⟩ s d) := by
  rw [lay_at]
  exact congrArg (fun z => Y (ix4 b _ s z)) (Fin.ext h)

theorem qLay_at (N : FVec Ideal S4x4x4096x64 .f32) (R : FVec Ideal S4x4x4096x32 .f32) (b : Fin 4) (s : Fin 4096) (l : Fin 512) :
    qLay N R (ix3 b s l) = if h : l.val % 128 < 96 then
      (if h' : l.val % 128 < 64 then N (ix4 b ⟨l.val / 128, by omega⟩ s ⟨l.val % 128, h'⟩)
        else R (ix4 b ⟨l.val / 128, by omega⟩ s ⟨l.val % 128 - 64, by omega⟩)) * qScale else 0 := by
  pointwise [qLay]

theorem before_cat3_0 : (((([S4x4x4096x16, S4x4x4096x16, S4x4x4096x0] : List Shape).take 0).map
    fun s => if h : s.rank = S4x4x4096x32.rank then s.size ((3 : Fin S4x4x4096x32.rank).cast h.symm) else 0)).sum = 0 := by
  decide +kernel

theorem cat3_0 (A : FVec Ideal S4x4x4096x16 .f32) (B : FVec Ideal S4x4x4096x16 .f32) (C : FVec Ideal S4x4x4096x0 .f32) (b h : Fin 4) (s : Fin 4096) (k : Fin 16) :
    cat3 A B C (ix4 b h s ⟨0 + k.val, by omega⟩) = A (ix4 b h s k) := by
  unfold cat3
  exact concatenate_apply_piece (t := S4x4x4096x32) 3 _ _ (ix4 b h s ⟨0 + k.val, by omega⟩) 0 (by exact Nat.lt_of_lt_of_eq (by decide : 0 < 3) rfl) S4x4x4096x16 _ rfl rfl 0 (by exact before_cat3_0)
    (ix4 b h s k) (fun q hb => by
      match q, hb with
      | ⟨0, _⟩, _ => rfl
      | ⟨1, _⟩, _ => rfl
      | ⟨2, _⟩, _ => rfl
      | ⟨3, _⟩, hb => exact absurd rfl hb) rfl

theorem before_cat3_1 : (((([S4x4x4096x16, S4x4x4096x16, S4x4x4096x0] : List Shape).take 1).map
    fun s => if h : s.rank = S4x4x4096x32.rank then s.size ((3 : Fin S4x4x4096x32.rank).cast h.symm) else 0)).sum = 16 := by
  decide +kernel

theorem cat3_1 (A : FVec Ideal S4x4x4096x16 .f32) (B : FVec Ideal S4x4x4096x16 .f32) (C : FVec Ideal S4x4x4096x0 .f32) (b h : Fin 4) (s : Fin 4096) (k : Fin 16) :
    cat3 A B C (ix4 b h s ⟨16 + k.val, by omega⟩) = B (ix4 b h s k) := by
  unfold cat3
  exact concatenate_apply_piece (t := S4x4x4096x32) 3 _ _ (ix4 b h s ⟨16 + k.val, by omega⟩) 1 (by exact Nat.lt_of_lt_of_eq (by decide : 1 < 3) rfl) S4x4x4096x16 _ rfl rfl 16 (by exact before_cat3_1)
    (ix4 b h s k) (fun q hb => by
      match q, hb with
      | ⟨0, _⟩, _ => rfl
      | ⟨1, _⟩, _ => rfl
      | ⟨2, _⟩, _ => rfl
      | ⟨3, _⟩, hb => exact absurd rfl hb) rfl

theorem before_cat3k_0 : (((([S4x1x4096x16, S4x1x4096x16, S4x1x4096x0] : List Shape).take 0).map
    fun s => if h : s.rank = S4x1x4096x32.rank then s.size ((3 : Fin S4x1x4096x32.rank).cast h.symm) else 0)).sum = 0 := by
  decide +kernel

theorem cat3k_0 (A : FVec Ideal S4x1x4096x16 .f32) (B : FVec Ideal S4x1x4096x16 .f32) (C : FVec Ideal S4x1x4096x0 .f32) (b : Fin 4) (s : Fin 4096) (k : Fin 16) :
    cat3k A B C (ix4 b 0 s ⟨0 + k.val, by omega⟩) = A (ix4 b 0 s k) := by
  unfold cat3k
  exact concatenate_apply_piece (t := S4x1x4096x32) 3 _ _ (ix4 b 0 s ⟨0 + k.val, by omega⟩) 0 (by exact Nat.lt_of_lt_of_eq (by decide : 0 < 3) rfl) S4x1x4096x16 _ rfl rfl 0 (by exact before_cat3k_0)
    (ix4 b 0 s k) (fun q hb => by
      match q, hb with
      | ⟨0, _⟩, _ => rfl
      | ⟨1, _⟩, _ => rfl
      | ⟨2, _⟩, _ => rfl
      | ⟨3, _⟩, hb => exact absurd rfl hb) rfl

theorem before_cat3k_1 : (((([S4x1x4096x16, S4x1x4096x16, S4x1x4096x0] : List Shape).take 1).map
    fun s => if h : s.rank = S4x1x4096x32.rank then s.size ((3 : Fin S4x1x4096x32.rank).cast h.symm) else 0)).sum = 16 := by
  decide +kernel

theorem cat3k_1 (A : FVec Ideal S4x1x4096x16 .f32) (B : FVec Ideal S4x1x4096x16 .f32) (C : FVec Ideal S4x1x4096x0 .f32) (b : Fin 4) (s : Fin 4096) (k : Fin 16) :
    cat3k A B C (ix4 b 0 s ⟨16 + k.val, by omega⟩) = B (ix4 b 0 s k) := by
  unfold cat3k
  exact concatenate_apply_piece (t := S4x1x4096x32) 3 _ _ (ix4 b 0 s ⟨16 + k.val, by omega⟩) 1 (by exact Nat.lt_of_lt_of_eq (by decide : 1 < 3) rfl) S4x1x4096x16 _ rfl rfl 16 (by exact before_cat3k_1)
    (ix4 b 0 s k) (fun q hb => by
      match q, hb with
      | ⟨0, _⟩, _ => rfl
      | ⟨1, _⟩, _ => rfl
      | ⟨2, _⟩, _ => rfl
      | ⟨3, _⟩, hb => exact absurd rfl hb) rfl

theorem before_catL_0 : (((([S4x4x4096x64, S4x4x4096x32, S4x4x4096x32] : List Shape).take 0).map
    fun s => if h : s.rank = S4x4x4096x128.rank then s.size ((3 : Fin S4x4x4096x128.rank).cast h.symm) else 0)).sum = 0 := by
  decide +kernel

theorem catL_0 (A : FVec Ideal S4x4x4096x64 .f32) (B : FVec Ideal S4x4x4096x32 .f32) (C : FVec Ideal S4x4x4096x32 .f32) (b h : Fin 4) (s : Fin 4096) (k : Fin 64) :
    catL A B C (ix4 b h s ⟨0 + k.val, by omega⟩) = A (ix4 b h s k) := by
  unfold catL
  exact concatenate_apply_piece (t := S4x4x4096x128) 3 _ _ (ix4 b h s ⟨0 + k.val, by omega⟩) 0 (by exact Nat.lt_of_lt_of_eq (by decide : 0 < 3) rfl) S4x4x4096x64 _ rfl rfl 0 (by exact before_catL_0)
    (ix4 b h s k) (fun q hb => by
      match q, hb with
      | ⟨0, _⟩, _ => rfl
      | ⟨1, _⟩, _ => rfl
      | ⟨2, _⟩, _ => rfl
      | ⟨3, _⟩, hb => exact absurd rfl hb) rfl

theorem before_catL_1 : (((([S4x4x4096x64, S4x4x4096x32, S4x4x4096x32] : List Shape).take 1).map
    fun s => if h : s.rank = S4x4x4096x128.rank then s.size ((3 : Fin S4x4x4096x128.rank).cast h.symm) else 0)).sum = 64 := by
  decide +kernel

theorem catL_1 (A : FVec Ideal S4x4x4096x64 .f32) (B : FVec Ideal S4x4x4096x32 .f32) (C : FVec Ideal S4x4x4096x32 .f32) (b h : Fin 4) (s : Fin 4096) (k : Fin 32) :
    catL A B C (ix4 b h s ⟨64 + k.val, by omega⟩) = B (ix4 b h s k) := by
  unfold catL
  exact concatenate_apply_piece (t := S4x4x4096x128) 3 _ _ (ix4 b h s ⟨64 + k.val, by omega⟩) 1 (by exact Nat.lt_of_lt_of_eq (by decide : 1 < 3) rfl) S4x4x4096x32 _ rfl rfl 64 (by exact before_catL_1)
    (ix4 b h s k) (fun q hb => by
      match q, hb with
      | ⟨0, _⟩, _ => rfl
      | ⟨1, _⟩, _ => rfl
      | ⟨2, _⟩, _ => rfl
      | ⟨3, _⟩, hb => exact absurd rfl hb) rfl

theorem before_catL_2 : (((([S4x4x4096x64, S4x4x4096x32, S4x4x4096x32] : List Shape).take 2).map
    fun s => if h : s.rank = S4x4x4096x128.rank then s.size ((3 : Fin S4x4x4096x128.rank).cast h.symm) else 0)).sum = 96 := by
  decide +kernel

theorem catL_2 (A : FVec Ideal S4x4x4096x64 .f32) (B : FVec Ideal S4x4x4096x32 .f32) (C : FVec Ideal S4x4x4096x32 .f32) (b h : Fin 4) (s : Fin 4096) (k : Fin 32) :
    catL A B C (ix4 b h s ⟨96 + k.val, by omega⟩) = C (ix4 b h s k) := by
  unfold catL
  exact concatenate_apply_piece (t := S4x4x4096x128) 3 _ _ (ix4 b h s ⟨96 + k.val, by omega⟩) 2 (by exact Nat.lt_of_lt_of_eq (by decide : 2 < 3) rfl) S4x4x4096x32 _ rfl rfl 96 (by exact before_catL_2)
    (ix4 b h s k) (fun q hb => by
      match q, hb with
      | ⟨0, _⟩, _ => rfl
      | ⟨1, _⟩, _ => rfl
      | ⟨2, _⟩, _ => rfl
      | ⟨3, _⟩, hb => exact absurd rfl hb) rfl

/-! ## The three results -/

theorem q_eq (X : FVec Ideal S4x4096x3584 .f32) (G : FVec Ideal S2x256 .f32) (W : FVec Ideal S2x256x384 .f32) (b : Fin 4) (s : Fin 4096) (l : Fin 512) :
    qT X G W (ix3 b s l) = qOut X G W b s l := by
  unfold qT
  rw [qLay_at]
  have hn : ∀ (h : Fin 4) (e : Fin 64), extractStridedSlice S4x4x4096x64 ![0, 0, 0, 0] (qH X G W) slices_S4x4x4096x96_S4x4x4096x64_0_0_0_0 (ix4 b h s e)
      = qE X G W b s ⟨h.val * 96 + e.val, by omega⟩ := by
    intro h e
    refine Eq.trans ?_ (qH_at X G W b h s ⟨e.val, by omega⟩)
    generalize qH X G W = Y
    pointwise []
  have hr : ∀ (h : Fin 4) (e : Fin 32), extractStridedSlice S4x4x4096x32 ![0, 0, 0, 64] (qH X G W) slices_S4x4x4096x96_S4x4x4096x32_0_0_0_64 (ix4 b h s e)
      = qE X G W b s ⟨h.val * 96 + (64 + e.val), by omega⟩ := by
    intro h e
    refine Eq.trans ?_ (qH_at X G W b h s ⟨64 + e.val, by omega⟩)
    generalize qH X G W = Y
    pointwise []
  revert hr
  generalize extractStridedSlice S4x4x4096x32 ![0, 0, 0, 64] (qH X G W) slices_S4x4x4096x96_S4x4x4096x32_0_0_0_64 = R
  intro hr
  have same : ∀ {i j : Fin 384}, i.val = j.val → qE X G W b s i = qE X G W b s j := fun h => congrArg _ (Fin.ext h)
  unfold qOut
  by_cases h0 : l.val % 128 < 64
  · rw [dif_pos (show l.val % 128 < 96 by omega), dif_pos h0, dif_pos h0, hn]
  rw [dif_neg h0]
  by_cases h1 : l.val % 128 < 80
  · rw [dif_pos (show l.val % 128 < 96 by omega), dif_neg h0, dif_pos h1]
    have e : (ix4 b ⟨l.val / 128, by omega⟩ s ⟨l.val % 128 - 64, by omega⟩ : S4x4x4096x32.Idx)
        = ix4 b ⟨l.val / 128, by omega⟩ s ⟨0 + (⟨l.val % 128 - 64, by omega⟩ : Fin 16).val, by omega⟩ :=
      congrArg (ix4 b _ s) (Fin.ext (by show l.val % 128 - 64 = 0 + (l.val % 128 - 64); omega))
    rw [e]
    unfold qRot
    rw [cat3_0, qRot1_at, hr, hr]
    refine congrArg (· * qScale) (congrArg₂ (· - ·) (congrArg (· * cosAt s _) (same ?_)) (congrArg (· * sinAt s _) (same ?_)))
    · show l.val / 128 * 96 + (64 + (l.val % 128 - 64)) = l.val / 128 * 96 + l.val % 128; omega
    · show l.val / 128 * 96 + (64 + (16 + (l.val % 128 - 64))) = l.val / 128 * 96 + (l.val % 128 + 16); omega
  rw [dif_neg h1]
  by_cases h2 : l.val % 128 < 96
  · rw [dif_pos h2, dif_neg h0, dif_pos h2]
    have e : (ix4 b ⟨l.val / 128, by omega⟩ s ⟨l.val % 128 - 64, by omega⟩ : S4x4x4096x32.Idx)
        = ix4 b ⟨l.val / 128, by omega⟩ s ⟨16 + (⟨l.val % 128 - 80, by omega⟩ : Fin 16).val, by omega⟩ :=
      congrArg (ix4 b _ s) (Fin.ext (by show l.val % 128 - 64 = 16 + (l.val % 128 - 80); omega))
    rw [e]
    unfold qRot
    rw [cat3_1, qRot2_at, hr, hr]
    refine congrArg (· * qScale) (congrArg₂ (· + ·) (congrArg (· * cosAt s _) (same ?_)) (congrArg (· * sinAt s _) (same ?_)))
    · show l.val / 128 * 96 + (64 + (16 + (l.val % 128 - 80))) = l.val / 128 * 96 + l.val % 128; omega
    · show l.val / 128 * 96 + (64 + (l.val % 128 - 80)) = l.val / 128 * 96 + (l.val % 128 - 16); omega
  · rw [dif_neg h2, dif_neg h2]

theorem kRot_eq (X : FVec Ideal S4x4096x3584 .f32) (b : Fin 4) (s : Fin 4096) (j : Fin 32) :
    kRot (kS X) (ix4 b 0 s j) = krE X b s j := by
  have same : ∀ {i k : Fin 3584}, i.val = k.val → X (ix3 b s i) = X (ix3 b s k) := fun h => congrArg (fun z => X (ix3 b s z)) (Fin.ext h)
  unfold krE kRot
  by_cases h : j.val < 16
  · have e : (ix4 b 0 s j : S4x1x4096x32.Idx) = ix4 b 0 s ⟨0 + (⟨j.val, h⟩ : Fin 16).val, by omega⟩ :=
      congrArg (ix4 b 0 s) (Fin.ext (by show j.val = 0 + j.val; omega))
    rw [e, cat3k_0, kRot1_at, kS_at, kS_at, dif_pos h]
    refine congrArg₂ (· - ·) (congrArg (· * cosAt s _) (same ?_)) (congrArg (· * sinAt s _) (same ?_))
    · rfl
    · show 1408 + (16 + j.val) = 1408 + (j.val + 16); omega
  · have e : (ix4 b 0 s j : S4x1x4096x32.Idx) = ix4 b 0 s ⟨16 + (⟨j.val - 16, by omega⟩ : Fin 16).val, by omega⟩ :=
      congrArg (ix4 b 0 s) (Fin.ext (by show j.val = 16 + (j.val - 16); omega))
    rw [e, cat3k_1, kRot2_at, kS_at, kS_at, dif_neg h]
    refine congrArg₂ (· + ·) (congrArg (· * cosAt s _) (same ?_)) (congrArg (· * sinAt s _) (same ?_))
    · show 1408 + (16 + (j.val - 16)) = 1408 + j.val; omega
    · rfl

theorem k_eq (X : FVec Ideal S4x4096x3584 .f32) (U : FVec Ideal S2x128 .f32) (W : FVec Ideal S2x128x512 .f32) (b : Fin 4) (s : Fin 4096) (l : Fin 512) :
    kT X U W (ix3 b s l) = kOut X U W b s l := by
  unfold kT
  unfold kOut
  by_cases h0 : l.val % 128 < 64
  · rw [lay_place _ b s l ⟨0 + (⟨l.val % 128, h0⟩ : Fin 64).val, by omega⟩ (by simp), catL_0, if_pos h0]
    refine Eq.trans ?_ ((kvH_at X U W b ⟨l.val / 128, by omega⟩ s ⟨l.val % 128, by omega⟩).trans ?_)
    · generalize kvH X U W = Y
      pointwise []
    · refine Finset.sum_congr rfl fun k _ => congrArg (fun z => kvE X U b s k * W (ix3 0 k z)) (Fin.ext ?_)
      show l.val / 128 * 128 + l.val % 128 = l.val
      omega
  rw [if_neg h0]
  by_cases h1 : l.val % 128 < 96
  · rw [lay_place _ b s l ⟨64 + (⟨l.val % 128 - 64, by omega⟩ : Fin 32).val, by omega⟩ (by show l.val % 128 = 64 + (l.val % 128 - 64); omega), catL_1, dif_pos h1]
    refine Eq.trans ?_ (kRot_eq X b s ⟨l.val % 128 - 64, by omega⟩)
    generalize kRot (kS X) = Y
    pointwise []
  · rw [lay_place _ b s l ⟨96 + (⟨l.val % 128 - 96, by omega⟩ : Fin 32).val, by omega⟩ (by show l.val % 128 = 96 + (l.val % 128 - 96); omega), catL_2, dif_neg h1]
    pointwise []

theorem v_eq (X : FVec Ideal S4x4096x3584 .f32) (U : FVec Ideal S2x128 .f32) (W : FVec Ideal S2x128x512 .f32) (b : Fin 4) (s : Fin 4096) (l : Fin 512) :
    vT X U W (ix3 b s l) = vOut X U W b s l := by
  unfold vT
  rw [lay_at]
  unfold vOut
  have hv : ∀ (h : Fin 4) (e : Fin 64), kvH X U W (ix4 b h s ⟨64 + e.val, by omega⟩) = ∑ k : Fin 128, kvE X U b s k * W (ix3 0 k ⟨h.val * 128 + (64 + e.val), by omega⟩) :=
    fun h e => kvH_at X U W b h s ⟨64 + e.val, by omega⟩
  revert hv
  generalize kvH X U W = Y
  intro hv
  by_cases h0 : l.val % 128 < 64
  · rw [dif_pos h0]
    refine Eq.trans ?_ ((hv ⟨l.val / 128, by omega⟩ ⟨l.val % 128, h0⟩).trans ?_)
    · pointwise []
      rw [dif_pos h0]
    · refine Finset.sum_congr rfl fun k _ => congrArg (fun z => kvE X U b s k * W (ix3 0 k z)) (Fin.ext ?_)
      show l.val / 128 * 128 + (64 + l.val % 128) = l.val + 64
      omega
  · rw [dif_neg h0]
    pointwise []
    rw [dif_neg h0]

theorem triple_eq (y : S4x4096x512.Idx) : y = ix3 (y 0 : Fin 4) (y 1 : Fin 4096) (y 2 : Fin 512) := by
  funext a
  match a with
  | ⟨0, _⟩ => rfl
  | ⟨1, _⟩ => rfl
  | ⟨2, _⟩ => rfl

theorem qT_eq (X : FVec Ideal S4x4096x3584 .f32) (G : FVec Ideal S2x256 .f32) (W : FVec Ideal S2x256x384 .f32) :
    qT X G W = fun i : S4x4096x512.Idx => qOut X G W (i 0) (i 1) (i 2) := by
  funext y
  exact (congrArg _ (triple_eq y)).trans (q_eq X G W (y 0) (y 1) (y 2))

theorem kT_eq (X : FVec Ideal S4x4096x3584 .f32) (U : FVec Ideal S2x128 .f32) (W : FVec Ideal S2x128x512 .f32) :
    kT X U W = fun i : S4x4096x512.Idx => kOut X U W (i 0) (i 1) (i 2) := by
  funext y
  exact (congrArg _ (triple_eq y)).trans (k_eq X U W (y 0) (y 1) (y 2))

theorem vT_eq (X : FVec Ideal S4x4096x3584 .f32) (U : FVec Ideal S2x128 .f32) (W : FVec Ideal S2x128x512 .f32) :
    vT X U W = fun i : S4x4096x512.Idx => vOut X U W (i 0) (i 1) (i 2) := by
  funext y
  exact (congrArg _ (triple_eq y)).trans (v_eq X U W (y 0) (y 1) (y 2))

/-! ## The run's results as these terms -/

theorem res0_of (m : (ℓ : Loc nD τ sig) → Buf (Elt Ideal) ℓ) (c : Dev nD) {X : FVec Ideal S4x4096x3584 .f32} {G : FVec Ideal S2x256 .f32}
    {W : FVec Ideal S2x256x384 .f32} (hX : m ((c.tc : Thread nD τ).loc main_arg0) = X) (hG : m ((c.tc : Thread nD τ).loc main_arg1) = G)
    (hW : m ((c.tc : Thread nD τ).loc main_arg3) = W) : Value.res_main_v133 m c = qT X G W := by
  subst hX hG hW
  unfold Value.res_main_v133
  rfl

theorem res1_of (m : (ℓ : Loc nD τ sig) → Buf (Elt Ideal) ℓ) (c : Dev nD) {X : FVec Ideal S4x4096x3584 .f32} {U : FVec Ideal S2x128 .f32}
    {W : FVec Ideal S2x128x512 .f32} (hX : m ((c.tc : Thread nD τ).loc main_arg0) = X) (hU : m ((c.tc : Thread nD τ).loc main_arg2) = U)
    (hW : m ((c.tc : Thread nD τ).loc main_arg4) = W) : Value.res_main_v136 m c = kT X U W := by
  subst hX hU hW
  unfold Value.res_main_v136
  rfl

end Cert.PrepRefIdeal.Own

end
-- ==== Proof.PrepRun.lean ====
/-
The claims about the preparation of the latent attention, each proved: both programs run, and they leave the same arrays.
-/
module

public import proofs.«01_k».proof.Defs
public import proofs.«01_k».proof.Proof.Gen.Prep.Frame
public import proofs.«01_k».proof.Proof.Gen.PrepIdeal.Frame
public import proofs.«01_k».proof.Proof.PrepRef
public import Idealize.ShloMosaic.Lib.Claim
public import Idealize.ShloMosaic.Lib.Quiescent

@[expose] public section

set_option maxRecDepth 16384

noncomputable section

namespace Cert.Proof.AttentionInputs

open Idealize.ShloMosaic Idealize.SL.Sem

/-- The word-for-word program runs and leaves its arguments. -/
theorem frame_bits : Cert.quiescent_Prep (hPrep := Cert.Prep.Gen.facts) := fun m ρ _ => Cert.Prep.Gen.frame m ρ

/-- The same of the idealized program. -/
theorem frame_ideal : Cert.quiescent_PrepIdeal (hPrepIdeal := Cert.PrepIdeal.Gen.facts) := fun m ρ _ => Cert.PrepIdeal.Gen.frame m ρ

/-- The same of the reference. -/
theorem frame_ref : Cert.quiescent_PrepRefIdeal (hPrepRefIdeal := Cert.PrepRefIdeal.Gen.facts) := by
  intro m g _
  hlo_run
  · exact fun _ => ⟨trivial, trivial, trivial, trivial, trivial⟩
  · exact sem_eq_zero_of_no_sems (sig := Cert.PrepRefIdeal.sig) rfl _

set_option maxHeartbeats 8000000 in
/-- The idealized call and the reference leave the same three arrays. -/
theorem algebraic : Cert.algebraic_PrepIdeal_PrepRefIdeal (hPrepIdeal := Cert.PrepIdeal.Gen.facts)
    (hPrepRefIdeal := Cert.PrepRefIdeal.Gen.facts) := by
  intro m g m' g' hpre hagree
  refine ⟨fun c => (Cert.PrepIdeal.Gen.dats m 0 c).arrAt 14 (Cert.PrepIdeal.cfgs 0).N,
    fun c => (Cert.PrepIdeal.Gen.dats m 0 c).arrAt 15 (Cert.PrepIdeal.cfgs 0).N,
    fun c => (Cert.PrepIdeal.Gen.dats m 0 c).arrAt 16 (Cert.PrepIdeal.cfgs 0).N, ?_, ?_⟩
  · refine θ_run_mono (θ_run_and (Cert.PrepIdeal.Gen.run_main m g) (Cert.PrepIdeal.Gen.unchanged m g)) ?_
    intro r h c
    exact ⟨(h.1 c).1 14, (h.1 c).1 15, (h.1 c).1 16, h.2 c⟩
  · run_from Cert.PrepRefIdeal.Value.run _ _
    · obtain ⟨h0, h1, h2, h3, h4⟩ := hagree c
      exact (Cert.PrepRefIdeal.Own.res0_of m' c h0 h1 h3).trans
        ((Cert.PrepRefIdeal.Own.qT_eq _ _ _).trans (Cert.PrepIdeal.Step.final14 m c).symm)
    · obtain ⟨h0, h1, h2, h3, h4⟩ := hagree c
      exact (Cert.PrepRefIdeal.Own.res1_of m' c h0 h2 h4).trans
        ((Cert.PrepRefIdeal.Own.kT_eq _ _ _).trans (Cert.PrepIdeal.Step.final15 m c).symm)
    · obtain ⟨h0, h1, h2, h3, h4⟩ := hagree c
      refine Eq.trans ?_ ((Cert.PrepRefIdeal.Own.vT_eq _ _ _).trans (Cert.PrepIdeal.Step.final16 m c).symm)
      exact congrArg₂ (Cert.PrepRefIdeal.Own.vT (Cert.PrepIdeal.Step.xArr m c)) h2 h4

end Cert.Proof.AttentionInputs

end
-- ==== Proof.lean ====
module

public import proofs.«01_k».proof.Defs
public import proofs.«01_k».proof.Proof.AttnRun
public import proofs.«01_k».proof.Proof.FfnRun
public import proofs.«01_k».proof.Proof.InprojRun
public import proofs.«01_k».proof.Proof.NormRun
public import proofs.«01_k».proof.Proof.OutprojRun
public import proofs.«01_k».proof.Proof.PrepRun

@[expose] public section

noncomputable section

namespace Cert.Proof

open Idealize.ShloMosaic Idealize.SL.Sem

theorem claim : Cert.Claim := ⟨Cert.Attn.Gen.facts, Cert.AttnIdeal.Gen.facts, Cert.AttnRefIdeal.Own.facts,
  Cert.Ffn.Gen.facts, Cert.FfnIdeal.Gen.facts, Cert.FfnRefIdeal.Gen.facts,
  Cert.Inproj.Gen.facts, Cert.InprojIdeal.Gen.facts, Cert.InprojRefIdeal.Gen.facts,
  Cert.Norm.Gen.facts, Cert.NormIdeal.Gen.facts, Cert.NormRefIdeal.Gen.facts,
  Cert.Outproj.Gen.facts, Cert.OutprojIdeal.Gen.facts, Cert.OutprojRefIdeal.Gen.facts,
  Cert.Prep.Gen.facts, Cert.PrepIdeal.Gen.facts, Cert.PrepRefIdeal.Gen.facts, Cert.AttnRefIdeal.Own.preFacts, Cert.OutprojRefIdeal.Own.preFacts,
  Attention.frame_bits, Attention.frame_ideal, fun m ρ _ => Attention.frame_ideal m ρ trivial,
  Attention.frame_ref, fun m ρ _ => Attention.frame_ref m ρ trivial,
  Experts.frame_bits, Experts.frame_ideal, Experts.frame_ref,
  Projection.frame_bits, Projection.frame_ideal, Projection.frame_ref,
  FinalNorm.frame_bits, FinalNorm.frame_ideal, FinalNorm.frame_ref,
  OutputProjection.frame_bits, OutputProjection.frame_ideal, fun m ρ _ => OutputProjection.frame_ideal m ρ trivial,
  OutputProjection.frame_ref, fun m ρ _ => OutputProjection.frame_ref m ρ trivial,
  AttentionInputs.frame_bits, AttentionInputs.frame_ideal, AttentionInputs.frame_ref,
  trivial, Attention.algebraic, trivial, Experts.algebraic, trivial, Projection.algebraic, trivial, FinalNorm.algebraic,
  trivial, OutputProjection.algebraic, trivial, AttentionInputs.algebraic⟩

end Cert.Proof

end
